-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)) (v2 : (c : Dev Cert.KernelIdeal.nD) → Buf (Elt Ideal) ((c.tc : Thread Cert.KernelIdeal.nD Cert.KernelIdeal.τ).loc Cert.KernelIdeal.main_v54_2)) (v3 : (c : Dev Cert.KernelIdeal.nD) → Buf (Elt Ideal) ((c.tc : Thread Cert.KernelIdeal.nD Cert.KernelIdeal.τ).loc Cert.KernelIdeal.main_v54_3)) (v4 : (c : Dev Cert.KernelIdeal.nD) → Buf (Elt Ideal) ((c.tc : Thread Cert.KernelIdeal.nD Cert.KernelIdeal.τ).loc Cert.KernelIdeal.main_v54_4)) (v5 : (c : Dev Cert.KernelIdeal.nD) → Buf (Elt Ideal) ((c.tc : Thread Cert.KernelIdeal.nD Cert.KernelIdeal.τ).loc Cert.KernelIdeal.main_v54_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_v54_2) = v2 c
          ∧ r.2.mem ((c.tc : Thread Cert.KernelIdeal.nD Cert.KernelIdeal.τ).loc Cert.KernelIdeal.main_v54_3) = v3 c
          ∧ r.2.mem ((c.tc : Thread Cert.KernelIdeal.nD Cert.KernelIdeal.τ).loc Cert.KernelIdeal.main_v54_4) = v4 c
          ∧ r.2.mem ((c.tc : Thread Cert.KernelIdeal.nD Cert.KernelIdeal.τ).loc Cert.KernelIdeal.main_v54_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v149) = v2 c
          ∧ r.2.mem ((c.tc : Thread Cert.ReferenceIdeal.nD Cert.ReferenceIdeal.τ).loc Cert.ReferenceIdeal.main_v141) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_v101) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)) (v4 : (c : Dev Cert.Kernel6Ideal.nD) → Buf (Elt Ideal) ((c.tc : Thread Cert.Kernel6Ideal.nD Cert.Kernel6Ideal.τ).loc Cert.Kernel6Ideal.main_v2_4)) (v5 : (c : Dev Cert.Kernel6Ideal.nD) → Buf (Elt Ideal) ((c.tc : Thread Cert.Kernel6Ideal.nD Cert.Kernel6Ideal.τ).loc Cert.Kernel6Ideal.main_v2_5)) (v6 : (c : Dev Cert.Kernel6Ideal.nD) → Buf (Elt Ideal) ((c.tc : Thread Cert.Kernel6Ideal.nD Cert.Kernel6Ideal.τ).loc Cert.Kernel6Ideal.main_v2_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_v2_4) = v4 c
          ∧ r.2.mem ((c.tc : Thread Cert.Kernel6Ideal.nD Cert.Kernel6Ideal.τ).loc Cert.Kernel6Ideal.main_v2_5) = v5 c
          ∧ r.2.mem ((c.tc : Thread Cert.Kernel6Ideal.nD Cert.Kernel6Ideal.τ).loc Cert.Kernel6Ideal.main_v2_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_v82) = v1 c
          ∧ r.2.mem ((c.tc : Thread Cert.Reference6Ideal.nD Cert.Reference6Ideal.τ).loc Cert.Reference6Ideal.main_v83) = v2 c
          ∧ r.2.mem ((c.tc : Thread Cert.Reference6Ideal.nD Cert.Reference6Ideal.τ).loc Cert.Reference6Ideal.main_v84) = v3 c
          ∧ r.2.mem ((c.tc : Thread Cert.Reference6Ideal.nD Cert.Reference6Ideal.τ).loc Cert.Reference6Ideal.main_v85) = v4 c
          ∧ r.2.mem ((c.tc : Thread Cert.Reference6Ideal.nD Cert.Reference6Ideal.τ).loc Cert.Reference6Ideal.main_v86) = v5 c
          ∧ r.2.mem ((c.tc : Thread Cert.Reference6Ideal.nD Cert.Reference6Ideal.τ).loc Cert.Reference6Ideal.main_v88) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)) (v4 : (c : Dev Cert.Kernel7Ideal.nD) → Buf (Elt Ideal) ((c.tc : Thread Cert.Kernel7Ideal.nD Cert.Kernel7Ideal.τ).loc Cert.Kernel7Ideal.main_v2_4)) (v5 : (c : Dev Cert.Kernel7Ideal.nD) → Buf (Elt Ideal) ((c.tc : Thread Cert.Kernel7Ideal.nD Cert.Kernel7Ideal.τ).loc Cert.Kernel7Ideal.main_v2_5)) (v6 : (c : Dev Cert.Kernel7Ideal.nD) → Buf (Elt Ideal) ((c.tc : Thread Cert.Kernel7Ideal.nD Cert.Kernel7Ideal.τ).loc Cert.Kernel7Ideal.main_v2_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_v2_4) = v4 c
          ∧ r.2.mem ((c.tc : Thread Cert.Kernel7Ideal.nD Cert.Kernel7Ideal.τ).loc Cert.Kernel7Ideal.main_v2_5) = v5 c
          ∧ r.2.mem ((c.tc : Thread Cert.Kernel7Ideal.nD Cert.Kernel7Ideal.τ).loc Cert.Kernel7Ideal.main_v2_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v84) = v0 c
          ∧ r.2.mem ((c.tc : Thread Cert.Reference7Ideal.nD Cert.Reference7Ideal.τ).loc Cert.Reference7Ideal.main_v85) = v1 c
          ∧ r.2.mem ((c.tc : Thread Cert.Reference7Ideal.nD Cert.Reference7Ideal.τ).loc Cert.Reference7Ideal.main_v86) = v2 c
          ∧ r.2.mem ((c.tc : Thread Cert.Reference7Ideal.nD Cert.Reference7Ideal.τ).loc Cert.Reference7Ideal.main_v87) = v3 c
          ∧ r.2.mem ((c.tc : Thread Cert.Reference7Ideal.nD Cert.Reference7Ideal.τ).loc Cert.Reference7Ideal.main_v88) = v4 c
          ∧ r.2.mem ((c.tc : Thread Cert.Reference7Ideal.nD Cert.Reference7Ideal.τ).loc Cert.Reference7Ideal.main_v83) = v5 c
          ∧ r.2.mem ((c.tc : Thread Cert.Reference7Ideal.nD Cert.Reference7Ideal.τ).loc Cert.Reference7Ideal.main_v94) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_v25) = v1 c
          ∧ r.2.mem ((c.tc : Thread Cert.Reference11Ideal.nD Cert.Reference11Ideal.τ).loc Cert.Reference11Ideal.main_v26) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v24) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v26) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v24) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v29) = v1 c
          ∧ r.2.mem ((c.tc : Thread Cert.Reference14Ideal.nD Cert.Reference14Ideal.τ).loc Cert.Reference14Ideal.main_v30) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1024 : Shape := ⟨2, ![8192, 1024]⟩
abbrev S8x1024 : Shape := ⟨2, ![8, 1024]⟩
abbrev S8192x1408 : Shape := ⟨2, ![8192, 1408]⟩
abbrev S8x5632 : Shape := ⟨2, ![8, 5632]⟩
abbrev S2816x1024 : Shape := ⟨2, ![2816, 1024]⟩
abbrev S1024x5632 : Shape := ⟨2, ![1024, 5632]⟩
abbrev S_ : Shape := ⟨0, ![]⟩
abbrev S1 : Shape := ⟨1, ![1]⟩
abbrev S5 : Shape := ⟨1, ![5]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8192x1408 : S_.BroadcastsInDim S8192x1408 (![] : Fin 0 → Fin S8192x1408.rank)
  reducesTo_S8192x1408_S_d0_1 : S8192x1408.ReducesTo [0, 1] S_
  bcast_S_S8x5632 : S_.BroadcastsInDim S8x5632 (![] : Fin 0 → Fin S8x5632.rank)
  reducesTo_S8x5632_S_d0_1 : S8x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1 : S_.BroadcastsInDim S1 (![] : Fin 0 → Fin S1.rank)
  concatenates_S1_S1_S1_S1_S1_S5_d0 : Shape.Concatenates [S1, S1, S1, S1, S1] S5 0

variable [Facts]

def fn_part1 {F : FTy → Type} [FloatOps F] (main_arg5 : FVec F S2816x1024 .f32) (main_v3 : IVec S_ 1) (main_v7 : IVec S_ 1) (main_v11 : IVec S_ 1) (main_v15 : IVec S_ 1) : IVec S5 1 :=
  let main_v16 : FVec F S2816x1024 .f32 := subf main_arg5 main_arg5
  let main_cst_6 : FVec F S_ .f32 := constant S_ .f32 0x00000000#32
  let main_v17 : FVec F S2816x1024 .f32 := broadcastInDim S2816x1024 ![] bcast_S_S2816x1024 main_cst_6
  let main_v18 : IVec S2816x1024 1 := cmpf .oeq main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : IVec S1 1 := broadcastInDim S1 ![] bcast_S_S1 main_v3
  let main_v21 : IVec S1 1 := broadcastInDim S1 ![] bcast_S_S1 main_v7
  let main_v22 : IVec S1 1 := broadcastInDim S1 ![] bcast_S_S1 main_v11
  let main_v23 : IVec S1 1 := broadcastInDim S1 ![] bcast_S_S1 main_v15
  let main_v24 : IVec S1 1 := broadcastInDim S1 ![] bcast_S_S1 main_v19
  let main_v25 : IVec S5 1 := concatenate S5 0 [⟨S1, main_v20⟩, ⟨S1, main_v21⟩, ⟨S1, main_v22⟩, ⟨S1, main_v23⟩, ⟨S1, main_v24⟩] concatenates_S1_S1_S1_S1_S1_S5_d0
  main_v25

def fn {F : FTy → Type} [FloatOps F] (main_arg0 : FVec F S8192x1024 .f32) (main_arg1 : FVec F S8x1024 .f32) (main_arg2 : FVec F S8192x1408 .f32) (main_arg3 : FVec F S8192x1408 .f32) (main_arg4 : FVec F S8x5632 .f32) (main_arg5 : FVec F S2816x1024 .f32) (main_arg6 : FVec F S1024x5632 .f32) : IVec S5 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x1024 .f32 := subf main_arg1 main_arg1
  let main_cst_0 : FVec F S_ .f32 := constant S_ .f32 0x00000000#32
  let main_v5 : FVec F S8x1024 .f32 := broadcastInDim S8x1024 ![] bcast_S_S8x1024 main_cst_0
  let main_v6 : IVec S8x1024 1 := cmpf .oeq main_v4 main_v5
  let main_c_1 : IVec S_ 1 := constantI S_ 1 1#1
  let main_v7 : IVec S_ 1 := (fun x v => Host.reduce IntOp.andi x v reducesTo_S8x1024_S_d0_1 h_S_) main_v6 main_c_1
  let main_v8 : FVec F S8192x1408 .f32 := subf main_arg3 main_arg3
  let main_cst_2 : FVec F S_ .f32 := constant S_ .f32 0x00000000#32
  let main_v9 : FVec F S8192x1408 .f32 := broadcastInDim S8192x1408 ![] bcast_S_S8192x1408 main_cst_2
  let main_v10 : IVec S8192x1408 1 := cmpf .oeq main_v8 main_v9
  let main_c_3 : IVec S_ 1 := constantI S_ 1 1#1
  let main_v11 : IVec S_ 1 := (fun x v => Host.reduce IntOp.andi x v reducesTo_S8192x1408_S_d0_1 h_S_) main_v10 main_c_3
  let main_v12 : FVec F S8x5632 .f32 := subf main_arg4 main_arg4
  let main_cst_4 : FVec F S_ .f32 := constant S_ .f32 0x00000000#32
  let main_v13 : FVec F S8x5632 .f32 := broadcastInDim S8x5632 ![] bcast_S_S8x5632 main_cst_4
  let main_v14 : IVec S8x5632 1 := cmpf .oeq main_v12 main_v13
  let main_c_5 : IVec S_ 1 := constantI S_ 1 1#1
  let main_v15 : IVec S_ 1 := (fun x v => Host.reduce IntOp.andi x v reducesTo_S8x5632_S_d0_1 h_S_) main_v14 main_c_5
  fn_part1 (F := F) main_arg5 main_v3 main_v7 main_v11 main_v15
-- ==== Kernel.lean ====
abbrev S8192x1024 : Shape := ⟨2, ![8192, 1024]⟩
abbrev S8x1024 : Shape := ⟨2, ![8, 1024]⟩
abbrev S8192x1408 : Shape := ⟨2, ![8192, 1408]⟩
abbrev S8x5632 : Shape := ⟨2, ![8, 5632]⟩
abbrev S2816x1024 : Shape := ⟨2, ![2816, 1024]⟩
abbrev S1024x5632 : Shape := ⟨2, ![1024, 5632]⟩
abbrev S8x1408 : Shape := ⟨2, ![8, 1408]⟩
abbrev S1x1408 : Shape := ⟨2, ![1, 1408]⟩
abbrev S1408 : Shape := ⟨1, ![1408]⟩
abbrev S_ : Shape := ⟨0, ![]⟩
abbrev S8191x1408 : Shape := ⟨2, ![8191, 1408]⟩
abbrev S2x1408 : Shape := ⟨2, ![2, 1408]⟩
abbrev S8190x1408 : Shape := ⟨2, ![8190, 1408]⟩
abbrev S512x1024 : Shape := ⟨2, ![512, 1024]⟩
abbrev S512x1408 : Shape := ⟨2, ![512, 1408]⟩
abbrev S1408x1024 : Shape := ⟨2, ![1408, 1024]⟩
abbrev S1024x1408 : Shape := ⟨2, ![1024, 1408]⟩
abbrev S1x1024 : Shape := ⟨2, ![1, 1024]⟩
abbrev S520x1408 : Shape := ⟨2, ![520, 1408]⟩

abbrev nBuf : Space → Nat
  | .hbm => 71
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8192x1408, .f32⟩
  | .hbm, ⟨3, _⟩ => ⟨S8192x1408, .f32⟩
  | .hbm, ⟨4, _⟩ => ⟨S8x5632, .f32⟩
  | .hbm, ⟨5, _⟩ => ⟨S2816x1024, .f32⟩
  | .hbm, ⟨6, _⟩ => ⟨S1024x5632, .f32⟩
  | .hbm, ⟨7, _⟩ => ⟨S8x1408, .f32⟩
  | .hbm, ⟨8, _⟩ => ⟨S1x1408, .f32⟩
  | .hbm, ⟨9, _⟩ => ⟨S1408, .f32⟩
  | .hbm, ⟨10, _⟩ => ⟨S1x1408, .f32⟩
  | .hbm, ⟨11, _⟩ => ⟨S8192x1408, .f32⟩
  | .hbm, ⟨12, _⟩ => ⟨S8192x1408, .f32⟩
  | .hbm, ⟨13, _⟩ => ⟨S1x1408, .f32⟩
  | .hbm, ⟨14, _⟩ => ⟨S1408, .f32⟩
  | .hbm, ⟨15, _⟩ => ⟨S_, .f32⟩
  | .hbm, ⟨16, _⟩ => ⟨S1x1408, .f32⟩
  | .hbm, ⟨17, _⟩ => ⟨S8191x1408, .f32⟩
  | .hbm, ⟨18, _⟩ => ⟨S8192x1408, .f32⟩
  | .hbm, ⟨19, _⟩ => ⟨S1x1408, .f32⟩
  | .hbm, ⟨20, _⟩ => ⟨S8192x1408, .f32⟩
  | .hbm, ⟨21, _⟩ => ⟨S8192x1408, .f32⟩
  | .hbm, ⟨22, _⟩ => ⟨S8192x1408, .f32⟩
  | .hbm, ⟨23, _⟩ => ⟨S1x1408, .f32⟩
  | .hbm, ⟨24, _⟩ => ⟨S1408, .f32⟩
  | .hbm, ⟨25, _⟩ => ⟨S_, .f32⟩
  | .hbm, ⟨26, _⟩ => ⟨S2x1408, .f32⟩
  | .hbm, ⟨27, _⟩ => ⟨S8190x1408, .f32⟩
  | .hbm, ⟨28, _⟩ => ⟨S8192x1408, .f32⟩
  | .hbm, ⟨29, _⟩ => ⟨S1x1408, .f32⟩
  | .hbm, ⟨30, _⟩ => ⟨S8192x1408, .f32⟩
  | .hbm, ⟨31, _⟩ => ⟨S8192x1408, .f32⟩
  | .hbm, ⟨32, _⟩ => ⟨S8192x1408, .f32⟩
  | .hbm, ⟨33, _⟩ => ⟨S8192x1408, .bf16⟩
  | .hbm, ⟨34, _⟩ => ⟨S8x1408, .f32⟩
  | .hbm, ⟨35, _⟩ => ⟨S1x1408, .f32⟩
  | .hbm, ⟨36, _⟩ => ⟨S1408, .f32⟩
  | .hbm, ⟨37, _⟩ => ⟨S1x1408, .f32⟩
  | .hbm, ⟨38, _⟩ => ⟨S8192x1408, .f32⟩
  | .hbm, ⟨39, _⟩ => ⟨S8192x1408, .f32⟩
  | .hbm, ⟨40, _⟩ => ⟨S1x1408, .f32⟩
  | .hbm, ⟨41, _⟩ => ⟨S1408, .f32⟩
  | .hbm, ⟨42, _⟩ => ⟨S_, .f32⟩
  | .hbm, ⟨43, _⟩ => ⟨S1x1408, .f32⟩
  | .hbm, ⟨44, _⟩ => ⟨S8191x1408, .f32⟩
  | .hbm, ⟨45, _⟩ => ⟨S8192x1408, .f32⟩
  | .hbm, ⟨46, _⟩ => ⟨S1x1408, .f32⟩
  | .hbm, ⟨47, _⟩ => ⟨S8192x1408, .f32⟩
  | .hbm, ⟨48, _⟩ => ⟨S8192x1408, .f32⟩
  | .hbm, ⟨49, _⟩ => ⟨S8192x1408, .f32⟩
  | .hbm, ⟨50, _⟩ => ⟨S1x1408, .f32⟩
  | .hbm, ⟨51, _⟩ => ⟨S1408, .f32⟩
  | .hbm, ⟨52, _⟩ => ⟨S_, .f32⟩
  | .hbm, ⟨53, _⟩ => ⟨S2x1408, .f32⟩
  | .hbm, ⟨54, _⟩ => ⟨S8190x1408, .f32⟩
  | .hbm, ⟨55, _⟩ => ⟨S8192x1408, .f32⟩
  | .hbm, ⟨56, _⟩ => ⟨S1x1408, .f32⟩
  | .hbm, ⟨57, _⟩ => ⟨S8192x1408, .f32⟩
  | .hbm, ⟨58, _⟩ => ⟨S8192x1408, .f32⟩
  | .hbm, ⟨59, _⟩ => ⟨S8192x1408, .f32⟩
  | .hbm, ⟨60, _⟩ => ⟨S8192x1408, .bf16⟩
  | .hbm, ⟨61, _⟩ => ⟨S8192x1408, .bf16⟩
  | .hbm, ⟨62, _⟩ => ⟨S8192x1408, .bf16⟩
  | .hbm, ⟨63, _⟩ => ⟨S2816x1024, .bf16⟩
  | .hbm, ⟨64, _⟩ => ⟨S1024x5632, .bf16⟩
  | .hbm, ⟨65, _⟩ => ⟨S8192x1024, .bf16⟩
  | .hbm, ⟨66, _⟩ => ⟨S8192x1408, .bf16⟩
  | .hbm, ⟨67, _⟩ => ⟨S8192x1408, .bf16⟩
  | .hbm, ⟨68, _⟩ => ⟨S8192x1024, .f32⟩
  | .hbm, ⟨69, _⟩ => ⟨S8x1408, .f32⟩
  | .hbm, ⟨70, _⟩ => ⟨S8x1408, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S8x1408, .f32⟩
  | .local _ .vmem, ⟨12, _⟩ => ⟨S8x1408, .f32⟩
  | .local _ .vmem, ⟨13, _⟩ => ⟨S1408x1024, .bf16⟩
  | .local _ .vmem, ⟨14, _⟩ => ⟨S1024x1408, .bf16⟩
  | .local _ .vmem, ⟨15, _⟩ => ⟨S1024x1408, .bf16⟩
  | .local _ .vmem, ⟨16, _⟩ => ⟨S512x1024, .bf16⟩
  | .local _ .vmem, ⟨17, _⟩ => ⟨S512x1024, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1024, .f32⟩
  | .local _ .vmem, ⟨23, _⟩ => ⟨S512x1024, .f32⟩
  | .local _ .vmem, ⟨24, _⟩ => ⟨S8x1408, .f32⟩
  | .local _ .vmem, ⟨25, _⟩ => ⟨S8x1408, .f32⟩
  | .local _ .vmem, ⟨26, _⟩ => ⟨S8x1408, .f32⟩
  | .local _ .vmem, ⟨27, _⟩ => ⟨S8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54_0 : Ref sig .tc := ⟨.hbm, 65, rfl⟩
abbrev main_v54_1 : Ref sig .tc := ⟨.hbm, 66, rfl⟩
abbrev main_v54_2 : Ref sig .tc := ⟨.hbm, 67, rfl⟩
abbrev main_v54_3 : Ref sig .tc := ⟨.hbm, 68, rfl⟩
abbrev main_v54_4 : Ref sig .tc := ⟨.hbm, 69, rfl⟩
abbrev main_v54_5 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1408x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1408 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x1408 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1408 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S8192x1024 : Shape := ⟨2, ![8192, 1024]⟩
abbrev S8x1024 : Shape := ⟨2, ![8, 1024]⟩
abbrev S8192x1408 : Shape := ⟨2, ![8192, 1408]⟩
abbrev S8x5632 : Shape := ⟨2, ![8, 5632]⟩
abbrev S2816x1024 : Shape := ⟨2, ![2816, 1024]⟩
abbrev S1024x5632 : Shape := ⟨2, ![1024, 5632]⟩
abbrev S1024x1408 : Shape := ⟨2, ![1024, 1408]⟩
abbrev S1408x1024 : Shape := ⟨2, ![1408, 1024]⟩
abbrev S8x1408 : Shape := ⟨2, ![8, 1408]⟩
abbrev S1x1024 : Shape := ⟨2, ![1, 1024]⟩
abbrev S1024 : Shape := ⟨1, ![1024]⟩
abbrev S1x1408 : Shape := ⟨2, ![1, 1408]⟩
abbrev S1408 : Shape := ⟨1, ![1408]⟩
abbrev S_ : Shape := ⟨0, ![]⟩
abbrev S8191x1408 : Shape := ⟨2, ![8191, 1408]⟩
abbrev S2x1408 : Shape := ⟨2, ![2, 1408]⟩
abbrev S8190x1408 : Shape := ⟨2, ![8190, 1408]⟩

abbrev nBuf : Space → Nat
  | .hbm => 202
  | .vmem => 0
  | .smem => 0
  | _ => 0

abbrev hbmTy0_0 (i : Nat) : BufTy := match i % 128 with
  | 0 => ⟨S8192x1024, .f32⟩
  | 1 => ⟨S8x1024, .f32⟩
  | 2 => ⟨S8192x1408, .f32⟩
  | 3 => ⟨S8192x1408, .f32⟩
  | 4 => ⟨S8x5632, .f32⟩
  | 5 => ⟨S2816x1024, .f32⟩
  | 6 => ⟨S1024x5632, .f32⟩
  | 7 => ⟨S1024x1408, .f32⟩
  | 8 => ⟨S1024x1408, .f32⟩
  | 9 => ⟨S1408x1024, .f32⟩
  | 10 => ⟨S8x1408, .f32⟩
  | 11 => ⟨S8x1408, .f32⟩
  | 12 => ⟨S1x1024, .f32⟩
  | 13 => ⟨S1024, .f32⟩
  | 14 => ⟨S1x1408, .f32⟩
  | 15 => ⟨S1408, .f32⟩
  | 16 => ⟨S1x1408, .f32⟩
  | 17 => ⟨S8192x1408, .f32⟩
  | 18 => ⟨S8192x1408, .f32⟩
  | 19 => ⟨S1x1408, .f32⟩
  | 20 => ⟨S1408, .f32⟩
  | 21 => ⟨S_, .f32⟩
  | 22 => ⟨S1x1408, .f32⟩
  | 23 => ⟨S8191x1408, .f32⟩
  | 24 => ⟨S8192x1408, .f32⟩
  | 25 => ⟨S_, .f32⟩
  | 26 => ⟨S1x1408, .f32⟩
  | 27 => ⟨S1x1408, .f32⟩
  | 28 => ⟨S8192x1408, .f32⟩
  | 29 => ⟨S8192x1408, .f32⟩
  | 30 => ⟨S8192x1408, .f32⟩
  | 31 => ⟨S1x1408, .f32⟩
  | 32 => ⟨S1408, .f32⟩
  | 33 => ⟨S_, .f32⟩
  | 34 => ⟨S2x1408, .f32⟩
  | 35 => ⟨S8190x1408, .f32⟩
  | 36 => ⟨S8192x1408, .f32⟩
  | 37 => ⟨S_, .f32⟩
  | 38 => ⟨S2x1408, .f32⟩
  | 39 => ⟨S1x1408, .f32⟩
  | 40 => ⟨S8192x1408, .f32⟩
  | 41 => ⟨S8192x1408, .f32⟩
  | 42 => ⟨S8192x1408, .f32⟩
  | 43 => ⟨S8192x1408, .f32⟩
  | 44 => ⟨S8192x1408, .f32⟩
  | 45 => ⟨S_, .f32⟩
  | 46 => ⟨S8192x1408, .f32⟩
  | 47 => ⟨S8192x1408, .f32⟩
  | 48 => ⟨S_, .f32⟩
  | 49 => ⟨S8192x1408, .f32⟩
  | 50 => ⟨S8192x1408, .f32⟩
  | 51 => ⟨S_, .f32⟩
  | 52 => ⟨S8192x1408, .f32⟩
  | 53 => ⟨S8192x1408, .f32⟩
  | 54 => ⟨S8192x1408, .f32⟩
  | 55 => ⟨S8192x1408, .f32⟩
  | 56 => ⟨S1x1408, .f32⟩
  | 57 => ⟨S1408, .f32⟩
  | 58 => ⟨S1x1408, .f32⟩
  | 59 => ⟨S8192x1408, .f32⟩
  | 60 => ⟨S8192x1408, .f32⟩
  | 61 => ⟨S1x1408, .f32⟩
  | 62 => ⟨S1408, .f32⟩
  | 63 => ⟨S_, .f32⟩
  | 64 => ⟨S1x1408, .f32⟩
  | 65 => ⟨S8191x1408, .f32⟩
  | 66 => ⟨S8192x1408, .f32⟩
  | 67 => ⟨S_, .f32⟩
  | 68 => ⟨S1x1408, .f32⟩
  | 69 => ⟨S1x1408, .f32⟩
  | 70 => ⟨S8192x1408, .f32⟩
  | 71 => ⟨S8192x1408, .f32⟩
  | 72 => ⟨S8192x1408, .f32⟩
  | 73 => ⟨S1x1408, .f32⟩
  | 74 => ⟨S1408, .f32⟩
  | 75 => ⟨S_, .f32⟩
  | 76 => ⟨S2x1408, .f32⟩
  | 77 => ⟨S8190x1408, .f32⟩
  | 78 => ⟨S8192x1408, .f32⟩
  | 79 => ⟨S_, .f32⟩
  | 80 => ⟨S2x1408, .f32⟩
  | 81 => ⟨S1x1408, .f32⟩
  | 82 => ⟨S8192x1408, .f32⟩
  | 83 => ⟨S8192x1408, .f32⟩
  | 84 => ⟨S8192x1408, .f32⟩
  | 85 => ⟨S8192x1408, .f32⟩
  | 86 => ⟨S8192x1024, .f32⟩
  | 87 => ⟨S1x1024, .f32⟩
  | 88 => ⟨S8192x1024, .f32⟩
  | 89 => ⟨S8192x1024, .f32⟩
  | 90 => ⟨S8192x1024, .f32⟩
  | 91 => ⟨S8192x1024, .f32⟩
  | 92 => ⟨S8192x1408, .f32⟩
  | 93 => ⟨S8192x1408, .f32⟩
  | 94 => ⟨S8192x1408, .f32⟩
  | 95 => ⟨S8192x1408, .f32⟩
  | 96 => ⟨S8192x1408, .f32⟩
  | 97 => ⟨S8192x1408, .f32⟩
  | 98 => ⟨S_, .f32⟩
  | 99 => ⟨S1408, .f32⟩
  | 100 => ⟨S1x1408, .f32⟩
  | 101 => ⟨S_, .f32⟩
  | 102 => ⟨S1408, .f32⟩
  | 103 => ⟨S2x1408, .f32⟩
  | 104 => ⟨S8190x1408, .f32⟩
  | 105 => ⟨S_, .f32⟩
  | 106 => ⟨S8192x1408, .f32⟩
  | 107 => ⟨S1x1408, .f32⟩
  | 108 => ⟨S_, .f32⟩
  | 109 => ⟨S8x1408, .f32⟩
  | 110 => ⟨S8192x1408, .f32⟩
  | 111 => ⟨S8192x1408, .f32⟩
  | 112 => ⟨S8192x1408, .f32⟩
  | 113 => ⟨S_, .f32⟩
  | 114 => ⟨S1408, .f32⟩
  | 115 => ⟨S1x1408, .f32⟩
  | 116 => ⟨S_, .f32⟩
  | 117 => ⟨S1408, .f32⟩
  | 118 => ⟨S1x1408, .f32⟩
  | 119 => ⟨S8191x1408, .f32⟩
  | 120 => ⟨S_, .f32⟩
  | 121 => ⟨S8192x1408, .f32⟩
  | 122 => ⟨S8192x1408, .f32⟩
  | 123 => ⟨S1x1408, .f32⟩
  | 124 => ⟨S_, .f32⟩
  | 125 => ⟨S8x1408, .f32⟩
  | 126 => ⟨S8x1408, .f32⟩
  | 127 => ⟨S8192x1408, .f32⟩
  | _ => ⟨S8192x1024, .f32⟩

abbrev hbmTy0_1 (i : Nat) : BufTy := match i % 128 with
  | 0 => ⟨S8192x1408, .f32⟩
  | 1 => ⟨S8192x1408, .f32⟩
  | 2 => ⟨S8192x1408, .f32⟩
  | 3 => ⟨S_, .f32⟩
  | 4 => ⟨S1408, .f32⟩
  | 5 => ⟨S1x1408, .f32⟩
  | 6 => ⟨S_, .f32⟩
  | 7 => ⟨S1408, .f32⟩
  | 8 => ⟨S1x1408, .f32⟩
  | 9 => ⟨S_, .f32⟩
  | 10 => ⟨S8x1408, .f32⟩
  | 11 => ⟨S8x1408, .f32⟩
  | 12 => ⟨S8192x1408, .f32⟩
  | 13 => ⟨S8192x1408, .f32⟩
  | 14 => ⟨S8192x1408, .f32⟩
  | 15 => ⟨S8192x1408, .f32⟩
  | 16 => ⟨S8192x1408, .f32⟩
  | 17 => ⟨S8192x1408, .f32⟩
  | 18 => ⟨S8192x1408, .f32⟩
  | 19 => ⟨S_, .f32⟩
  | 20 => ⟨S1408, .f32⟩
  | 21 => ⟨S1x1408, .f32⟩
  | 22 => ⟨S_, .f32⟩
  | 23 => ⟨S1408, .f32⟩
  | 24 => ⟨S2x1408, .f32⟩
  | 25 => ⟨S8190x1408, .f32⟩
  | 26 => ⟨S_, .f32⟩
  | 27 => ⟨S8192x1408, .f32⟩
  | 28 => ⟨S1x1408, .f32⟩
  | 29 => ⟨S_, .f32⟩
  | 30 => ⟨S8x1408, .f32⟩
  | 31 => ⟨S8192x1408, .f32⟩
  | 32 => ⟨S8192x1408, .f32⟩
  | 33 => ⟨S8192x1408, .f32⟩
  | 34 => ⟨S_, .f32⟩
  | 35 => ⟨S1408, .f32⟩
  | 36 => ⟨S1x1408, .f32⟩
  | 37 => ⟨S_, .f32⟩
  | 38 => ⟨S1408, .f32⟩
  | 39 => ⟨S1x1408, .f32⟩
  | 40 => ⟨S8191x1408, .f32⟩
  | 41 => ⟨S_, .f32⟩
  | 42 => ⟨S8192x1408, .f32⟩
  | 43 => ⟨S8192x1408, .f32⟩
  | 44 => ⟨S1x1408, .f32⟩
  | 45 => ⟨S_, .f32⟩
  | 46 => ⟨S8x1408, .f32⟩
  | 47 => ⟨S8x1408, .f32⟩
  | 48 => ⟨S8192x1408, .f32⟩
  | 49 => ⟨S8192x1408, .f32⟩
  | 50 => ⟨S8192x1408, .f32⟩
  | 51 => ⟨S8192x1408, .f32⟩
  | 52 => ⟨S_, .f32⟩
  | 53 => ⟨S1408, .f32⟩
  | 54 => ⟨S1x1408, .f32⟩
  | 55 => ⟨S_, .f32⟩
  | 56 => ⟨S1408, .f32⟩
  | 57 => ⟨S1x1408, .f32⟩
  | 58 => ⟨S_, .f32⟩
  | 59 => ⟨S8x1408, .f32⟩
  | 60 => ⟨S8x1408, .f32⟩
  | 61 => ⟨S8192x1408, .f32⟩
  | 62 => ⟨S8192x1408, .f32⟩
  | 63 => ⟨S8192x1024, .f32⟩
  | 64 => ⟨S8192x1024, .f32⟩
  | 65 => ⟨S8192x1024, .f32⟩
  | 66 => ⟨S1x1024, .f32⟩
  | 67 => ⟨S1024, .f32⟩
  | 68 => ⟨S1x1024, .f32⟩
  | 69 => ⟨S8192x1024, .f32⟩
  | 70 => ⟨S8192x1024, .f32⟩
  | 71 => ⟨S8192x1024, .bf16⟩
  | 72 => ⟨S8192x1408, .bf16⟩
  | 73 => ⟨S8192x1408, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v32_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v32_1 : Ref sig .tc := ⟨.hbm, 54, rfl⟩
abbrev main_v32_0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_cst_8 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_9 : Ref sig .tc := ⟨.hbm, 105, rfl⟩
abbrev main_v76 : Ref sig .tc := ⟨.hbm, 106, rfl⟩
abbrev main_v77 : Ref sig .tc := ⟨.hbm, 107, rfl⟩
abbrev main_cst_10 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_11 : Ref sig .tc := ⟨.hbm, 113, rfl⟩
abbrev main_v82 : Ref sig .tc := ⟨.hbm, 114, rfl⟩
abbrev main_v83 : Ref sig .tc := ⟨.hbm, 115, rfl⟩
abbrev main_cst_12 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_13 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_15 : Ref sig .tc := ⟨.hbm, 131, rfl⟩
abbrev main_v96 : Ref sig .tc := ⟨.hbm, 132, rfl⟩
abbrev main_v97 : Ref sig .tc := ⟨.hbm, 133, rfl⟩
abbrev main_cst_16 : Ref sig .tc := ⟨.hbm, 134, rfl⟩
abbrev main_v98 : Ref sig .tc := ⟨.hbm, 135, rfl⟩
abbrev main_v99 : Ref sig .tc := ⟨.hbm, 136, rfl⟩
abbrev main_cst_17 : Ref sig .tc := ⟨.hbm, 137, rfl⟩
abbrev main_v100 : Ref sig .tc := ⟨.hbm, 138, rfl⟩
abbrev main_v101 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_18 : Ref sig .tc := ⟨.hbm, 147, rfl⟩
abbrev main_v106 : Ref sig .tc := ⟨.hbm, 148, rfl⟩
abbrev main_v107 : Ref sig .tc := ⟨.hbm, 149, rfl⟩
abbrev main_cst_19 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_v112 : Ref sig .tc := ⟨.hbm, 156, rfl⟩
abbrev main_cst_21 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_22 : Ref sig .tc := ⟨.hbm, 162, rfl⟩
abbrev main_v117 : Ref sig .tc := ⟨.hbm, 163, rfl⟩
abbrev main_v118 : Ref sig .tc := ⟨.hbm, 164, rfl⟩
abbrev main_cst_23 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_24 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_25 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_26 : Ref sig .tc := ⟨.hbm, 180, rfl⟩
abbrev main_v131 : Ref sig .tc := ⟨.hbm, 181, rfl⟩
abbrev main_v132 : Ref sig .tc := ⟨.hbm, 182, rfl⟩
abbrev main_cst_27 : Ref sig .tc := ⟨.hbm, 183, rfl⟩
abbrev main_v133 : Ref sig .tc := ⟨.hbm, 184, rfl⟩
abbrev main_v134 : Ref sig .tc := ⟨.hbm, 185, rfl⟩
abbrev main_cst_28 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩

abbrev nD : Nat := 1
abbrev τ : Topo := Topo.v7x

variable {F : FTy → Type} [FloatOps F]
-- ==== Kernel2.lean ====
abbrev S8192x1024 : Shape := ⟨2, ![8192, 1024]⟩
abbrev S8192x1408 : Shape := ⟨2, ![8192, 1408]⟩
abbrev S8x1024x768 : Shape := ⟨3, ![8, 1024, 768]⟩
abbrev S512x512 : Shape := ⟨2, ![512, 512]⟩
abbrev S512x1408 : Shape := ⟨2, ![512, 1408]⟩
abbrev S8x512x768 : Shape := ⟨3, ![8, 512, 768]⟩
abbrev S512x768 : Shape := ⟨2, ![512, 768]⟩
abbrev S1x512x768 : Shape := ⟨3, ![1, 512, 768]⟩
abbrev S8x1024x704 : Shape := ⟨3, ![8, 1024, 704]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1408, .bf16⟩
  | .hbm, ⟨2, _⟩ => ⟨S8192x1408, .bf16⟩
  | .hbm, ⟨3, _⟩ => ⟨S8192x1408, .bf16⟩
  | .hbm, ⟨4, _⟩ => ⟨S8192x1408, .bf16⟩
  | .hbm, ⟨5, _⟩ => ⟨S8x1024x768, .bf16⟩
  | .hbm, ⟨6, _⟩ => ⟨S8x1024x704, .bf16⟩
  | .local _ .vmem, ⟨0, _⟩ => ⟨S512x512, .bf16⟩
  | .local _ .vmem, ⟨1, _⟩ => ⟨S512x512, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S8x512x768, .bf16⟩
  | .local _ .vmem, ⟨11, _⟩ => ⟨S8x512x768, .bf16⟩
  | .local _ .vmem, ⟨12, _⟩ => ⟨S512x1408, .f32⟩
  | .local _ .vmem, ⟨13, _⟩ => ⟨S512x1408, .f32⟩
  | .local _ .vmem, ⟨14, _⟩ => ⟨S512x1408, .f32⟩
  | .local _ .vmem, ⟨15, _⟩ => ⟨S512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_29 : BitVec 32 := 0#32
  let v34 : BitVec 1 := Scalar.cmpi .ne v33 c0_i32_29
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x1024 : Shape := ⟨2, ![8192, 1024]⟩
abbrev S8192x1408 : Shape := ⟨2, ![8192, 1408]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1408, .bf16⟩
  | .hbm, ⟨2, _⟩ => ⟨S8192x1408, .bf16⟩
  | .hbm, ⟨3, _⟩ => ⟨S8192x1408, .bf16⟩
  | .hbm, ⟨4, _⟩ => ⟨S8192x1408, .bf16⟩
  | .hbm, ⟨5, _⟩ => ⟨S8192x1408, .f32⟩
  | .hbm, ⟨6, _⟩ => ⟨S8192x1408, .f32⟩
  | .hbm, ⟨7, _⟩ => ⟨S8192x1408, .f32⟩
  | .hbm, ⟨8, _⟩ => ⟨S8192x1408, .f32⟩
  | .hbm, ⟨9, _⟩ => ⟨S8192x5632, .f32⟩
  | .hbm, ⟨10, _⟩ => ⟨S8192x1024, .f32⟩
  | .hbm, ⟨11, _⟩ => ⟨S_, .f32⟩
  | .hbm, ⟨12, _⟩ => ⟨S1024x5632, .f32⟩
  | .hbm, ⟨13, _⟩ => ⟨S8192x5632, .f32⟩
  | .hbm, ⟨14, _⟩ => ⟨S5632x1024, .f32⟩
  | .hbm, ⟨15, _⟩ => ⟨S1024x5632, .f32⟩
  | .hbm, ⟨16, _⟩ => ⟨S1024x8x704, .f32⟩
  | .hbm, ⟨17, _⟩ => ⟨S8x1024x704, .f32⟩
  | .hbm, ⟨18, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S8192x1408 : Shape := ⟨2, ![8192, 1408]⟩
abbrev S8192x1024 : Shape := ⟨2, ![8192, 1024]⟩
abbrev S2x1408x1024 : Shape := ⟨3, ![2, 1408, 1024]⟩
abbrev S1024x1408 : Shape := ⟨2, ![1024, 1408]⟩
abbrev S1024x1024 : Shape := ⟨2, ![1024, 1024]⟩
abbrev S1408x1024 : Shape := ⟨2, ![1408, 1024]⟩
abbrev S1x1408x1024 : Shape := ⟨3, ![1, 1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1408, .bf16⟩
  | .hbm, ⟨1, _⟩ => ⟨S8192x1408, .bf16⟩
  | .hbm, ⟨2, _⟩ => ⟨S8192x1024, .bf16⟩
  | .hbm, ⟨3, _⟩ => ⟨S2x1408x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S2x1408x1024, .bf16⟩
  | .local _ .vmem, ⟨7, _⟩ => ⟨S1408x1024, .f32⟩
  | .local _ .vmem, ⟨8, _⟩ => ⟨S1408x1024, .f32⟩
  | _, _ => ⟨S8192x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x1408 : Shape := ⟨2, ![8192, 1408]⟩
abbrev S8192x1024 : Shape := ⟨2, ![8192, 1024]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1408, .bf16⟩
  | .hbm, ⟨1, _⟩ => ⟨S8192x1408, .bf16⟩
  | .hbm, ⟨2, _⟩ => ⟨S8192x1024, .bf16⟩
  | .hbm, ⟨3, _⟩ => ⟨S8192x1408, .f32⟩
  | .hbm, ⟨4, _⟩ => ⟨S8192x1408, .f32⟩
  | .hbm, ⟨5, _⟩ => ⟨S8192x2816, .f32⟩
  | .hbm, ⟨6, _⟩ => ⟨S8192x1024, .f32⟩
  | .hbm, ⟨7, _⟩ => ⟨S_, .f32⟩
  | .hbm, ⟨8, _⟩ => ⟨S2816x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S2x1408x1024, .f32⟩
  | .hbm, ⟨13, _⟩ => ⟨S2x1408x1024, .bf16⟩
  | _, _ => ⟨S8192x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S8192x1024 : Shape := ⟨2, ![8192, 1024]⟩
abbrev S8192x3712 : Shape := ⟨2, ![8192, 3712]⟩
abbrev S8x1024x512 : Shape := ⟨3, ![8, 1024, 512]⟩
abbrev S1024x1024 : Shape := ⟨2, ![1024, 1024]⟩
abbrev S1024x3712 : Shape := ⟨2, ![1024, 3712]⟩
abbrev S1024x512 : Shape := ⟨2, ![1024, 512]⟩
abbrev S1x1024x512 : Shape := ⟨3, ![1, 1024, 512]⟩
abbrev S1024x640 : Shape := ⟨2, ![1024, 640]⟩
abbrev S8x1024x449 : Shape := ⟨3, ![8, 1024, 449]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3712, .bf16⟩
  | .hbm, ⟨2, _⟩ => ⟨S8x1024x512, .bf16⟩
  | .hbm, ⟨3, _⟩ => ⟨S8x1024x449, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3712, .bf16⟩
  | .local _ .vmem, ⟨3, _⟩ => ⟨S1024x3712, .bf16⟩
  | .local _ .vmem, ⟨4, _⟩ => ⟨S8x1024x512, .bf16⟩
  | .local _ .vmem, ⟨5, _⟩ => ⟨S1024x3712, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x3712 : Shape := ⟨2, ![8192, 3712]⟩
abbrev S8192x3592 : Shape := ⟨2, ![8192, 3592]⟩
abbrev S_ : Shape := ⟨0, ![]⟩
abbrev S1024x3592 : Shape := ⟨2, ![1024, 3592]⟩
abbrev S3592x1024 : Shape := ⟨2, ![3592, 1024]⟩
abbrev S1024x8x449 : Shape := ⟨3, ![1024, 8, 449]⟩
abbrev S8x1024x449 : Shape := ⟨3, ![8, 1024, 449]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3712, .bf16⟩
  | .hbm, ⟨2, _⟩ => ⟨S8192x1024, .f32⟩
  | .hbm, ⟨3, _⟩ => ⟨S8192x3592, .bf16⟩
  | .hbm, ⟨4, _⟩ => ⟨S8192x3592, .f32⟩
  | .hbm, ⟨5, _⟩ => ⟨S_, .f32⟩
  | .hbm, ⟨6, _⟩ => ⟨S1024x3592, .f32⟩
  | .hbm, ⟨7, _⟩ => ⟨S8192x3592, .f32⟩
  | .hbm, ⟨8, _⟩ => ⟨S3592x1024, .f32⟩
  | .hbm, ⟨9, _⟩ => ⟨S1024x3592, .f32⟩
  | .hbm, ⟨10, _⟩ => ⟨S1024x8x449, .f32⟩
  | .hbm, ⟨11, _⟩ => ⟨S8x1024x449, .f32⟩
  | .hbm, ⟨12, _⟩ => ⟨S8x1024x449, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x512 : Shape := ⟨2, ![8192, 512]⟩
abbrev S8192x1024 : Shape := ⟨2, ![8192, 1024]⟩
abbrev S2x512x1024 : Shape := ⟨3, ![2, 512, 1024]⟩
abbrev S1024x512 : Shape := ⟨2, ![1024, 512]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S2x512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S2x512x1024, .bf16⟩
  | .local _ .vmem, ⟨7, _⟩ => ⟨S512x1024, .f32⟩
  | .local _ .vmem, ⟨8, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v18 : BitVec 1 := Scalar.cmpi .eq arg0 c7_i32
  let v19 : BitVec 32 := Scalar.extui v18
  let c0_i32_15 : BitVec 32 := 0#32
  let v20 : BitVec 1 := Scalar.cmpi .ne v19 c0_i32_15
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩
abbrev S2x512x1024 : Shape := ⟨3, ![2, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S1024x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S2x512x1024, .f32⟩
  | .hbm, ⟨13, _⟩ => ⟨S2x512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S8192x1408 : Shape := ⟨2, ![8192, 1408]⟩
abbrev S512x1024 : Shape := ⟨2, ![512, 1024]⟩
abbrev S1024x1408 : Shape := ⟨2, ![1024, 1408]⟩
abbrev S8x1408 : Shape := ⟨2, ![8, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1x1024 : Shape := ⟨2, ![1, 1024]⟩
abbrev S520x1408 : Shape := ⟨2, ![520, 1408]⟩
abbrev S1x1408 : Shape := ⟨2, ![1, 1408]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x1024, .f32⟩
  | .hbm, ⟨3, _⟩ => ⟨S1024x5632, .f32⟩
  | .hbm, ⟨4, _⟩ => ⟨S8x5632, .f32⟩
  | .hbm, ⟨5, _⟩ => ⟨S2816x1024, .f32⟩
  | .hbm, ⟨6, _⟩ => ⟨S1024x5632, .bf16⟩
  | .hbm, ⟨7, _⟩ => ⟨S2816x1024, .bf16⟩
  | .hbm, ⟨8, _⟩ => ⟨S8192x1024, .bf16⟩
  | .hbm, ⟨9, _⟩ => ⟨S8192x1408, .bf16⟩
  | .hbm, ⟨10, _⟩ => ⟨S8192x1408, .bf16⟩
  | .hbm, ⟨11, _⟩ => ⟨S8192x1408, .bf16⟩
  | .hbm, ⟨12, _⟩ => ⟨S8192x1408, .bf16⟩
  | .hbm, ⟨13, _⟩ => ⟨S8192x1408, .bf16⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1024x1408, .bf16⟩
  | .local _ .vmem, ⟨5, _⟩ => ⟨S1024x1408, .bf16⟩
  | .local _ .vmem, ⟨6, _⟩ => ⟨S8x1408, .f32⟩
  | .local _ .vmem, ⟨7, _⟩ => ⟨S8x1408, .f32⟩
  | .local _ .vmem, ⟨8, _⟩ => ⟨S1408x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1024, .f32⟩
  | .local _ .vmem, ⟨22, _⟩ => ⟨S512x1024, .f32⟩
  | .local _ .vmem, ⟨23, _⟩ => ⟨S8x1408, .f32⟩
  | .local _ .vmem, ⟨24, _⟩ => ⟨S8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference6Ideal.lean ====
abbrev S8192x1024 : Shape := ⟨2, ![8192, 1024]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1408 : Shape := ⟨2, ![1024, 1408]⟩
abbrev S8192x1408 : Shape := ⟨2, ![8192, 1408]⟩
abbrev S8x1408 : Shape := ⟨2, ![8, 1408]⟩
abbrev S1x1408 : Shape := ⟨2, ![1, 1408]⟩
abbrev S1408 : Shape := ⟨1, ![1408]⟩
abbrev S8191x1408 : Shape := ⟨2, ![8191, 1408]⟩
abbrev S2x1408 : Shape := ⟨2, ![2, 1408]⟩
abbrev S8190x1408 : Shape := ⟨2, ![8190, 1408]⟩
abbrev S1408x1024 : Shape := ⟨2, ![1408, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x1024, .f32⟩
  | .hbm, ⟨3, _⟩ => ⟨S1024x5632, .f32⟩
  | .hbm, ⟨4, _⟩ => ⟨S8x5632, .f32⟩
  | .hbm, ⟨5, _⟩ => ⟨S2816x1024, .f32⟩
  | .hbm, ⟨6, _⟩ => ⟨S1x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1024x1408, .f32⟩
  | .hbm, ⟨38, _⟩ => ⟨S8192x1408, .f32⟩
  | .hbm, ⟨39, _⟩ => ⟨S1024x1408, .f32⟩
  | .hbm, ⟨40, _⟩ => ⟨S8192x1408, .f32⟩
  | .hbm, ⟨41, _⟩ => ⟨S8x1408, .f32⟩
  | .hbm, ⟨42, _⟩ => ⟨S1x1408, .f32⟩
  | .hbm, ⟨43, _⟩ => ⟨S1408, .f32⟩
  | .hbm, ⟨44, _⟩ => ⟨S1x1408, .f32⟩
  | .hbm, ⟨45, _⟩ => ⟨S8192x1408, .f32⟩
  | .hbm, ⟨46, _⟩ => ⟨S8192x1408, .f32⟩
  | .hbm, ⟨47, _⟩ => ⟨S1x1408, .f32⟩
  | .hbm, ⟨48, _⟩ => ⟨S1408, .f32⟩
  | .hbm, ⟨49, _⟩ => ⟨S_, .f32⟩
  | .hbm, ⟨50, _⟩ => ⟨S1x1408, .f32⟩
  | .hbm, ⟨51, _⟩ => ⟨S8191x1408, .f32⟩
  | .hbm, ⟨52, _⟩ => ⟨S8192x1408, .f32⟩
  | .hbm, ⟨53, _⟩ => ⟨S1x1408, .f32⟩
  | .hbm, ⟨54, _⟩ => ⟨S8192x1408, .f32⟩
  | .hbm, ⟨55, _⟩ => ⟨S8192x1408, .f32⟩
  | .hbm, ⟨56, _⟩ => ⟨S8192x1408, .f32⟩
  | .hbm, ⟨57, _⟩ => ⟨S1x1408, .f32⟩
  | .hbm, ⟨58, _⟩ => ⟨S1408, .f32⟩
  | .hbm, ⟨59, _⟩ => ⟨S_, .f32⟩
  | .hbm, ⟨60, _⟩ => ⟨S2x1408, .f32⟩
  | .hbm, ⟨61, _⟩ => ⟨S8190x1408, .f32⟩
  | .hbm, ⟨62, _⟩ => ⟨S8192x1408, .f32⟩
  | .hbm, ⟨63, _⟩ => ⟨S1x1408, .f32⟩
  | .hbm, ⟨64, _⟩ => ⟨S8192x1408, .f32⟩
  | .hbm, ⟨65, _⟩ => ⟨S8192x1408, .f32⟩
  | .hbm, ⟨66, _⟩ => ⟨S8192x1408, .f32⟩
  | .hbm, ⟨67, _⟩ => ⟨S8x1408, .f32⟩
  | .hbm, ⟨68, _⟩ => ⟨S1x1408, .f32⟩
  | .hbm, ⟨69, _⟩ => ⟨S1408, .f32⟩
  | .hbm, ⟨70, _⟩ => ⟨S1x1408, .f32⟩
  | .hbm, ⟨71, _⟩ => ⟨S8192x1408, .f32⟩
  | .hbm, ⟨72, _⟩ => ⟨S8192x1408, .f32⟩
  | .hbm, ⟨73, _⟩ => ⟨S1x1408, .f32⟩
  | .hbm, ⟨74, _⟩ => ⟨S1408, .f32⟩
  | .hbm, ⟨75, _⟩ => ⟨S_, .f32⟩
  | .hbm, ⟨76, _⟩ => ⟨S1x1408, .f32⟩
  | .hbm, ⟨77, _⟩ => ⟨S8191x1408, .f32⟩
  | .hbm, ⟨78, _⟩ => ⟨S8192x1408, .f32⟩
  | .hbm, ⟨79, _⟩ => ⟨S1x1408, .f32⟩
  | .hbm, ⟨80, _⟩ => ⟨S8192x1408, .f32⟩
  | .hbm, ⟨81, _⟩ => ⟨S8192x1408, .f32⟩
  | .hbm, ⟨82, _⟩ => ⟨S8192x1408, .f32⟩
  | .hbm, ⟨83, _⟩ => ⟨S1x1408, .f32⟩
  | .hbm, ⟨84, _⟩ => ⟨S1408, .f32⟩
  | .hbm, ⟨85, _⟩ => ⟨S_, .f32⟩
  | .hbm, ⟨86, _⟩ => ⟨S2x1408, .f32⟩
  | .hbm, ⟨87, _⟩ => ⟨S8190x1408, .f32⟩
  | .hbm, ⟨88, _⟩ => ⟨S8192x1408, .f32⟩
  | .hbm, ⟨89, _⟩ => ⟨S1x1408, .f32⟩
  | .hbm, ⟨90, _⟩ => ⟨S8192x1408, .f32⟩
  | .hbm, ⟨91, _⟩ => ⟨S8192x1408, .f32⟩
  | .hbm, ⟨92, _⟩ => ⟨S8192x1408, .f32⟩
  | .hbm, ⟨93, _⟩ => ⟨S8192x1408, .f32⟩
  | .hbm, ⟨94, _⟩ => ⟨S8192x1408, .f32⟩
  | .hbm, ⟨95, _⟩ => ⟨S_, .f32⟩
  | .hbm, ⟨96, _⟩ => ⟨S8192x1408, .f32⟩
  | .hbm, ⟨97, _⟩ => ⟨S8192x1408, .f32⟩
  | .hbm, ⟨98, _⟩ => ⟨S_, .f32⟩
  | .hbm, ⟨99, _⟩ => ⟨S8192x1408, .f32⟩
  | .hbm, ⟨100, _⟩ => ⟨S8192x1408, .f32⟩
  | .hbm, ⟨101, _⟩ => ⟨S8192x1408, .f32⟩
  | .hbm, ⟨102, _⟩ => ⟨S8192x1408, .f32⟩
  | .hbm, ⟨103, _⟩ => ⟨S8192x1024, .bf16⟩
  | .hbm, ⟨104, _⟩ => ⟨S8192x1408, .bf16⟩
  | .hbm, ⟨105, _⟩ => ⟨S8192x1408, .bf16⟩
  | .hbm, ⟨106, _⟩ => ⟨S8192x1408, .bf16⟩
  | .hbm, ⟨107, _⟩ => ⟨S8192x1408, .bf16⟩
  | .hbm, ⟨108, _⟩ => ⟨S8192x1408, .bf16⟩
  | .hbm, ⟨109, _⟩ => ⟨S1408x1024, .f32⟩
  | .hbm, ⟨110, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_5 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_6 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]
-- ==== Kernel7.lean ====
abbrev S8192x1024 : Shape := ⟨2, ![8192, 1024]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S8192x1408 : Shape := ⟨2, ![8192, 1408]⟩
abbrev S512x1024 : Shape := ⟨2, ![512, 1024]⟩
abbrev S1024x1408 : Shape := ⟨2, ![1024, 1408]⟩
abbrev S8x1408 : Shape := ⟨2, ![8, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩
abbrev S1x1024 : Shape := ⟨2, ![1, 1024]⟩
abbrev S520x1408 : Shape := ⟨2, ![520, 1408]⟩
abbrev S1x1408 : Shape := ⟨2, ![1, 1408]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x1024, .f32⟩
  | .hbm, ⟨3, _⟩ => ⟨S1024x5632, .f32⟩
  | .hbm, ⟨4, _⟩ => ⟨S8x5632, .f32⟩
  | .hbm, ⟨5, _⟩ => ⟨S2816x1024, .f32⟩
  | .hbm, ⟨6, _⟩ => ⟨S8192x1024, .f32⟩
  | .hbm, ⟨7, _⟩ => ⟨S1024x5632, .bf16⟩
  | .hbm, ⟨8, _⟩ => ⟨S2816x1024, .bf16⟩
  | .hbm, ⟨9, _⟩ => ⟨S8192x1408, .bf16⟩
  | .hbm, ⟨10, _⟩ => ⟨S8192x1408, .bf16⟩
  | .hbm, ⟨11, _⟩ => ⟨S8192x1408, .bf16⟩
  | .hbm, ⟨12, _⟩ => ⟨S8192x1408, .bf16⟩
  | .hbm, ⟨13, _⟩ => ⟨S8192x1408, .bf16⟩
  | .hbm, ⟨14, _⟩ => ⟨S8192x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1024x1408, .bf16⟩
  | .local _ .vmem, ⟨5, _⟩ => ⟨S1024x1408, .bf16⟩
  | .local _ .vmem, ⟨6, _⟩ => ⟨S8x1408, .f32⟩
  | .local _ .vmem, ⟨7, _⟩ => ⟨S8x1408, .f32⟩
  | .local _ .vmem, ⟨8, _⟩ => ⟨S1408x1024, .bf16⟩
  | .local _ .vmem, ⟨9, _⟩ => ⟨S512x1024, .f32⟩
  | .local _ .vmem, ⟨10, _⟩ => ⟨S512x1024, .f32⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S8x1408, .f32⟩
  | .local _ .vmem, ⟨26, _⟩ => ⟨S8x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v2_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1408x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference7Ideal.lean ====
abbrev S8192x1024 : Shape := ⟨2, ![8192, 1024]⟩
abbrev S8x1024 : Shape := ⟨2, ![8, 1024]⟩
abbrev S1024x5632 : Shape := ⟨2, ![1024, 5632]⟩
abbrev S8x5632 : Shape := ⟨2, ![8, 5632]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1408 : Shape := ⟨2, ![1024, 1408]⟩
abbrev S8192x1408 : Shape := ⟨2, ![8192, 1408]⟩
abbrev S8x1408 : Shape := ⟨2, ![8, 1408]⟩
abbrev S1x1408 : Shape := ⟨2, ![1, 1408]⟩
abbrev S1408 : Shape := ⟨1, ![1408]⟩
abbrev S8191x1408 : Shape := ⟨2, ![8191, 1408]⟩
abbrev S2x1408 : Shape := ⟨2, ![2, 1408]⟩
abbrev S8190x1408 : Shape := ⟨2, ![8190, 1408]⟩
abbrev S1408x1024 : Shape := ⟨2, ![1408, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024, .f32⟩
  | .hbm, ⟨2, _⟩ => ⟨S8x1024, .f32⟩
  | .hbm, ⟨3, _⟩ => ⟨S1024x5632, .f32⟩
  | .hbm, ⟨4, _⟩ => ⟨S8x5632, .f32⟩
  | .hbm, ⟨5, _⟩ => ⟨S2816x1024, .f32⟩
  | .hbm, ⟨6, _⟩ => ⟨S8192x1024, .f32⟩
  | .hbm, ⟨7, _⟩ => ⟨S1x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S1024x1408, .f32⟩
  | .hbm, ⟨39, _⟩ => ⟨S8192x1408, .f32⟩
  | .hbm, ⟨40, _⟩ => ⟨S1024x1408, .f32⟩
  | .hbm, ⟨41, _⟩ => ⟨S8192x1408, .f32⟩
  | .hbm, ⟨42, _⟩ => ⟨S8x1408, .f32⟩
  | .hbm, ⟨43, _⟩ => ⟨S1x1408, .f32⟩
  | .hbm, ⟨44, _⟩ => ⟨S1408, .f32⟩
  | .hbm, ⟨45, _⟩ => ⟨S1x1408, .f32⟩
  | .hbm, ⟨46, _⟩ => ⟨S8192x1408, .f32⟩
  | .hbm, ⟨47, _⟩ => ⟨S8192x1408, .f32⟩
  | .hbm, ⟨48, _⟩ => ⟨S1x1408, .f32⟩
  | .hbm, ⟨49, _⟩ => ⟨S1408, .f32⟩
  | .hbm, ⟨50, _⟩ => ⟨S_, .f32⟩
  | .hbm, ⟨51, _⟩ => ⟨S1x1408, .f32⟩
  | .hbm, ⟨52, _⟩ => ⟨S8191x1408, .f32⟩
  | .hbm, ⟨53, _⟩ => ⟨S8192x1408, .f32⟩
  | .hbm, ⟨54, _⟩ => ⟨S1x1408, .f32⟩
  | .hbm, ⟨55, _⟩ => ⟨S8192x1408, .f32⟩
  | .hbm, ⟨56, _⟩ => ⟨S8192x1408, .f32⟩
  | .hbm, ⟨57, _⟩ => ⟨S8192x1408, .f32⟩
  | .hbm, ⟨58, _⟩ => ⟨S1x1408, .f32⟩
  | .hbm, ⟨59, _⟩ => ⟨S1408, .f32⟩
  | .hbm, ⟨60, _⟩ => ⟨S_, .f32⟩
  | .hbm, ⟨61, _⟩ => ⟨S2x1408, .f32⟩
  | .hbm, ⟨62, _⟩ => ⟨S8190x1408, .f32⟩
  | .hbm, ⟨63, _⟩ => ⟨S8192x1408, .f32⟩
  | .hbm, ⟨64, _⟩ => ⟨S1x1408, .f32⟩
  | .hbm, ⟨65, _⟩ => ⟨S8192x1408, .f32⟩
  | .hbm, ⟨66, _⟩ => ⟨S8192x1408, .f32⟩
  | .hbm, ⟨67, _⟩ => ⟨S8192x1408, .f32⟩
  | .hbm, ⟨68, _⟩ => ⟨S8x1408, .f32⟩
  | .hbm, ⟨69, _⟩ => ⟨S1x1408, .f32⟩
  | .hbm, ⟨70, _⟩ => ⟨S1408, .f32⟩
  | .hbm, ⟨71, _⟩ => ⟨S1x1408, .f32⟩
  | .hbm, ⟨72, _⟩ => ⟨S8192x1408, .f32⟩
  | .hbm, ⟨73, _⟩ => ⟨S8192x1408, .f32⟩
  | .hbm, ⟨74, _⟩ => ⟨S1x1408, .f32⟩
  | .hbm, ⟨75, _⟩ => ⟨S1408, .f32⟩
  | .hbm, ⟨76, _⟩ => ⟨S_, .f32⟩
  | .hbm, ⟨77, _⟩ => ⟨S1x1408, .f32⟩
  | .hbm, ⟨78, _⟩ => ⟨S8191x1408, .f32⟩
  | .hbm, ⟨79, _⟩ => ⟨S8192x1408, .f32⟩
  | .hbm, ⟨80, _⟩ => ⟨S1x1408, .f32⟩
  | .hbm, ⟨81, _⟩ => ⟨S8192x1408, .f32⟩
  | .hbm, ⟨82, _⟩ => ⟨S8192x1408, .f32⟩
  | .hbm, ⟨83, _⟩ => ⟨S8192x1408, .f32⟩
  | .hbm, ⟨84, _⟩ => ⟨S1x1408, .f32⟩
  | .hbm, ⟨85, _⟩ => ⟨S1408, .f32⟩
  | .hbm, ⟨86, _⟩ => ⟨S_, .f32⟩
  | .hbm, ⟨87, _⟩ => ⟨S2x1408, .f32⟩
  | .hbm, ⟨88, _⟩ => ⟨S8190x1408, .f32⟩
  | .hbm, ⟨89, _⟩ => ⟨S8192x1408, .f32⟩
  | .hbm, ⟨90, _⟩ => ⟨S1x1408, .f32⟩
  | .hbm, ⟨91, _⟩ => ⟨S8192x1408, .f32⟩
  | .hbm, ⟨92, _⟩ => ⟨S8192x1408, .f32⟩
  | .hbm, ⟨93, _⟩ => ⟨S8192x1408, .f32⟩
  | .hbm, ⟨94, _⟩ => ⟨S8192x1408, .f32⟩
  | .hbm, ⟨95, _⟩ => ⟨S8192x1408, .f32⟩
  | .hbm, ⟨96, _⟩ => ⟨S_, .f32⟩
  | .hbm, ⟨97, _⟩ => ⟨S8192x1408, .f32⟩
  | .hbm, ⟨98, _⟩ => ⟨S8192x1408, .f32⟩
  | .hbm, ⟨99, _⟩ => ⟨S_, .f32⟩
  | .hbm, ⟨100, _⟩ => ⟨S8192x1408, .f32⟩
  | .hbm, ⟨101, _⟩ => ⟨S8192x1408, .f32⟩
  | .hbm, ⟨102, _⟩ => ⟨S8192x1408, .f32⟩
  | .hbm, ⟨103, _⟩ => ⟨S8192x1408, .f32⟩
  | .hbm, ⟨104, _⟩ => ⟨S1408x1024, .f32⟩
  | .hbm, ⟨105, _⟩ => ⟨S8192x1024, .f32⟩
  | .hbm, ⟨106, _⟩ => ⟨S8192x1024, .f32⟩
  | .hbm, ⟨107, _⟩ => ⟨S8192x1408, .bf16⟩
  | .hbm, ⟨108, _⟩ => ⟨S8192x1408, .bf16⟩
  | .hbm, ⟨109, _⟩ => ⟨S8192x1408, .bf16⟩
  | .hbm, ⟨110, _⟩ => ⟨S8192x1408, .bf16⟩
  | .hbm, ⟨111, _⟩ => ⟨S8192x1408, .bf16⟩
  | .hbm, ⟨112, _⟩ => ⟨S1x1024, .f32⟩
  | .hbm, ⟨113, _⟩ => ⟨S1024, .f32⟩
  | .hbm, ⟨114, _⟩ => ⟨S1x1024, .f32⟩
  | .hbm, ⟨115, _⟩ => ⟨S8192x1024, .f32⟩
  | .hbm, ⟨116, _⟩ => ⟨S8192x1024, .f32⟩
  | .hbm, ⟨117, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_5 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_call0_v0 : Ref sig .tc := ⟨.hbm, 94, rfl⟩
abbrev main_call0_v1 : Ref sig .tc := ⟨.hbm, 95, rfl⟩
abbrev main_call0_cst : Ref sig .tc := ⟨.hbm, 96, rfl⟩
abbrev main_call0_v2 : Ref sig .tc := ⟨.hbm, 97, rfl⟩
abbrev main_call0_v3 : Ref sig .tc := ⟨.hbm, 98, rfl⟩
abbrev main_call0_cst_0 : Ref sig .tc := ⟨.hbm, 99, rfl⟩
abbrev main_call0_v4 : Ref sig .tc := ⟨.hbm, 100, rfl⟩
abbrev main_call0_v5 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩

abbrev nD : Nat := 1
abbrev τ : Topo := Topo.v7x

variable {F : FTy → Type} [FloatOps F]
-- ==== Kernel9.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel10.lean ====
abbrev S4x1024x449 : Shape := ⟨3, ![4, 1024, 449]⟩
abbrev S4096x449 : Shape := ⟨2, ![4096, 449]⟩
abbrev S512x449 : Shape := ⟨2, ![512, 449]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x449, .f32⟩
  | .hbm, ⟨1, _⟩ => ⟨S4x1024x449, .f32⟩
  | .hbm, ⟨2, _⟩ => ⟨S4x1024x449, .f32⟩
  | .hbm, ⟨3, _⟩ => ⟨S4x1024x449, .f32⟩
  | .hbm, ⟨4, _⟩ => ⟨S4096x449, .f32⟩
  | .hbm, ⟨5, _⟩ => ⟨S4096x449, .f32⟩
  | .hbm, ⟨6, _⟩ => ⟨S4096x449, .f32⟩
  | .hbm, ⟨7, _⟩ => ⟨S4096x449, .f32⟩
  | .hbm, ⟨8, _⟩ => ⟨S4096x449, .f32⟩
  | .hbm, ⟨9, _⟩ => ⟨S4096x449, .f32⟩
  | .hbm, ⟨10, _⟩ => ⟨S4096x449, .f32⟩
  | .local _ .vmem, ⟨0, _⟩ => ⟨S512x449, .f32⟩
  | .local _ .vmem, ⟨1, _⟩ => ⟨S512x449, .f32⟩
  | .local _ .vmem, ⟨2, _⟩ => ⟨S512x449, .f32⟩
  | .local _ .vmem, ⟨3, _⟩ => ⟨S512x449, .f32⟩
  | .local _ .vmem, ⟨4, _⟩ => ⟨S512x449, .f32⟩
  | .local _ .vmem, ⟨5, _⟩ => ⟨S512x449, .f32⟩
  | .local _ .vmem, ⟨6, _⟩ => ⟨S512x449, .f32⟩
  | .local _ .vmem, ⟨7, _⟩ => ⟨S512x449, .f32⟩
  | .local _ .vmem, ⟨8, _⟩ => ⟨S512x449, .f32⟩
  | .local _ .vmem, ⟨9, _⟩ => ⟨S512x449, .f32⟩
  | .local _ .vmem, ⟨10, _⟩ => ⟨S512x449, .f32⟩
  | .local _ .vmem, ⟨11, _⟩ => ⟨S512x449, .f32⟩
  | .local _ .vmem, ⟨12, _⟩ => ⟨S512x449, .f32⟩
  | .local _ .vmem, ⟨13, _⟩ => ⟨S512x449, .f32⟩
  | _, _ => ⟨S4x1024x449, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x449 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x449 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel10Ideal.lean ====
abbrev S4x1024x449 : Shape := ⟨3, ![4, 1024, 449]⟩
abbrev S4096x449 : Shape := ⟨2, ![4096, 449]⟩
abbrev S512x449 : Shape := ⟨2, ![512, 449]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x449, .f32⟩
  | .hbm, ⟨1, _⟩ => ⟨S4x1024x449, .f32⟩
  | .hbm, ⟨2, _⟩ => ⟨S4x1024x449, .f32⟩
  | .hbm, ⟨3, _⟩ => ⟨S4x1024x449, .f32⟩
  | .hbm, ⟨4, _⟩ => ⟨S4096x449, .f32⟩
  | .hbm, ⟨5, _⟩ => ⟨S4096x449, .f32⟩
  | .hbm, ⟨6, _⟩ => ⟨S4096x449, .f32⟩
  | .hbm, ⟨7, _⟩ => ⟨S4096x449, .f32⟩
  | .hbm, ⟨8, _⟩ => ⟨S4096x449, .f32⟩
  | .hbm, ⟨9, _⟩ => ⟨S4096x449, .f32⟩
  | .hbm, ⟨10, _⟩ => ⟨S4096x449, .f32⟩
  | .local _ .vmem, ⟨0, _⟩ => ⟨S512x449, .f32⟩
  | .local _ .vmem, ⟨1, _⟩ => ⟨S512x449, .f32⟩
  | .local _ .vmem, ⟨2, _⟩ => ⟨S512x449, .f32⟩
  | .local _ .vmem, ⟨3, _⟩ => ⟨S512x449, .f32⟩
  | .local _ .vmem, ⟨4, _⟩ => ⟨S512x449, .f32⟩
  | .local _ .vmem, ⟨5, _⟩ => ⟨S512x449, .f32⟩
  | .local _ .vmem, ⟨6, _⟩ => ⟨S512x449, .f32⟩
  | .local _ .vmem, ⟨7, _⟩ => ⟨S512x449, .f32⟩
  | .local _ .vmem, ⟨8, _⟩ => ⟨S512x449, .f32⟩
  | .local _ .vmem, ⟨9, _⟩ => ⟨S512x449, .f32⟩
  | .local _ .vmem, ⟨10, _⟩ => ⟨S512x449, .f32⟩
  | .local _ .vmem, ⟨11, _⟩ => ⟨S512x449, .f32⟩
  | .local _ .vmem, ⟨12, _⟩ => ⟨S512x449, .f32⟩
  | .local _ .vmem, ⟨13, _⟩ => ⟨S512x449, .f32⟩
  | _, _ => ⟨S4x1024x449, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x449 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x449 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4x1024x449 : Shape := ⟨3, ![4, 1024, 449]⟩
abbrev S_ : Shape := ⟨0, ![]⟩
abbrev S4096x449 : Shape := ⟨2, ![4096, 449]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x449, .f32⟩
  | .hbm, ⟨1, _⟩ => ⟨S4x1024x449, .f32⟩
  | .hbm, ⟨2, _⟩ => ⟨S4x1024x449, .f32⟩
  | .hbm, ⟨3, _⟩ => ⟨S4x1024x449, .f32⟩
  | .hbm, ⟨4, _⟩ => ⟨S_, .f32⟩
  | .hbm, ⟨5, _⟩ => ⟨S4x1024x449, .f32⟩
  | .hbm, ⟨6, _⟩ => ⟨S4x1024x449, .f32⟩
  | .hbm, ⟨7, _⟩ => ⟨S_, .f32⟩
  | .hbm, ⟨8, _⟩ => ⟨S4x1024x449, .f32⟩
  | .hbm, ⟨9, _⟩ => ⟨S4x1024x449, .f32⟩
  | .hbm, ⟨10, _⟩ => ⟨S4x1024x449, .f32⟩
  | .hbm, ⟨11, _⟩ => ⟨S_, .f32⟩
  | .hbm, ⟨12, _⟩ => ⟨S4x1024x449, .f32⟩
  | .hbm, ⟨13, _⟩ => ⟨S4x1024x449, .f32⟩
  | .hbm, ⟨14, _⟩ => ⟨S4x1024x449, .f32⟩
  | .hbm, ⟨15, _⟩ => ⟨S_, .f32⟩
  | .hbm, ⟨16, _⟩ => ⟨S4x1024x449, .f32⟩
  | .hbm, ⟨17, _⟩ => ⟨S4x1024x449, .f32⟩
  | .hbm, ⟨18, _⟩ => ⟨S4x1024x449, .f32⟩
  | .hbm, ⟨19, _⟩ => ⟨S_, .f32⟩
  | .hbm, ⟨20, _⟩ => ⟨S4x1024x449, .f32⟩
  | .hbm, ⟨21, _⟩ => ⟨S4x1024x449, .f32⟩
  | .hbm, ⟨22, _⟩ => ⟨S_, .f32⟩
  | .hbm, ⟨23, _⟩ => ⟨S4x1024x449, .f32⟩
  | .hbm, ⟨24, _⟩ => ⟨S4x1024x449, .f32⟩
  | .hbm, ⟨25, _⟩ => ⟨S4x1024x449, .f32⟩
  | .hbm, ⟨26, _⟩ => ⟨S_, .f32⟩
  | .hbm, ⟨27, _⟩ => ⟨S4x1024x449, .f32⟩
  | .hbm, ⟨28, _⟩ => ⟨S4x1024x449, .f32⟩
  | .hbm, ⟨29, _⟩ => ⟨S4x1024x449, .f32⟩
  | .hbm, ⟨30, _⟩ => ⟨S_, .f32⟩
  | .hbm, ⟨31, _⟩ => ⟨S4x1024x449, .f32⟩
  | .hbm, ⟨32, _⟩ => ⟨S4x1024x449, .f32⟩
  | .hbm, ⟨33, _⟩ => ⟨S4x1024x449, .f32⟩
  | .hbm, ⟨34, _⟩ => ⟨S_, .f32⟩
  | .hbm, ⟨35, _⟩ => ⟨S4x1024x449, .f32⟩
  | .hbm, ⟨36, _⟩ => ⟨S4x1024x449, .f32⟩
  | .hbm, ⟨37, _⟩ => ⟨S4096x449, .f32⟩
  | .hbm, ⟨38, _⟩ => ⟨S4096x449, .f32⟩
  | .hbm, ⟨39, _⟩ => ⟨S4096x449, .f32⟩
  | _, _ => ⟨S4x1024x449, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel11.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel11Ideal.lean ====
abbrev S4x128x1024 : Shape := ⟨3, ![4, 128, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference11Ideal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel12.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel12Ideal.lean ====
abbrev S4x1024x704 : Shape := ⟨3, ![4, 1024, 704]⟩
abbrev S4096x704 : Shape := ⟨2, ![4096, 704]⟩
abbrev S512x704 : Shape := ⟨2, ![512, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel13.lean ====
abbrev S4x352x1024 : Shape := ⟨3, ![4, 352, 1024]⟩
abbrev S1408x1024 : Shape := ⟨2, ![1408, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4x352x1024 : Shape := ⟨3, ![4, 352, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S_, .f32⟩
  | .hbm, ⟨5, _⟩ => ⟨S4x352x1024, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S_, .f32⟩
  | .hbm, ⟨12, _⟩ => ⟨S4x352x1024, .f32⟩
  | .hbm, ⟨13, _⟩ => ⟨S4x352x1024, .f32⟩
  | .hbm, ⟨14, _⟩ => ⟨S4x352x1024, .f32⟩
  | .hbm, ⟨15, _⟩ => ⟨S_, .f32⟩
  | .hbm, ⟨16, _⟩ => ⟨S4x352x1024, .f32⟩
  | .hbm, ⟨17, _⟩ => ⟨S4x352x1024, .f32⟩
  | .hbm, ⟨18, _⟩ => ⟨S4x352x1024, .f32⟩
  | .hbm, ⟨19, _⟩ => ⟨S_, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S4x352x1024, .f32⟩
  | .hbm, ⟨26, _⟩ => ⟨S_, .f32⟩
  | .hbm, ⟨27, _⟩ => ⟨S4x352x1024, .f32⟩
  | .hbm, ⟨28, _⟩ => ⟨S4x352x1024, .f32⟩
  | .hbm, ⟨29, _⟩ => ⟨S4x352x1024, .f32⟩
  | .hbm, ⟨30, _⟩ => ⟨S_, .f32⟩
  | .hbm, ⟨31, _⟩ => ⟨S4x352x1024, .f32⟩
  | .hbm, ⟨32, _⟩ => ⟨S4x352x1024, .f32⟩
  | .hbm, ⟨33, _⟩ => ⟨S4x352x1024, .f32⟩
  | .hbm, ⟨34, _⟩ => ⟨S_, .f32⟩
  | .hbm, ⟨35, _⟩ => ⟨S4x352x1024, .f32⟩
  | .hbm, ⟨36, _⟩ => ⟨S4x352x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel14.lean ====
abbrev S8192x512 : Shape := ⟨2, ![8192, 512]⟩
abbrev S8192x3712 : Shape := ⟨2, ![8192, 3712]⟩
abbrev S8192x1024 : Shape := ⟨2, ![8192, 1024]⟩
abbrev S8x1024 : Shape := ⟨2, ![8, 1024]⟩
abbrev S8x128 : Shape := ⟨2, ![8, 128]⟩
abbrev S1024x1024 : Shape := ⟨2, ![1024, 1024]⟩
abbrev S512x512 : Shape := ⟨2, ![512, 512]⟩
abbrev S512x1024 : Shape := ⟨2, ![512, 1024]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x1024 : Shape := ⟨2, ![1, 1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x3712, .f32⟩
  | .hbm, ⟨2, _⟩ => ⟨S8192x512, .bf16⟩
  | .hbm, ⟨3, _⟩ => ⟨S8192x1024, .f32⟩
  | .hbm, ⟨4, _⟩ => ⟨S8x1024, .f32⟩
  | .hbm, ⟨5, _⟩ => ⟨S8x128, .f32⟩
  | .hbm, ⟨6, _⟩ => ⟨S1024x1024, .f32⟩
  | .hbm, ⟨7, _⟩ => ⟨S1024x1024, .bf16⟩
  | .hbm, ⟨8, _⟩ => ⟨S8192x1024, .f32⟩
  | .hbm, ⟨9, _⟩ => ⟨S8192x1024, .f32⟩
  | .hbm, ⟨10, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S8x128, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S8192x512 : Shape := ⟨2, ![8192, 512]⟩
abbrev S8192x3712 : Shape := ⟨2, ![8192, 3712]⟩
abbrev S8192x1024 : Shape := ⟨2, ![8192, 1024]⟩
abbrev S8x1024 : Shape := ⟨2, ![8, 1024]⟩
abbrev S8x128 : Shape := ⟨2, ![8, 128]⟩
abbrev S1024x1024 : Shape := ⟨2, ![1024, 1024]⟩
abbrev S8192x4x128 : Shape := ⟨3, ![8192, 4, 128]⟩
abbrev S1x128 : Shape := ⟨2, ![1, 128]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S1x1024 : Shape := ⟨2, ![1, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x3712, .f32⟩
  | .hbm, ⟨2, _⟩ => ⟨S8192x512, .bf16⟩
  | .hbm, ⟨3, _⟩ => ⟨S8192x1024, .f32⟩
  | .hbm, ⟨4, _⟩ => ⟨S8x1024, .f32⟩
  | .hbm, ⟨5, _⟩ => ⟨S8x128, .f32⟩
  | .hbm, ⟨6, _⟩ => ⟨S1024x1024, .f32⟩
  | .hbm, ⟨7, _⟩ => ⟨S8192x512, .f32⟩
  | .hbm, ⟨8, _⟩ => ⟨S8192x4x128, .f32⟩
  | .hbm, ⟨9, _⟩ => ⟨S1x128, .f32⟩
  | .hbm, ⟨10, _⟩ => ⟨S128, .f32⟩
  | .hbm, ⟨11, _⟩ => ⟨S8192x4x128, .f32⟩
  | .hbm, ⟨12, _⟩ => ⟨S_, .f32⟩
  | .hbm, ⟨13, _⟩ => ⟨S8192x4, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1, .f32⟩
  | .hbm, ⟨22, _⟩ => ⟨S8192x4x128, .f32⟩
  | .hbm, ⟨23, _⟩ => ⟨S8192x4x128, .f32⟩
  | .hbm, ⟨24, _⟩ => ⟨S1x1x128, .f32⟩
  | .hbm, ⟨25, _⟩ => ⟨S8192x4x128, .f32⟩
  | .hbm, ⟨26, _⟩ => ⟨S8192x4x128, .f32⟩
  | .hbm, ⟨27, _⟩ => ⟨S8192x4x128, .f32⟩
  | .hbm, ⟨28, _⟩ => ⟨S8192x4x128, .f32⟩
  | .hbm, ⟨29, _⟩ => ⟨S8192x4x128, .f32⟩
  | .hbm, ⟨30, _⟩ => ⟨S_, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4x128, .f32⟩
  | .hbm, ⟨35, _⟩ => ⟨S8192x4x128, .f32⟩
  | .hbm, ⟨36, _⟩ => ⟨S8192x4x128, .f32⟩
  | .hbm, ⟨37, _⟩ => ⟨S8192x4x128, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Math.Sums.lean ====
/-
  Facts about sums and about the extended reals that several calls share: a column read past its last row is
  zero, a sum over the rows taken block by block from the last block to the first, a sum of shifted products,
  the two spellings of the gradient of `x · logistic x`, and finiteness passed through sums and products.
-/
module

public import Idealize.ShloMosaic.Lib.Pointwise

@[expose] public section

open Idealize.ShloMosaic

namespace TrainStep

/-- Row `n` of a column of `N` entries, zero at and beyond the column's end. -/
noncomputable def ext {N : ℕ} (f : Fin N → EReal) (n : ℕ) : EReal := if h : n < N then f ⟨n, h⟩ else 0

theorem ext_lt {N : ℕ} (f : Fin N → EReal) {n : ℕ} (h : n < N) : ext f n = f ⟨n, h⟩ := dif_pos h

theorem ext_ge {N : ℕ} (f : Fin N → EReal) {n : ℕ} (h : ¬n < N) : ext f n = 0 := dif_neg h

/-- Blocks of `b` rows in order: the sum over the first `n` blocks is the sum over the first `b * n` rows. -/
theorem sum_blocks {M : Type} [AddCommMonoid M] (f : ℕ → M) (b n : ℕ) :
    ∑ t ∈ Finset.range n, ∑ r ∈ Finset.range b, f (b * t + r) = ∑ R ∈ Finset.range (b * n), f R := by
  induction n with
  | zero => simp
  | succ n ih => rw [Finset.sum_range_succ, ih, Nat.mul_succ, Finset.sum_range_add]

/-- The same with the blocks taken from the last to the first. -/
theorem sum_blocks_rev {M : Type} [AddCommMonoid M] (f : ℕ → M) (b n : ℕ) :
    ∑ t ∈ Finset.range n, ∑ r : Fin b, f (b * (n - 1 - t) + r) = ∑ R : Fin (b * n), f R := by
  rw [Finset.sum_range_reflect (fun t => ∑ r : Fin b, f (b * t + r)) n, Fin.sum_univ_eq_sum_range f (b * n),
    ← sum_blocks f b n]
  exact Finset.sum_congr rfl fun t _ => Fin.sum_univ_eq_sum_range (fun r => f (b * t + r)) b

/-- The same in order, over `Fin`. -/
theorem sum_blocks_fin {M : Type} [AddCommMonoid M] (f : ℕ → M) (b n : ℕ) :
    ∑ t ∈ Finset.range n, ∑ r : Fin b, f (b * t + r) = ∑ R : Fin (b * n), f R := by
  rw [Fin.sum_univ_eq_sum_range f (b * n), ← sum_blocks f b n]
  exact Finset.sum_congr rfl fun t _ => Fin.sum_univ_eq_sum_range (fun r => f (b * t + r)) b

/-- The sum over the rows of a column, its blocks taken from the last to the first. -/
theorem sum_ext_rev {N : ℕ} (b n : ℕ) (h : N = b * n) (f : Fin N → EReal) :
    ∑ t ∈ Finset.range n, ∑ r : Fin b, ext f (b * (n - 1 - t) + r) = ∑ R : Fin N, f R := by
  subst h
  rw [sum_blocks_rev (ext f) b n]
  exact Finset.sum_congr rfl fun R _ => ext_lt f R.isLt

/-- The sum over the rows of a column, block by block. -/
theorem sum_ext {N : ℕ} (b n : ℕ) (h : N = b * n) (f : Fin N → EReal) :
    ∑ t ∈ Finset.range n, ∑ r : Fin b, ext f (b * t + r) = ∑ R : Fin N, f R := by
  subst h
  rw [sum_blocks_fin (ext f) b n]
  exact Finset.sum_congr rfl fun R _ => ext_lt f R.isLt

/-- A column of `n + s` rows moved up by `s` rows against another: only the first `n` rows count. -/
theorem sum_shift {N : ℕ} (n s : ℕ) (h : N = n + s) (d g : Fin N → EReal) :
    ∑ R : Fin N, ext d (R + s) * g R
      = ∑ x : Fin n, d ⟨s + x, by have := x.isLt; omega⟩ * g ⟨x, by have := x.isLt; omega⟩ := by
  subst h
  rw [Fin.sum_univ_add, Finset.sum_eq_zero (s := Finset.univ) (f := fun i : Fin s => _) (fun i _ => by
    rw [ext_ge d (by simp), zero_mul]), add_zero]
  refine Finset.sum_congr rfl fun x _ => ?_
  rw [ext_lt d (by have := x.isLt; simp only [Fin.val_castAdd]; omega)]
  congr 2
  · exact Fin.ext (Nat.add_comm _ _)

theorem add_rev (a b c : EReal) : a + b + c = c + b + a := by
  rw [add_comm (a + b), add_comm a b, add_assoc]

/-- Neither infinity. -/
def Fin' (x : EReal) : Prop := x ≠ ⊥ ∧ x ≠ ⊤

theorem Fin'.coe {x : EReal} (h : Fin' x) : ∃ r : ℝ, x = (r : EReal) :=
  ⟨x.toReal, (EReal.coe_toReal h.2 h.1).symm⟩

theorem fin'_coe (r : ℝ) : Fin' (r : EReal) := ⟨EReal.coe_ne_bot r, EReal.coe_ne_top r⟩

theorem fin'_zero : Fin' 0 := fin'_coe 0

theorem Fin'.mul {x y : EReal} (hx : Fin' x) (hy : Fin' y) : Fin' (x * y) := by
  obtain ⟨a, rfl⟩ := hx.coe; obtain ⟨b, rfl⟩ := hy.coe
  rw [← EReal.coe_mul]; exact fin'_coe _

theorem Fin'.add {x y : EReal} (hx : Fin' x) (hy : Fin' y) : Fin' (x + y) := by
  obtain ⟨a, rfl⟩ := hx.coe; obtain ⟨b, rfl⟩ := hy.coe
  rw [← EReal.coe_add]; exact fin'_coe _

theorem Fin'.sum {ι : Type} (s : Finset ι) (f : ι → EReal) (h : ∀ i, Fin' (f i)) : Fin' (∑ i ∈ s, f i) :=
  Finset.sum_induction f Fin' (fun _ _ => Fin'.add) fin'_zero fun i _ => h i

/-- An entry that less itself is zero is finite. -/
theorem fin'_of_sub_self {x : EReal} (h : x - x = 0) : Fin' x := by
  refine ⟨?_, ?_⟩ <;> rintro rfl <;> simp at h

/-- The gradient of `x · logistic x` as jax writes it and as the kernel writes it, at a finite cotangent. -/
theorem silu_grad {ct : EReal} (h : Fin' ct) (x : EReal) :
    ct * Ideal.logistic x + x * ct * (Ideal.logistic x * (1 - Ideal.logistic x))
      = ct * (Ideal.logistic x * (1 + x * (1 - Ideal.logistic x))) := by
  obtain ⟨a, rfl⟩ := h.coe
  have h11 : (1 : EReal) - 1 = 0 := by rw [← EReal.coe_one, ← EReal.coe_sub]; simp
  induction x using EReal.rec with
  | bot => simp
  | top => simp [h11]
  | coe r =>
    rw [Ideal.logistic_coe, ← EReal.coe_one]
    simp only [← EReal.coe_sub, ← EReal.coe_mul, ← EReal.coe_add]
    congr 1
    ring

end TrainStep
-- ==== Proof.Ffn.Spec.lean ====
/-
  The gradient of one column half of the convolutional gated feed-forward block, written as plain functions of a
  row and a column. Both the kernel's results and the reference's are shown equal to these.
-/
module

public import proofs.«01_k».proof.Proof.Math.Sums

@[expose] public section

open Idealize.ShloMosaic

namespace TrainStep

/-- Two arrays of rank 2 agree when they agree at every row and column. -/
theorem ext2 {n0 n1 : ℕ} {α : Type} {x y : (⟨2, ![n0, n1]⟩ : Shape).Idx → α} (h : ∀ r c, x (ix2 r c) = y (ix2 r c)) : x = y :=
  funext fun i => by
    rw [eq_ix2 i]
    exact h _ _

/-- What one half of the block works on: the gated incoming gradient, the half's rows of `w_down`, the saved
products, the taps of the two causal convolutions (tap 2 meets the row itself) and the half's columns of `w_up`. -/
structure Half where
  D : Fin 8192 → Fin 1024 → EReal
  wd : Fin 1408 → Fin 1024 → EReal
  g : Fin 8192 → Fin 1408 → EReal
  u : Fin 8192 → Fin 1408 → EReal
  cg : Fin 3 → Fin 1408 → EReal
  cu : Fin 3 → Fin 1408 → EReal
  wg : Fin 1024 → Fin 1408 → EReal
  wu : Fin 1024 → Fin 1408 → EReal

namespace Half

/-- A column moved down by `s` rows, zeros coming in at the top. -/
noncomputable def down (x : Fin 8192 → Fin 1408 → EReal) (s : ℕ) (R : Fin 8192) (c : Fin 1408) : EReal :=
  if R.val < s then 0 else ext (fun R => x R c) (R - s)

/-- A column moved up by `s` rows, zeros coming in at the bottom. -/
noncomputable def up (x : Fin 8192 → Fin 1408 → EReal) (s : ℕ) (R : Fin 8192) (c : Fin 1408) : EReal :=
  ext (fun R => x R c) (R + s)

theorem down_eq (x : Fin 8192 → Fin 1408 → EReal) (s : ℕ) (R : Fin 8192) (c : Fin 1408) :
    down x s R c = if h : R.val < s then 0 else x ⟨R - s, by have := R.isLt; omega⟩ c := by
  unfold down
  by_cases h : R.val < s
  · rw [if_pos h, dif_pos h]
  · rw [if_neg h, dif_neg h, ext_lt _ (by have := R.isLt; omega)]

theorem mul_up (w : EReal) (x : Fin 8192 → Fin 1408 → EReal) (n s : ℕ) (hs : n + s = 8192) (R : Fin 8192) (c : Fin 1408) :
    w * up x s R c = if h : R.val < n then w * x ⟨s + R, by omega⟩ c else 0 := by
  unfold up
  by_cases h : R.val < n
  · rw [dif_pos h, ext_lt _ (by omega)]; simp only [Nat.add_comm]
  · rw [dif_neg h, ext_ge _ (by omega), mul_zero]

theorem up_zero (x : Fin 8192 → Fin 1408 → EReal) (R : Fin 8192) (c : Fin 1408) : up x 0 R c = x R c :=
  ext_lt (fun R => x R c) R.isLt

/-- The causal convolution with three taps. -/
noncomputable def conv (x : Fin 8192 → Fin 1408 → EReal) (w : Fin 3 → Fin 1408 → EReal) (R : Fin 8192)
    (c : Fin 1408) : EReal := w 2 c * x R c + w 1 c * down x 1 R c + w 0 c * down x 2 R c

/-- The convolution's gradient towards its input. -/
noncomputable def convT (d : Fin 8192 → Fin 1408 → EReal) (w : Fin 3 → Fin 1408 → EReal) (R : Fin 8192)
    (c : Fin 1408) : EReal := w 2 c * d R c + w 1 c * up d 1 R c + w 0 c * up d 2 R c

/-- The convolution's gradient towards tap `2 - s`. -/
noncomputable def tap (d x : Fin 8192 → Fin 1408 → EReal) (s : ℕ) (c : Fin 1408) : EReal :=
  ∑ R : Fin 8192, up d s R c * x R c

theorem tap_eq (d x : Fin 8192 → Fin 1408 → EReal) (n s : ℕ) (h : 8192 = n + s) (c : Fin 1408) :
    tap d x s c = ∑ R : Fin n, d ⟨s + R, by have := R.isLt; omega⟩ c * x ⟨R, by have := R.isLt; omega⟩ c :=
  sum_shift n s h (fun R => d R c) (fun R => x R c)

/-- The eight rows a tap gradient is returned in: rows 0, 1 and 2 are the taps, the others zero. -/
noncomputable def taps (d x : Fin 8192 → Fin 1408 → EReal) (k : Fin 8) (c : Fin 1408) : EReal :=
  if k.val < 3 then tap d x (2 - k) c else 0

variable (H : Half)

/-- The gradient at the gated product. -/
noncomputable def df (R : Fin 8192) (c : Fin 1408) : EReal := ∑ k, H.D R k * H.wd c k
/-- The gradient at the up columns' convolution. -/
noncomputable def duc (gc : Fin 8192 → Fin 1408 → EReal) (R : Fin 8192) (c : Fin 1408) : EReal :=
  H.df R c * (gc R c * Ideal.logistic (gc R c))
/-- The gradient at the gate columns' convolution. -/
noncomputable def dgc (gc uc : Fin 8192 → Fin 1408 → EReal) (R : Fin 8192) (c : Fin 1408) : EReal :=
  H.df R c * uc R c * (Ideal.logistic (gc R c) * (1 + gc R c * (1 - Ideal.logistic (gc R c))))
/-- Its two values for the convolutions of the saved products themselves. -/
noncomputable def dU : Fin 8192 → Fin 1408 → EReal := H.duc (conv H.g H.cg)
noncomputable def dG : Fin 8192 → Fin 1408 → EReal := H.dgc (conv H.g H.cg) (conv H.u H.cu)
/-- The gradients at the saved products. -/
noncomputable def dgp : Fin 8192 → Fin 1408 → EReal := convT H.dG H.cg
noncomputable def dup : Fin 8192 → Fin 1408 → EReal := convT H.dU H.cu
/-- The gradient at the block's input. -/
noncomputable def dh (R : Fin 8192) (k : Fin 1024) : EReal :=
  ∑ c, H.dgp R c * H.wg k c + ∑ c, H.dup R c * H.wu k c

/-- The first half's data, read off the step's arrays: the gradient at the block's output, the modulation rows (row 5
gates the block's output), the two saved products, the taps, `w_down` and `w_up`. -/
noncomputable def first (x0 : Vec Ideal (⟨2, ![8192, 1024]⟩ : Shape) .f32) (x1 : Vec Ideal (⟨2, ![8, 1024]⟩ : Shape) .f32)
    (x2 x3 : Vec Ideal (⟨2, ![8192, 1408]⟩ : Shape) .f32) (x4 : Vec Ideal (⟨2, ![8, 5632]⟩ : Shape) .f32)
    (x5 : Vec Ideal (⟨2, ![2816, 1024]⟩ : Shape) .f32) (x6 : Vec Ideal (⟨2, ![1024, 5632]⟩ : Shape) .f32) : Half where
  D R k := x1 (ix2 5 k) * x0 (ix2 R k)
  wd c k := x5 (ix2 ⟨c, by omega⟩ k)
  g R c := x2 (ix2 R c)
  u R c := x3 (ix2 R c)
  cg i c := x4 (ix2 ⟨i, by omega⟩ ⟨c, by omega⟩)
  cu i c := x4 (ix2 ⟨i, by omega⟩ ⟨2816 + c, by omega⟩)
  wg k c := x6 (ix2 k ⟨c, by omega⟩)
  wu k c := x6 (ix2 k ⟨2816 + c, by omega⟩)

end Half

end TrainStep
-- ==== Proof.Ffn.Block.lean ====
/-
  What the kernel computes at one grid point, on a block of 512 rows: the rows that follow the block are the first
  eight of the block before it in the sweep, carried over; zeros at the sweep's first block.
-/
module

public import proofs.«01_k».proof.Proof.Ffn.Spec

@[expose] public section

open Idealize.ShloMosaic

namespace TrainStep

/-- A block's part of `Half`, the two convolutions' values given. -/
structure Blk where
  D : Fin 512 → Fin 1024 → EReal
  wd : Fin 1408 → Fin 1024 → EReal
  g : Fin 512 → Fin 1408 → EReal
  u : Fin 512 → Fin 1408 → EReal
  gc : Fin 512 → Fin 1408 → EReal
  uc : Fin 512 → Fin 1408 → EReal
  cg : Fin 3 → Fin 1408 → EReal
  cu : Fin 3 → Fin 1408 → EReal
  wg : Fin 1024 → Fin 1408 → EReal
  wu : Fin 1024 → Fin 1408 → EReal

namespace Blk

/-- A block moved up by `s` rows, the carried rows coming in at the bottom. -/
noncomputable def up (d : Fin 512 → Fin 1408 → EReal) (cr : Fin 8 → Fin 1408 → EReal) (s : ℕ) (r : Fin 512)
    (c : Fin 1408) : EReal :=
  if h : r.val + s < 512 then d ⟨r + s, h⟩ c else ext (fun k => cr k c) (r + s - 512)

/-- The kernel moves a block up by rotating it, joined to the eight carried rows, down by `520 - s`. -/
theorem rotated (d : Fin 512 → Fin 1408 → EReal) (cr : Fin 8 → Fin 1408 → EReal) (s m : ℕ) (hs : s + m = 520) (h8 : s ≤ 8)
    (r : Fin 512) (c : Fin 1408) (h1 : (r.val + 520 - m) % 520 < 512 → (r.val + 520 - m) % 520 < 512)
    (h2 : ¬(r.val + 520 - m) % 520 < 512 → (r.val + 520 - m) % 520 - 512 < 8) :
    (if h : (r.val + 520 - m) % 520 < 512 then d ⟨(r.val + 520 - m) % 520, h1 h⟩ c
      else cr ⟨(r.val + 520 - m) % 520 - 512, h2 h⟩ c) = up d cr s r c := by
  have hr := r.isLt
  have e : (r.val + 520 - m) % 520 = r.val + s := by rw [Nat.mod_eq_of_lt (by omega)]; omega
  generalize (r.val + 520 - m) % 520 = q at e h1 h2 ⊢
  subst e
  unfold up
  by_cases h : r.val + s < 512
  · rw [dif_pos h, dif_pos h]
  · rw [dif_neg h, dif_neg h, ext_lt _ (by omega)]

noncomputable def convT (d : Fin 512 → Fin 1408 → EReal) (cr : Fin 8 → Fin 1408 → EReal)
    (w : Fin 3 → Fin 1408 → EReal) (r : Fin 512) (c : Fin 1408) : EReal :=
  w 2 c * d r c + w 1 c * up d cr 1 r c + w 0 c * up d cr 2 r c

/-- The block's share of a tap's gradient. -/
noncomputable def tap (d x : Fin 512 → Fin 1408 → EReal) (cr : Fin 8 → Fin 1408 → EReal) (s : ℕ) (c : Fin 1408) : EReal :=
  ∑ r : Fin 512, up d cr s r c * x r c

/-- The eight rows of tap gradients after the block's share is added. -/
noncomputable def addTaps (d x : Fin 512 → Fin 1408 → EReal) (cr acc : Fin 8 → Fin 1408 → EReal) (k : Fin 8)
    (c : Fin 1408) : EReal := if k.val < 3 then acc k c + tap d x cr (2 - k) c else acc k c

theorem up_zero (d : Fin 512 → Fin 1408 → EReal) (cr : Fin 8 → Fin 1408 → EReal) (r : Fin 512) (c : Fin 1408) :
    up d cr 0 r c = d r c := dif_pos r.isLt

/-- The three rows as the kernel adds them. -/
theorem addTaps_eq (d x : Fin 512 → Fin 1408 → EReal) (cr acc : Fin 8 → Fin 1408 → EReal) (k : Fin 8) (c : Fin 1408) :
    (if k.val = 0 then acc 0 c + ∑ r, up d cr 2 r c * x r c
      else if k.val = 1 then acc 1 c + ∑ r, up d cr 1 r c * x r c
      else if k.val = 2 then acc 2 c + ∑ r, d r c * x r c
      else acc k c) = addTaps d x cr acc k c := by
  have h2 : tap d x cr 0 c = ∑ r, d r c * x r c := Finset.sum_congr rfl fun r _ => by rw [up_zero]
  unfold addTaps
  match k with
  | 0 => simp [tap]
  | 1 => simp [tap]
  | 2 => simp [h2]
  | ⟨n + 3, h⟩ => simp

variable (B : Blk)

noncomputable def df (r : Fin 512) (c : Fin 1408) : EReal := ∑ k, B.D r k * B.wd c k
noncomputable def dU (r : Fin 512) (c : Fin 1408) : EReal := B.df r c * (B.gc r c * Ideal.logistic (B.gc r c))
noncomputable def dG (r : Fin 512) (c : Fin 1408) : EReal :=
  B.df r c * B.uc r c * (Ideal.logistic (B.gc r c) * (1 + B.gc r c * (1 - Ideal.logistic (B.gc r c))))
noncomputable def dgp (crG : Fin 8 → Fin 1408 → EReal) : Fin 512 → Fin 1408 → EReal := convT B.dG crG B.cg
noncomputable def dup (crU : Fin 8 → Fin 1408 → EReal) : Fin 512 → Fin 1408 → EReal := convT B.dU crU B.cu
noncomputable def dh (crG crU : Fin 8 → Fin 1408 → EReal) (r : Fin 512) (k : Fin 1024) : EReal :=
  ∑ c, B.dgp crG r c * B.wg k c + ∑ c, B.dup crU r c * B.wu k c

end Blk

end TrainStep
-- ==== Proof.Ffn.Case.lean ====
/-
  What one grid point of the kernel leaves in each result block and in the two carried blocks, as the payloads of
  its stores.
-/
module

public import proofs.«01_k».proof.Proof.Gen.KernelIdeal.Frame
public import proofs.«01_k».proof.Proof.Ffn.Block
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.KernelIdeal Cert.KernelIdeal.Gen

namespace TrainStep.Case

theorem hz : (![0, 0] : Fin 2 → Nat) = fun _ => 0 := funext fun a => by fin_cases a <;> rfl

/-- The newest store is row `o` of a block of eight rows: that row reads it, the others what was there. -/
theorem read_row {sig : RefSig} {κ : Kind} {sp : Space} {n : ℕ} (v : View sig κ sp (⟨2, ![8, n]⟩ : Shape) .f32)
    (f : v.ty.Contents (Elt Ideal)) (o : ℕ)
    (inb : ∀ a : Fin 2, (![o, 0] : Fin 2 → ℕ) a + (![1, n] : Fin 2 → ℕ) a ≤ (![8, n] : Fin 2 → ℕ) a)
    (w : (⟨2, ![1, n]⟩ : Shape).Idx → Elt Ideal .f32) (L : List (View.Piece (Elt Ideal) (⟨2, ![8, n]⟩ : Shape) .f32))
    (k : Fin 8) (c : Fin n) :
    v.read (Elt Ideal) (v.writes (Elt Ideal) f
        (⟨Rect.unit (s := (⟨2, ![8, n]⟩ : Shape)) ![o, 0] ![1, n] inb, w⟩ :: L)) (ix2 k c)
      = if k.val = o then w (ix2 0 c) else v.read (Elt Ideal) (v.writes (Elt Ideal) f L) (ix2 k c) := by
  by_cases h : k.val = o
  · rw [if_pos h]
    exact View.read_writes_cons_rows_of_mem v f inb w L (ix2 k c) (ix2 0 c) rfl (by simpa using h) rfl
  · rw [if_neg h]
    exact View.read_writes_cons_rows_of_not_mem v f inb w L (ix2 k c) rfl (W := 1) rfl (by
      show k.val < o ∨ o + 1 ≤ k.val
      omega)

/-- A load after a fill of the whole block reads the fill. -/
theorem read_fill {sig : RefSig} {κ : Kind} {sp : Space} (v : View sig κ sp S8x1408 .f32)
    (inb : ∀ a : Fin 2, (![0, 0] : Fin 2 → ℕ) a + (![8, 1408] : Fin 2 → ℕ) a ≤ (![8, 1408] : Fin 2 → ℕ) a)
    (Z : S8x1408.Idx → Elt Ideal .f32) (L : List (View.Piece (Elt Ideal) S8x1408 .f32)) (r : Rect S8x1408) :
    v.readCov (⟨Rect.unit (s := S8x1408) ![0, 0] ![8, 1408] inb, Z⟩ :: L) r.toLoadRect = View.ld Z r :=
  View.readCov_fill v inb Z L r fun a => by fin_cases a <;> rfl

/-- A load of one row passes a store to another row. -/
theorem read_skip {sig : RefSig} {κ : Kind} {sp : Space} (v : View sig κ sp S8x1408 .f32) (o o' : ℕ)
    (inb : ∀ a : Fin 2, (![o, 0] : Fin 2 → ℕ) a + (![1, 1408] : Fin 2 → ℕ) a ≤ (![8, 1408] : Fin 2 → ℕ) a)
    (inb' : ∀ a : Fin 2, (![o', 0] : Fin 2 → ℕ) a + (![1, 1408] : Fin 2 → ℕ) a ≤ (![8, 1408] : Fin 2 → ℕ) a)
    (w : (⟨2, ![1, 1408]⟩ : Shape).Idx → Elt Ideal .f32) (L : List (View.Piece (Elt Ideal) S8x1408 .f32)) (h : o' < o) :
    v.readCov (⟨Rect.unit (s := S8x1408) ![o, 0] ![1, 1408] inb, w⟩ :: L) (Rect.unit (s := S8x1408) ![o', 0] ![1, 1408] inb').toLoadRect
      = v.readCov L (Rect.unit (s := S8x1408) ![o', 0] ![1, 1408] inb').toLoadRect :=
  View.readCov_cons_of_rows_disjoint v o o' (Or.inr h) w L inb inb'

/-- The block's data, read off the blocks the point loads. -/
noncomputable def blk (x0 : Vec Ideal S512x1024 .f32) (x1 : Vec Ideal S8x1024 .f32) (x2 x3 x4 x5 : Vec Ideal S512x1408 .bf16)
    (x6 x7 : Vec Ideal S8x1408 .f32) (x8 : Vec Ideal S1408x1024 .bf16) (x9 x10 : Vec Ideal S1024x1408 .bf16) : Blk where
  D r k := x1 (ix2 5 k) * x0 (ix2 r k)
  wd c k := x8 (ix2 c k)
  g r c := x2 (ix2 r c)
  u r c := x3 (ix2 r c)
  gc r c := x4 (ix2 r c)
  uc r c := x5 (ix2 r c)
  cg i c := x6 (ix2 ⟨i, by omega⟩ c)
  cu i c := x7 (ix2 ⟨i, by omega⟩ c)
  wg k c := x9 (ix2 k c)
  wu k c := x10 (ix2 k c)

/-- The eight rows of a block of eight. -/
def rows (x : Vec Ideal S8x1408 .f32) (k : Fin 8) (c : Fin 1408) : EReal := x (ix2 k c)

variable (c : Dev nD) (i : grid0.Coords)
  (arg1 : Memref sig .tc .vmem S512x1024 .f32) (harg1 : arg1.IsWhole)
  (arg2 : Memref sig .tc .vmem S8x1024 .f32) (harg2 : arg2.IsWhole)
  (arg3 : Memref sig .tc .vmem S512x1408 .bf16) (harg3 : arg3.IsWhole)
  (arg4 : Memref sig .tc .vmem S512x1408 .bf16) (harg4 : arg4.IsWhole)
  (arg5 : Memref sig .tc .vmem S512x1408 .bf16) (harg5 : arg5.IsWhole)
  (arg6 : Memref sig .tc .vmem S512x1408 .bf16) (harg6 : arg6.IsWhole)
  (arg7 : Memref sig .tc .vmem S8x1408 .f32) (harg7 : arg7.IsWhole)
  (arg8 : Memref sig .tc .vmem S8x1408 .f32) (harg8 : arg8.IsWhole)
  (arg9 : Memref sig .tc .vmem S1408x1024 .bf16) (harg9 : arg9.IsWhole)
  (arg10 : Memref sig .tc .vmem S1024x1408 .bf16) (harg10 : arg10.IsWhole)
  (arg11 : Memref sig .tc .vmem S1024x1408 .bf16) (harg11 : arg11.IsWhole)
  (arg12 : Memref sig .tc .vmem S512x1024 .bf16) (harg12 : arg12.IsWhole)
  (arg13 : Memref sig .tc .vmem S512x1408 .bf16) (harg13 : arg13.IsWhole)
  (arg14 : Memref sig .tc .vmem S512x1408 .bf16) (harg14 : arg14.IsWhole)
  (arg15 : Memref sig .tc .vmem S512x1024 .f32) (harg15 : arg15.IsWhole)
  (arg16 : Memref sig .tc .vmem S8x1408 .f32) (harg16 : arg16.IsWhole)
  (arg17 : Memref sig .tc .vmem S8x1408 .f32) (harg17 : arg17.IsWhole)
  (arg18 : Memref sig .tc .vmem S8x1408 .f32) (harg18 : arg18.IsWhole)
  (arg19 : Memref sig .tc .vmem S8x1408 .f32) (harg19 : arg19.IsWhole)
  (x0 : Vec Ideal S512x1024 .f32)
  (x1 : Vec Ideal S8x1024 .f32)
  (x2 : Vec Ideal S512x1408 .bf16)
  (x3 : Vec Ideal S512x1408 .bf16)
  (x4 : Vec Ideal S512x1408 .bf16)
  (x5 : Vec Ideal S512x1408 .bf16)
  (x6 : Vec Ideal S8x1408 .f32)
  (x7 : Vec Ideal S8x1408 .f32)
  (x8 : Vec Ideal S1408x1024 .bf16)
  (x9 : Vec Ideal S1024x1408 .bf16)
  (x10 : Vec Ideal S1024x1408 .bf16)
  (xo15 xo16 xs0 xs1 : Vec Ideal S8x1408 .f32)

theorem pay_dU (r : Fin 512) (l : Fin 1408) :
    k0_pay11 (F := Ideal) x0 (View.ld x1 (Rect.unit (s := S8x1024) ![5, 0] S1x1024.size inb_S8x1024_S1x1024_5_0)) x4 x8 (ix2 r l)
      = (blk x0 x1 x2 x3 x4 x5 x6 x7 x8 x9 x10).dU r l := by
  pointwise [k0_pay11, k0_pay10, k0_pay9, k0_pay8, k0_pay5]
  rfl

theorem pay_dG (r : Fin 512) (l : Fin 1408) :
    k0_pay12 (F := Ideal) x0 (View.ld x1 (Rect.unit (s := S8x1024) ![5, 0] S1x1024.size inb_S8x1024_S1x1024_5_0)) x4 x5 x8 (ix2 r l)
      = (blk x0 x1 x2 x3 x4 x5 x6 x7 x8 x9 x10).dG r l := by
  pointwise [k0_pay12, k0_pay10, k0_pay9, k0_pay8, k0_pay5]
  rfl

theorem pay_up1 (d : FVec Ideal S512x1408 .f32) (cr : Vec Ideal S8x1408 .f32) (r : Fin 512) (l : Fin 1408) :
    k0_pay13 (F := Ideal) d cr (ix2 r l) = Blk.up (fun r l => d (ix2 r l)) (rows cr) 1 r l := by
  pointwise [k0_pay13]
  exact Blk.rotated (fun r l => d (ix2 r l)) (rows cr) 1 519 rfl (by omega) r l _ _
theorem pay_up2 (d : FVec Ideal S512x1408 .f32) (cr : Vec Ideal S8x1408 .f32) (r : Fin 512) (l : Fin 1408) :
    k0_pay14 (F := Ideal) d cr (ix2 r l) = Blk.up (fun r l => d (ix2 r l)) (rows cr) 2 r l := by
  pointwise [k0_pay14]
  exact Blk.rotated (fun r l => d (ix2 r l)) (rows cr) 2 518 rfl (by omega) r l _ _

theorem pay_up1u (d : FVec Ideal S512x1408 .f32) (cr : Vec Ideal S8x1408 .f32) (r : Fin 512) (l : Fin 1408) :
    k0_pay15 (F := Ideal) d cr (ix2 r l) = Blk.up (fun r l => d (ix2 r l)) (rows cr) 1 r l := pay_up1 d cr r l
theorem pay_up2u (d : FVec Ideal S512x1408 .f32) (cr : Vec Ideal S8x1408 .f32) (r : Fin 512) (l : Fin 1408) :
    k0_pay16 (F := Ideal) d cr (ix2 r l) = Blk.up (fun r l => d (ix2 r l)) (rows cr) 2 r l := pay_up2 d cr r l

/-- The blocks the first point clears are zero. -/
theorem zero1 : rows (k0_pay1 (F := Ideal)) = fun _ _ => 0 := by
  funext k l; unfold rows; pointwise [k0_pay1]
theorem zero2 : rows (k0_pay2 (F := Ideal)) = fun _ _ => 0 := by
  funext k l; unfold rows; pointwise [k0_pay2]
theorem zero3 (k : Fin 8) (l : Fin 1408) : k0_pay3 (F := Ideal) (ix2 k l) = 0 := by pointwise [k0_pay3]
theorem zero4 (k : Fin 8) (l : Fin 1408) : k0_pay4 (F := Ideal) (ix2 k l) = 0 := by pointwise [k0_pay4]

theorem B_11 (hc : ¬cond0_0 i) (r : Fin 512) (l : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 r l)
      = (blk x0 x1 x2 x3 x4 x5 x6 x7 x8 x9 x10).D r l := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay5]
  rfl

theorem B_12 (hc : ¬cond0_0 i) (r : Fin 512) (l : Fin 1408) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 r l)
      = (blk x0 x1 x2 x3 x4 x5 x6 x7 x8 x9 x10).dgp (rows xs0) r l := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay27, k0_pay25, k0_pay26]
  simp only [pay_up1, pay_up2, pay_up1u, pay_up2u, pay_dG _ x1 x2 x3 _ _ x6 x7 _ x9 x10, pay_dU _ x1 x2 x3 _ x5 x6 x7 _ x9 x10]
  rfl

theorem B_13 (hc : ¬cond0_0 i) (r : Fin 512) (l : Fin 1408) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 r l)
      = (blk x0 x1 x2 x3 x4 x5 x6 x7 x8 x9 x10).dup (rows xs1) r l := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay28]
  simp only [pay_up1, pay_up2, pay_up1u, pay_up2u, pay_dG _ x1 x2 x3 _ _ x6 x7 _ x9 x10, pay_dU _ x1 x2 x3 _ x5 x6 x7 _ x9 x10]
  rfl

theorem B_14 (hc : ¬cond0_0 i) (r : Fin 512) (l : Fin 1024) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 r l)
      = (blk x0 x1 x2 x3 x4 x5 x6 x7 x8 x9 x10).dh (rows xs0) (rows xs1) r l := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay31, k0_pay28, k0_pay27, k0_pay25, k0_pay26]
  simp only [pay_up1, pay_up2, pay_up1u, pay_up2u, pay_dG _ x1 x2 x3 _ _ x6 x7 _ x9 x10, pay_dU _ x1 x2 x3 _ x5 x6 x7 _ x9 x10]
  rfl

theorem B_15 (hc : ¬cond0_0 i) (k : Fin 8) (l : Fin 1408) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 k l)
      = Blk.addTaps (blk x0 x1 x2 x3 x4 x5 x6 x7 x8 x9 x10).dG (blk x0 x1 x2 x3 x4 x5 x6 x7 x8 x9 x10).g (rows xs0) (rows xo15) k l := by
  unfold out0_B_15 kernelRun0_B
  dsimp only
  sl_unfold_words
  rw [read_row, read_row, read_row]
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [View.writes_nil, Memref.IsWhole.read_unread]
  pointwise [k0_pay23, k0_pay21, k0_pay19, k0_pay20, k0_pay17, k0_pay6]
  simp only [pay_up1, pay_up2, pay_up1u, pay_up2u, pay_dG _ x1 x2 x3 _ _ x6 x7 _ x9 x10, pay_dU _ x1 x2 x3 _ x5 x6 x7 _ x9 x10]
  exact Blk.addTaps_eq (blk x0 x1 x2 x3 x4 x5 x6 x7 x8 x9 x10).dG (blk x0 x1 x2 x3 x4 x5 x6 x7 x8 x9 x10).g (rows xs0) (rows xo15) k l

theorem B_16 (hc : ¬cond0_0 i) (k : Fin 8) (l : Fin 1408) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 k l)
      = Blk.addTaps (blk x0 x1 x2 x3 x4 x5 x6 x7 x8 x9 x10).dU (blk x0 x1 x2 x3 x4 x5 x6 x7 x8 x9 x10).u (rows xs1) (rows xo16) k l := by
  unfold out0_B_16 kernelRun0_B
  dsimp only
  sl_unfold_words
  rw [read_row, read_row, read_row]
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [View.writes_nil, Memref.IsWhole.read_unread]
  pointwise [k0_pay24, k0_pay22, k0_pay18, k0_pay7]
  simp only [pay_up1, pay_up2, pay_up1u, pay_up2u, pay_dG _ x1 x2 x3 _ _ x6 x7 _ x9 x10, pay_dU _ x1 x2 x3 _ x5 x6 x7 _ x9 x10]
  exact Blk.addTaps_eq (blk x0 x1 x2 x3 x4 x5 x6 x7 x8 x9 x10).dU (blk x0 x1 x2 x3 x4 x5 x6 x7 x8 x9 x10).u (rows xs1) (rows xo16) k l

theorem B_s0 (hc : ¬cond0_0 i) (k : Fin 8) (l : Fin 1408) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 k l)
      = (blk x0 x1 x2 x3 x4 x5 x6 x7 x8 x9 x10).dG ⟨k, by omega⟩ l := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay29]
  simp only [pay_up1, pay_up2, pay_up1u, pay_up2u, pay_dG _ x1 x2 x3 _ _ x6 x7 _ x9 x10, pay_dU _ x1 x2 x3 _ x5 x6 x7 _ x9 x10]

theorem B_s1 (hc : ¬cond0_0 i) (k : Fin 8) (l : Fin 1408) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1 (ix2 k l)
      = (blk x0 x1 x2 x3 x4 x5 x6 x7 x8 x9 x10).dU ⟨k, by omega⟩ l := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 xo15 xo16 xs0 xs1)]
  unfold kernelRun0_B
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay30]
  simp only [pay_up1, pay_up2, pay_up1u, pay_up2u, pay_dG _ x1 x2 x3 _ _ x6 x7 _ x9 x10, pay_dU _ x1 x2 x3 _ x5 x6 x7 _ x9 x10]

theorem A_11 (hc : cond0_0 i) (r : Fin 512) (l : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 r l)
      = (blk x0 x1 x2 x3 x4 x5 x6 x7 x8 x9 x10).D r l := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay5]
  rfl

theorem A_12 (hc : cond0_0 i) (r : Fin 512) (l : Fin 1408) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 r l)
      = (blk x0 x1 x2 x3 x4 x5 x6 x7 x8 x9 x10).dgp (fun _ _ => 0) r l := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [read_skip, Nat.zero_lt_one, Nat.zero_lt_two, Nat.one_lt_two, read_fill, View.ld_unit_zero (S := S8x1408) hz]
  pointwise [k0_pay27, k0_pay25, k0_pay26]
  simp only [pay_up1, pay_up2, pay_up1u, pay_up2u, pay_dG _ x1 x2 x3 _ _ x6 x7 _ x9 x10, pay_dU _ x1 x2 x3 _ x5 x6 x7 _ x9 x10, zero1, zero2, zero3, zero4]
  rfl

theorem A_13 (hc : cond0_0 i) (r : Fin 512) (l : Fin 1408) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 r l)
      = (blk x0 x1 x2 x3 x4 x5 x6 x7 x8 x9 x10).dup (fun _ _ => 0) r l := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [read_skip, Nat.zero_lt_one, Nat.zero_lt_two, Nat.one_lt_two, read_fill, View.ld_unit_zero (S := S8x1408) hz]
  pointwise [k0_pay28]
  simp only [pay_up1, pay_up2, pay_up1u, pay_up2u, pay_dG _ x1 x2 x3 _ _ x6 x7 _ x9 x10, pay_dU _ x1 x2 x3 _ x5 x6 x7 _ x9 x10, zero1, zero2, zero3, zero4]
  rfl

theorem A_14 (hc : cond0_0 i) (r : Fin 512) (l : Fin 1024) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 r l)
      = (blk x0 x1 x2 x3 x4 x5 x6 x7 x8 x9 x10).dh (fun _ _ => 0) (fun _ _ => 0) r l := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_unit_zero hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [read_skip, Nat.zero_lt_one, Nat.zero_lt_two, Nat.one_lt_two, read_fill, View.ld_unit_zero (S := S8x1408) hz]
  pointwise [k0_pay31, k0_pay28, k0_pay27, k0_pay25, k0_pay26]
  simp only [pay_up1, pay_up2, pay_up1u, pay_up2u, pay_dG _ x1 x2 x3 _ _ x6 x7 _ x9 x10, pay_dU _ x1 x2 x3 _ x5 x6 x7 _ x9 x10, zero1, zero2, zero3, zero4]
  rfl

theorem A_15 (hc : cond0_0 i) (k : Fin 8) (l : Fin 1408) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 k l)
      = Blk.addTaps (blk x0 x1 x2 x3 x4 x5 x6 x7 x8 x9 x10).dG (blk x0 x1 x2 x3 x4 x5 x6 x7 x8 x9 x10).g (fun _ _ => 0) (fun _ _ => 0) k l := by
  unfold out0_A_15 kernelRun0_A
  dsimp only
  sl_unfold_words
  rw [read_row, read_row, read_row]
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [read_skip, Nat.zero_lt_one, Nat.zero_lt_two, Nat.one_lt_two, read_fill, View.ld_unit_zero (S := S8x1408) hz]
  rw [show ∀ f Z, VO0_15.read (Elt Ideal) (VO0_15.writes (Elt Ideal) f [⟨Rect.unit (s := S8x1408) ![0, 0] ![8, 1408] inb_S8x1408_S8x1408_0_0, Z⟩]) = Z from fun f Z => View.read_writes_full (s := S8x1408) VO0_15 f _ Z []]
  pointwise [k0_pay23, k0_pay21, k0_pay19, k0_pay20, k0_pay17, k0_pay6]
  simp only [pay_up1, pay_up2, pay_up1u, pay_up2u, pay_dG _ x1 x2 x3 _ _ x6 x7 _ x9 x10, pay_dU _ x1 x2 x3 _ x5 x6 x7 _ x9 x10, zero1, zero2, zero3, zero4]
  exact Blk.addTaps_eq (blk x0 x1 x2 x3 x4 x5 x6 x7 x8 x9 x10).dG (blk x0 x1 x2 x3 x4 x5 x6 x7 x8 x9 x10).g (fun _ _ => 0) (fun _ _ => 0) k l

theorem A_16 (hc : cond0_0 i) (k : Fin 8) (l : Fin 1408) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 k l)
      = Blk.addTaps (blk x0 x1 x2 x3 x4 x5 x6 x7 x8 x9 x10).dU (blk x0 x1 x2 x3 x4 x5 x6 x7 x8 x9 x10).u (fun _ _ => 0) (fun _ _ => 0) k l := by
  unfold out0_A_16 kernelRun0_A
  dsimp only
  sl_unfold_words
  rw [read_row, read_row, read_row]
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  simp only [read_skip, Nat.zero_lt_one, Nat.zero_lt_two, Nat.one_lt_two, read_fill, View.ld_unit_zero (S := S8x1408) hz]
  rw [show ∀ f Z, VO0_16.read (Elt Ideal) (VO0_16.writes (Elt Ideal) f [⟨Rect.unit (s := S8x1408) ![0, 0] ![8, 1408] inb_S8x1408_S8x1408_0_0, Z⟩]) = Z from fun f Z => View.read_writes_full (s := S8x1408) VO0_16 f _ Z []]
  pointwise [k0_pay24, k0_pay22, k0_pay18, k0_pay7]
  simp only [pay_up1, pay_up2, pay_up1u, pay_up2u, pay_dG _ x1 x2 x3 _ _ x6 x7 _ x9 x10, pay_dU _ x1 x2 x3 _ x5 x6 x7 _ x9 x10, zero1, zero2, zero3, zero4]
  exact Blk.addTaps_eq (blk x0 x1 x2 x3 x4 x5 x6 x7 x8 x9 x10).dU (blk x0 x1 x2 x3 x4 x5 x6 x7 x8 x9 x10).u (fun _ _ => 0) (fun _ _ => 0) k l

theorem A_s0 (hc : cond0_0 i) (k : Fin 8) (l : Fin 1408) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 k l)
      = (blk x0 x1 x2 x3 x4 x5 x6 x7 x8 x9 x10).dG ⟨k, by omega⟩ l := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_cons_unit_zero (S := S8x1408) hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay29]
  simp only [pay_up1, pay_up2, pay_up1u, pay_up2u, pay_dG _ x1 x2 x3 _ _ x6 x7 _ x9 x10, pay_dU _ x1 x2 x3 _ x5 x6 x7 _ x9 x10]

theorem A_s1 (hc : cond0_0 i) (k : Fin 8) (l : Fin 1408) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10 (ix2 k l)
      = (blk x0 x1 x2 x3 x4 x5 x6 x7 x8 x9 x10).dU ⟨k, by omega⟩ l := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc x0 x1 x2 x3 x4 x5 x6 x7 x8 x9 x10)]
  unfold kernelRun0_A
  dsimp only
  rw [View.canon_cons_unit_zero (S := S8x1408) hz]
  sl_unfold_words
  simp only [View.readAt_eq_ld, Memref.IsWhole.read_unread, View.ld_unit_zero (S := S8x1408) hz,
    View.ld_unit_zero (S := S512x1408) hz, View.ld_unit_zero (S := S512x1024) hz, View.ld_unit_zero (S := S1408x1024) hz,
    View.ld_unit_zero (S := S1024x1408) hz, shapeCast_self]
  pointwise [k0_pay30]
  simp only [pay_up1, pay_up2, pay_up1u, pay_up2u, pay_dG _ x1 x2 x3 _ _ x6 x7 _ x9 x10, pay_dU _ x1 x2 x3 _ x5 x6 x7 _ x9 x10]

end TrainStep.Case
-- ==== Proof.Ffn.Inputs.lean ====
/-
  The blocks a grid point loads, read at a row and a column: point `t` works on the block of 512 rows that is `t`-th
  from the last, and its data are the half's data at those rows.
-/
module

public import proofs.«01_k».proof.Proof.Gen.KernelIdeal.Value
public import proofs.«01_k».proof.Proof.Ffn.Case
public import Idealize.ShloMosaic.Lib.Claim
public import Idealize.ShloMosaic.Lib.Pipeline.ValueKit.Point

@[expose] public section

set_option maxRecDepth 16384

open Idealize.ShloMosaic Idealize.ShloMosaic.TcCoe Idealize.SL.Sem
open Cert.KernelIdeal Cert.KernelIdeal.Gen

namespace TrainStep.Kern

variable (m : (ℓ : Loc nD τ sig) → Buf (Elt Ideal) ℓ) (d : Dev nD)

/-- The first half's data, read off the argument buffers of device `d`. -/
noncomputable def H : Half :=
  Half.first (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))

/-- Row `r` of the block of point `t`. -/
def row (t : Fin cfg0.N) (r : Fin 512) : Fin 8192 := ⟨512 * (15 - t.val) + r.val, by have := r.isLt; omega⟩

theorem idx : ∀ t : Fin cfg0.N, win0_0.index t = ![15 - t.val, 0] ∧ win0_1.index t = ![0, 0]
    ∧ win0_2.index t = ![15 - t.val, 0] ∧ win0_3.index t = ![15 - t.val, 0] ∧ win0_4.index t = ![15 - t.val, 0]
    ∧ win0_5.index t = ![15 - t.val, 0] ∧ win0_6.index t = ![0, 0] ∧ win0_7.index t = ![0, 2]
    ∧ win0_8.index t = ![0, 0] ∧ win0_9.index t = ![0, 0] ∧ win0_10.index t = ![0, 2] :=
  (by decide +kernel : ∀ t : Fin grid0.N, _)

/-- What point `t` loads. -/
noncomputable def blkAt (t : Fin cfg0.N) : Blk :=
  Case.blk (iblk m d 0 t) (iblk m d 1 t) (iblk m d 2 t) (iblk m d 3 t) (iblk m d 4 t) (iblk m d 5 t) (iblk m d 6 t)
    (iblk m d 7 t) (iblk m d 8 t) (iblk m d 9 t) (iblk m d 10 t)

variable (t : Fin cfg0.N) (r : Fin 512) (l : Fin 1408)

theorem D_eq (k : Fin 1024) : (blkAt m d t).D r k = (H m d).D (row t r) k := by
  have e1 : iblk m d 1 t (ix2 5 k) = m ((d : Thread nD τ).loc main_arg1) (ix2 5 k) := by blk_ext! [iblk, V, idx t]
  have e0 : iblk m d 0 t (ix2 r k) = m ((d : Thread nD τ).loc main_arg0) (ix2 (row t r) k) := by
    unfold row
    blk_ext! [iblk, V, idx t]
  exact congrArg₂ (fun x y : EReal => x * y) e1 e0

theorem wd_eq (k : Fin 1024) : (blkAt m d t).wd l k = (H m d).wd l k := by
  show iblk m d 8 t (ix2 l k) = _
  unfold H Half.first
  dsimp only
  blk_ext! [iblk, V, idx t]

theorem g_eq : (blkAt m d t).g r l = (H m d).g (row t r) l := by
  show iblk m d 2 t (ix2 r l) = _
  unfold H Half.first row
  dsimp only
  blk_ext! [iblk, V, idx t]

theorem u_eq : (blkAt m d t).u r l = (H m d).u (row t r) l := by
  show iblk m d 3 t (ix2 r l) = _
  unfold H Half.first row
  dsimp only
  blk_ext! [iblk, V, idx t]

theorem cg_eq (k : Fin 3) : (blkAt m d t).cg k l = (H m d).cg k l := by
  show iblk m d 6 t (ix2 ⟨k, _⟩ l) = _
  unfold H Half.first
  dsimp only
  blk_ext! [iblk, V, idx t]

theorem cu_eq (k : Fin 3) : (blkAt m d t).cu k l = (H m d).cu k l := by
  show iblk m d 7 t (ix2 ⟨k, _⟩ l) = _
  unfold H Half.first
  dsimp only
  blk_ext! [iblk, V, idx t]

theorem wg_eq (k : Fin 1024) : (blkAt m d t).wg k l = (H m d).wg k l := by
  show iblk m d 9 t (ix2 k l) = _
  unfold H Half.first
  dsimp only
  blk_ext! [iblk, V, idx t]

theorem wu_eq (k : Fin 1024) : (blkAt m d t).wu k l = (H m d).wu k l := by
  show iblk m d 10 t (ix2 k l) = _
  unfold H Half.first
  dsimp only
  blk_ext! [iblk, V, idx t]

/-- The two convolved products the host hands in. -/
theorem gc_eq : (blkAt m d t).gc r l = Half.conv (H m d).g (H m d).cg (row t r) l := by
  show iblk m d 4 t (ix2 r l) = _
  have e : iblk m d 4 t (ix2 r l) = V m d main_v24 (ix2 (row t r) l) := by
    unfold row
    blk_ext [iblk, idx t]
  rw [e]
  entry_read
  pointwise
  unfold Half.conv
  simp only [Half.down_eq]
  rfl

theorem uc_eq : (blkAt m d t).uc r l = Half.conv (H m d).u (H m d).cu (row t r) l := by
  show iblk m d 5 t (ix2 r l) = _
  have e : iblk m d 5 t (ix2 r l) = V m d main_v49 (ix2 (row t r) l) := by
    unfold row
    blk_ext [iblk, idx t]
  rw [e]
  entry_read
  pointwise
  unfold Half.conv
  simp only [Half.down_eq]
  rfl

end TrainStep.Kern
-- ==== Proof.Ffn.Sweep.lean ====
/-
  The sweep over the sixteen blocks, last block first: with the block's data the half's data at the block's rows, and
  the carried rows the first eight of the block after it, what a point computes is the half's gradient at those rows,
  and the tap gradients collected so far are the sums over the blocks done.
-/
module

public import proofs.«01_k».proof.Proof.Ffn.Block

@[expose] public section

open Idealize.ShloMosaic

namespace TrainStep

/-- Row `r` of block `o`. -/
def at512 (o : Fin 16) (r : Fin 512) : Fin 8192 := ⟨512 * o.val + r.val, by have := o.isLt; have := r.isLt; omega⟩

/-- The carried rows are rows `n`, `n + 1`, … of the column, zero past its end. -/
def Carry (X : Fin 8192 → Fin 1408 → EReal) (n : ℕ) (cr : Fin 8 → Fin 1408 → EReal) : Prop :=
  ∀ k c, cr k c = ext (fun R => X R c) (n + k)

theorem carry_zero (X : Fin 8192 → Fin 1408 → EReal) : Carry X 8192 fun _ _ => 0 :=
  fun k _ => (ext_ge _ (by omega)).symm

theorem carry_of (X : Fin 8192 → Fin 1408 → EReal) (o : Fin 16) (d : Fin 512 → Fin 1408 → EReal)
    (hd : ∀ r c, d r c = X (at512 o r) c) : Carry X (512 * o) fun k c => d ⟨k, by omega⟩ c := fun k c => by
  show d ⟨k, _⟩ c = _
  rw [hd, ext_lt _ (by omega)]
  rfl

theorem Blk.up_eq {X : Fin 8192 → Fin 1408 → EReal} {o : Fin 16} {d : Fin 512 → Fin 1408 → EReal}
    {cr : Fin 8 → Fin 1408 → EReal} (hd : ∀ r c, d r c = X (at512 o r) c) (hc : Carry X (512 * (o + 1)) cr)
    (s : ℕ) (hs : s ≤ 8) (r : Fin 512) (c : Fin 1408) : Blk.up d cr s r c = Half.up X s (at512 o r) c := by
  have ho := o.isLt
  have hr := r.isLt
  unfold Blk.up Half.up
  have e : (at512 o r).val = 512 * o.val + r.val := rfl
  by_cases h : r.val + s < 512
  · rw [dif_pos h, hd, ext_lt _ (by omega)]
    congr 1
    exact Fin.ext (show 512 * o.val + (r.val + s) = 512 * o.val + r.val + s by omega)
  · rw [dif_neg h, ext_lt _ (by omega), hc]
    congr 1
    show 512 * (o.val + 1) + (r.val + s - 512) = _
    omega

theorem Blk.convT_eq {X : Fin 8192 → Fin 1408 → EReal} {o : Fin 16} {d : Fin 512 → Fin 1408 → EReal}
    {cr : Fin 8 → Fin 1408 → EReal} (hd : ∀ r c, d r c = X (at512 o r) c) (hc : Carry X (512 * (o + 1)) cr)
    (w : Fin 3 → Fin 1408 → EReal) (r : Fin 512) (c : Fin 1408) :
    Blk.convT d cr w r c = Half.convT X w (at512 o r) c := by
  unfold Blk.convT Half.convT
  rw [hd, Blk.up_eq hd hc 1 (by omega), Blk.up_eq hd hc 2 (by omega)]

/-- The tap gradients over the first `n` blocks of the sweep. -/
noncomputable def partTaps (X x : Fin 8192 → Fin 1408 → EReal) (n : ℕ) (k : Fin 8) (c : Fin 1408) : EReal :=
  if k.val < 3 then ∑ t ∈ Finset.range n, ∑ r : Fin 512, ext (fun R => Half.up X (2 - k) R c * x R c) (512 * (15 - t) + r)
  else 0

theorem partTaps_zero (X x : Fin 8192 → Fin 1408 → EReal) : partTaps X x 0 = fun _ _ => 0 := by
  funext k c
  unfold partTaps
  rw [Finset.sum_range_zero, ite_self]

theorem partTaps_all (X x : Fin 8192 → Fin 1408 → EReal) : partTaps X x 16 = Half.taps X x := by
  funext k c
  unfold partTaps Half.taps Half.tap
  refine if_congr Iff.rfl ?_ rfl
  have h := sum_ext_rev 512 16 (by norm_num) fun R : Fin 8192 => Half.up X (2 - k) R c * x R c
  rw [show (16 : ℕ) - 1 = 15 from rfl] at h
  exact h

theorem addTaps_step {X x : Fin 8192 → Fin 1408 → EReal} {n : ℕ} (hn : n < 16) {d y : Fin 512 → Fin 1408 → EReal}
    {cr : Fin 8 → Fin 1408 → EReal} (hd : ∀ r c, d r c = X (at512 ⟨15 - n, by omega⟩ r) c)
    (hy : ∀ r c, y r c = x (at512 ⟨15 - n, by omega⟩ r) c) (hc : Carry X (512 * (15 - n + 1)) cr) :
    Blk.addTaps d y cr (partTaps X x n) = partTaps X x (n + 1) := by
  funext k c
  unfold Blk.addTaps partTaps
  by_cases h : k.val < 3
  · rw [if_pos h, if_pos h, if_pos h, Finset.sum_range_succ]
    congr 1
    refine Finset.sum_congr rfl fun r _ => ?_
    rw [Blk.up_eq hd hc _ (by omega), hy, ext_lt _ (by have := r.isLt; omega)]
    rfl
  · rw [if_neg h, if_neg h, if_neg h]

/-- A block's data are the half's at block `o`. -/
structure Blk.Of (B : Blk) (H : Half) (o : Fin 16) : Prop where
  D : ∀ r k, B.D r k = H.D (at512 o r) k
  wd : ∀ c k, B.wd c k = H.wd c k
  g : ∀ r c, B.g r c = H.g (at512 o r) c
  u : ∀ r c, B.u r c = H.u (at512 o r) c
  gc : ∀ r c, B.gc r c = Half.conv H.g H.cg (at512 o r) c
  uc : ∀ r c, B.uc r c = Half.conv H.u H.cu (at512 o r) c
  cg : ∀ k c, B.cg k c = H.cg k c
  cu : ∀ k c, B.cu k c = H.cu k c
  wg : ∀ k c, B.wg k c = H.wg k c
  wu : ∀ k c, B.wu k c = H.wu k c

namespace Blk.Of

variable {B : Blk} {H : Half} {o : Fin 16} (h : B.Of H o)
include h

theorem df (r : Fin 512) (c : Fin 1408) : B.df r c = H.df (at512 o r) c :=
  Finset.sum_congr rfl fun k _ => by rw [h.D, h.wd]

theorem dU (r : Fin 512) (c : Fin 1408) : B.dU r c = H.dU (at512 o r) c := by
  unfold Blk.dU Half.dU Half.duc
  rw [h.df, h.gc]

theorem dG (r : Fin 512) (c : Fin 1408) : B.dG r c = H.dG (at512 o r) c := by
  unfold Blk.dG Half.dG Half.dgc
  rw [h.df, h.gc, h.uc]

theorem dgp {cr : Fin 8 → Fin 1408 → EReal} (hc : Carry H.dG (512 * (o + 1)) cr) (r : Fin 512) (c : Fin 1408) :
    B.dgp cr r c = H.dgp (at512 o r) c := by
  have e : B.cg = H.cg := funext fun k => funext fun c => h.cg k c
  unfold Blk.dgp Half.dgp
  rw [e]
  exact Blk.convT_eq h.dG hc _ r c

theorem dup {cr : Fin 8 → Fin 1408 → EReal} (hc : Carry H.dU (512 * (o + 1)) cr) (r : Fin 512) (c : Fin 1408) :
    B.dup cr r c = H.dup (at512 o r) c := by
  have e : B.cu = H.cu := funext fun k => funext fun c => h.cu k c
  unfold Blk.dup Half.dup
  rw [e]
  exact Blk.convT_eq h.dU hc _ r c

theorem dh {crG crU : Fin 8 → Fin 1408 → EReal} (hg : Carry H.dG (512 * (o + 1)) crG)
    (hu : Carry H.dU (512 * (o + 1)) crU) (r : Fin 512) (k : Fin 1024) : B.dh crG crU r k = H.dh (at512 o r) k := by
  unfold Blk.dh Half.dh
  congr 1 <;> refine Finset.sum_congr rfl fun c _ => ?_
  · rw [h.dgp hg, h.wg]
  · rw [h.dup hu, h.wu]

end Blk.Of

end TrainStep
-- ==== Proof.Ffn.Points.lean ====
/-
  What the kernel's blocks hold after each grid point, by induction on the point: the carried rows, the tap gradients
  collected so far, and the four row blocks of the results.
-/
module

public import proofs.«01_k».proof.Proof.Ffn.Inputs
public import proofs.«01_k».proof.Proof.Ffn.Sweep

@[expose] public section

set_option maxRecDepth 16384

open Idealize.ShloMosaic Idealize.ShloMosaic.TcCoe Idealize.SL.Sem
open Cert.KernelIdeal Cert.KernelIdeal.Gen

namespace TrainStep.Kern

variable (m : (ℓ : Loc nD τ sig) → Buf (Elt Ideal) ℓ) (d : Dev nD)

/-- The block of point `t`, counted from the first row. -/
def blkNo (t : Fin cfg0.N) : Fin 16 := ⟨15 - t.val, by omega⟩

theorem of (t : Fin cfg0.N) : (blkAt m d t).Of (H m d) (blkNo t) where
  D := D_eq m d t
  wd := wd_eq m d t
  g := g_eq m d t
  u := u_eq m d t
  gc := gc_eq m d t
  uc := uc_eq m d t
  cg k c := cg_eq m d t c k
  cu k c := cu_eq m d t c k
  wg k c := wg_eq m d t c k
  wu k c := wu_eq m d t c k

/-- What the blocks that live through the sweep hold after point `n`. -/
structure State (n : ℕ) (a15 a16 s0 s1 : Vec Ideal S8x1408 .f32) : Prop where
  g : Carry (H m d).dG (512 * (15 - n)) (Case.rows s0)
  u : Carry (H m d).dU (512 * (15 - n)) (Case.rows s1)
  tg : Case.rows a15 = partTaps (H m d).dG (H m d).g (n + 1)
  tu : Case.rows a16 = partTaps (H m d).dU (H m d).u (n + 1)

theorem state : ∀ (n : ℕ) (h : n < cfg0.N), State m d n (outsAt0 m d n h).2.2.2.2.1 (outsAt0 m d n h).2.2.2.2.2.1
    (outsAt0 m d n h).2.2.2.2.2.2.1 (outsAt0 m d n h).2.2.2.2.2.2.2
  | 0, h => by
    have B := of m d ⟨0, h⟩
    rw [outsAt0_A m d ⟨0, h⟩ rfl]
    dsimp only
    refine ⟨fun k c => ?_, fun k c => ?_, ?_, ?_⟩
    · exact (Case.A_s0 ..).trans (carry_of _ _ _ B.dG k c)
    · exact (Case.A_s1 ..).trans (carry_of _ _ _ B.dU k c)
    · rw [← addTaps_step (n := 0) (by omega) B.dG B.g (carry_zero _), partTaps_zero]
      funext k c
      exact Case.A_15 ..
    · rw [← addTaps_step (n := 0) (by omega) B.dU B.u (carry_zero _), partTaps_zero]
      funext k c
      exact Case.A_16 ..
  | n + 1, h => by
    have hN : cfg0.N = 16 := N_0
    have B := of m d ⟨n + 1, h⟩
    have S := state n (Nat.lt_of_succ_lt h)
    have e : 512 * (15 - n) = 512 * (15 - (n + 1) + 1) := by omega
    rw [outsAt0_B m d ⟨n + 1, h⟩ (by dsimp only; omega)]
    dsimp only
    refine ⟨fun k c => ?_, fun k c => ?_, ?_, ?_⟩
    · exact (Case.B_s0 ..).trans (carry_of _ _ _ B.dG k c)
    · exact (Case.B_s1 ..).trans (carry_of _ _ _ B.dU k c)
    · rw [← addTaps_step (n := n + 1) (by omega) B.dG B.g (e ▸ S.g), ← S.tg]
      funext k c
      exact Case.B_15 ..
    · rw [← addTaps_step (n := n + 1) (by omega) B.dU B.u (e ▸ S.u), ← S.tu]
      funext k c
      exact Case.B_16 ..

variable (t : Fin cfg0.N) (r : Fin 512)

/-- What a later point finds carried. -/
theorem before (h0 : ¬t.val % 16 = 0) (h : t.val - 1 < cfg0.N) :
    Carry (H m d).dG (512 * (blkNo t + 1)) (Case.rows (outsAt0 m d (t.val - 1) h).2.2.2.2.2.2.1)
      ∧ Carry (H m d).dU (512 * (blkNo t + 1)) (Case.rows (outsAt0 m d (t.val - 1) h).2.2.2.2.2.2.2) := by
  have hN : cfg0.N = 16 := N_0
  have ht := t.isLt
  have S := state m d (t.val - 1) h
  have e : 512 * (15 - (t.val - 1)) = 512 * ((blkNo t).val + 1) := by
    show _ = 512 * (15 - t.val + 1)
    omega
  exact ⟨e ▸ S.g, e ▸ S.u⟩

theorem first_no (h0 : t.val % 16 = 0) : 512 * ((blkNo t).val + 1) = 8192 := by
  have hN : cfg0.N = 16 := N_0
  have ht := t.isLt
  show 512 * (15 - t.val + 1) = 8192
  omega

theorem out11 (k : Fin 1024) : (outsAt0 m d t.val t.isLt).1 (ix2 r k) = (H m d).D (at512 (blkNo t) r) k := by
  by_cases h0 : t.val % 16 = 0
  · rw [outsAt0_A m d t h0]; dsimp only; exact (Case.A_11 ..).trans ((of m d t).D r k)
  · rw [outsAt0_B m d t h0]; dsimp only; exact (Case.B_11 ..).trans ((of m d t).D r k)

theorem out12 (c : Fin 1408) : (outsAt0 m d t.val t.isLt).2.1 (ix2 r c) = (H m d).dgp (at512 (blkNo t) r) c := by
  by_cases h0 : t.val % 16 = 0
  · rw [outsAt0_A m d t h0]; dsimp only; exact (Case.A_12 ..).trans ((of m d t).dgp (first_no t h0 ▸ carry_zero _) r c)
  · rw [outsAt0_B m d t h0]; dsimp only; exact (Case.B_12 ..).trans ((of m d t).dgp (before m d t h0 _).1 r c)

theorem out13 (c : Fin 1408) : (outsAt0 m d t.val t.isLt).2.2.1 (ix2 r c) = (H m d).dup (at512 (blkNo t) r) c := by
  by_cases h0 : t.val % 16 = 0
  · rw [outsAt0_A m d t h0]; dsimp only; exact (Case.A_13 ..).trans ((of m d t).dup (first_no t h0 ▸ carry_zero _) r c)
  · rw [outsAt0_B m d t h0]; dsimp only; exact (Case.B_13 ..).trans ((of m d t).dup (before m d t h0 _).2 r c)

theorem out14 (k : Fin 1024) : (outsAt0 m d t.val t.isLt).2.2.2.1 (ix2 r k) = (H m d).dh (at512 (blkNo t) r) k := by
  by_cases h0 : t.val % 16 = 0
  · rw [outsAt0_A m d t h0]
    dsimp only
    exact (Case.A_14 ..).trans ((of m d t).dh (first_no t h0 ▸ carry_zero _) (first_no t h0 ▸ carry_zero _) r k)
  · rw [outsAt0_B m d t h0]
    dsimp only
    exact (Case.B_14 ..).trans ((of m d t).dh (before m d t h0 _).1 (before m d t h0 _).2 r k)

end TrainStep.Kern
-- ==== Proof.Ffn.Arrays.lean ====
/-
  The kernel's six result arrays after the run: the gated gradient, the two gradients at the saved products, the
  gradient at the block's input and the two arrays of tap gradients.
-/
module

public import proofs.«01_k».proof.Proof.Ffn.Points

@[expose] public section

set_option maxRecDepth 16384

open Idealize.ShloMosaic Idealize.ShloMosaic.TcCoe Idealize.SL.Sem
open Cert.KernelIdeal Cert.KernelIdeal.Gen Cert.KernelIdeal.Value

namespace TrainStep.Kern

variable (m : (ℓ : Loc nD τ sig) → Buf (Elt Ideal) ℓ) (d : Dev nD)

theorem idxOut : ∀ t : Fin cfg0.N, win0_11.index t = ![15 - t.val, 0] ∧ win0_12.index t = ![15 - t.val, 0]
    ∧ win0_13.index t = ![15 - t.val, 0] ∧ win0_14.index t = ![15 - t.val, 0] ∧ win0_15.index t = ![0, 0]
    ∧ win0_16.index t = ![0, 0] :=
  (by decide +kernel : ∀ t : Fin grid0.N, _)

/-- Every row lies in the block of some point. -/
theorem exists_row (R : Fin 8192) : ∃ (t : Fin cfg0.N) (r : Fin 512), at512 (blkNo t) r = R := by
  have hN : cfg0.N = 16 := N_0
  have hR := R.isLt
  refine ⟨⟨15 - R.val / 512, by omega⟩, ⟨R.val % 512, by omega⟩, Fin.ext ?_⟩
  show 512 * (15 - (15 - R.val / 512)) + R.val % 512 = R.val
  omega

theorem arr11 (R : Fin 8192) (k : Fin 1024) : (dats m 0 d).arrAt 11 cfg0.N (ix2 R k) = (H m d).D R k := by
  obtain ⟨t, r, rfl⟩ := exists_row R
  refine Eq.trans ?_ ((congrFun ((blocks11 m d t (flush0_11 t)).trans (flushed11 m d t)) (ix2 r k)).trans (out11 m d t r k))
  rw [View.read_apply]
  unfold at512 blkNo
  blk_ext [idxOut t]

theorem arr12 (R : Fin 8192) (c : Fin 1408) : (dats m 0 d).arrAt 12 cfg0.N (ix2 R c) = (H m d).dgp R c := by
  obtain ⟨t, r, rfl⟩ := exists_row R
  refine Eq.trans ?_ ((congrFun ((blocks12 m d t (flush0_12 t)).trans (flushed12 m d t)) (ix2 r c)).trans (out12 m d t r c))
  rw [View.read_apply]
  unfold at512 blkNo
  blk_ext [idxOut t]

theorem arr13 (R : Fin 8192) (c : Fin 1408) : (dats m 0 d).arrAt 13 cfg0.N (ix2 R c) = (H m d).dup R c := by
  obtain ⟨t, r, rfl⟩ := exists_row R
  refine Eq.trans ?_ ((congrFun ((blocks13 m d t (flush0_13 t)).trans (flushed13 m d t)) (ix2 r c)).trans (out13 m d t r c))
  rw [View.read_apply]
  unfold at512 blkNo
  blk_ext [idxOut t]

theorem arr14 (R : Fin 8192) (k : Fin 1024) : (dats m 0 d).arrAt 14 cfg0.N (ix2 R k) = (H m d).dh R k := by
  obtain ⟨t, r, rfl⟩ := exists_row R
  refine Eq.trans ?_ ((congrFun ((blocks14 m d t (flush0_14 t)).trans (flushed14 m d t)) (ix2 r k)).trans (out14 m d t r k))
  rw [View.read_apply]
  unfold at512 blkNo
  blk_ext [idxOut t]

/-- The last point. -/
theorem last_lt : 15 < cfg0.N := by rw [show cfg0.N = 16 from N_0]; decide

theorem last (t : Fin cfg0.N) (h : t.val % 16 = 15) : t = ⟨15, last_lt⟩ := Fin.ext (by
  have hN : cfg0.N = 16 := N_0
  have := t.isLt
  show t.val = 15
  omega)

/-- The tap gradients of the gate columns. -/
theorem arr15 (k : Fin 8) (c : Fin 1408) :
    (dats m 0 d).arrAt 15 cfg0.N (ix2 k c) = Half.taps (H m d).dG (H m d).g k c := by
  have hb := (dats m 0 d).read_blk_arrAt_eq_flushed 15
    (fun t t' h h' hne => absurd ((last t ((flush0_15 t).mp h)).trans (last t' ((flush0_15 t').mp h')).symm) hne)
    cfg0.N ⟨15, last_lt⟩ last_lt ((flush0_15 _).mpr rfl)
  rw [← partTaps_all]
  refine Eq.trans ?_ ((congrFun (hb.trans (flushed15 m d _)) (ix2 k c)).trans
    (congrFun (congrFun (state m d 15 last_lt).tg k) c))
  rw [View.read_apply]
  generalize (⟨15, last_lt⟩ : Fin cfg0.N) = t
  blk_ext [idxOut t]

/-- The tap gradients of the up columns. -/
theorem arr16 (k : Fin 8) (c : Fin 1408) :
    (dats m 0 d).arrAt 16 cfg0.N (ix2 k c) = Half.taps (H m d).dU (H m d).u k c := by
  have hb := (dats m 0 d).read_blk_arrAt_eq_flushed 16
    (fun t t' h h' hne => absurd ((last t ((flush0_16 t).mp h)).trans (last t' ((flush0_16 t').mp h')).symm) hne)
    cfg0.N ⟨15, last_lt⟩ last_lt ((flush0_16 _).mpr rfl)
  rw [← partTaps_all]
  refine Eq.trans ?_ ((congrFun (hb.trans (flushed16 m d _)) (ix2 k c)).trans
    (congrFun (congrFun (state m d 15 last_lt).tu k) c))
  rw [View.read_apply]
  generalize (⟨15, last_lt⟩ : Fin cfg0.N) = t
  blk_ext [idxOut t]

end TrainStep.Kern
-- ==== Proof.Ffn.RefRead.lean ====
/-
  The reference's six results read at a row and a column: each is the half's gradient of `Ffn.Spec`.
-/
module

public import proofs.«01_k».proof.Proof.Ffn.Spec
public import proofs.«01_k».proof.Proof.Gen.ReferenceIdeal.Read

@[expose] public section

set_option maxRecDepth 16384

open Idealize.ShloMosaic
open Cert.ReferenceIdeal Cert.ReferenceIdeal.Gen Cert.ReferenceIdeal.Read

namespace TrainStep.RefHalf0

variable (x0 : Vec Ideal S8192x1024 .f32) (x1 : Vec Ideal S8x1024 .f32) (x2 x3 : Vec Ideal S8192x1408 .f32)
  (x4 : Vec Ideal S8x5632 .f32) (x5 : Vec Ideal S2816x1024 .f32) (x6 : Vec Ideal S1024x5632 .f32)

/-- The first half's data, read off the program's seven arguments. -/
noncomputable abbrev half : Half := Half.first x0 x1 x2 x3 x4 x5 x6

variable (R : Fin 8192) (c : Fin 1408)

theorem conv_g : val_main_v31 (F := Ideal) x2 x4 (ix2 R c)
    = Half.conv (half x0 x1 x2 x3 x4 x5 x6).g (half x0 x1 x2 x3 x4 x5 x6).cg R c := by
  pointwise [
    val_main_v31, val_main_v21, val_main_v11, val_main_v10, val_main_v9, val_main_v8, val_main_v7, val_main_v3,
    val_main_v20, val_main_v19, val_main_v18, val_main_v13, val_main_v12, val_main_v16, val_main_v14, val_main_cst,
    val_main_v15, val_main_v30, val_main_v29, val_main_v28, val_main_v23, val_main_v22, val_main_v26, val_main_v24,
    val_main_cst_1, val_main_v25]
  unfold Half.conv
  simp only [Half.down_eq]
  rfl

theorem conv_u : val_main_v57 (F := Ideal) x3 x4 (ix2 R c)
    = Half.conv (half x0 x1 x2 x3 x4 x5 x6).u (half x0 x1 x2 x3 x4 x5 x6).cu R c := by
  pointwise [
    val_main_v57, val_main_v47, val_main_v37, val_main_v36, val_main_v35, val_main_v34, val_main_v33, val_main_v4,
    val_main_v46, val_main_v45, val_main_v44, val_main_v39, val_main_v38, val_main_v42, val_main_v40,
    val_main_cst_3, val_main_v41, val_main_v56, val_main_v55, val_main_v54, val_main_v49, val_main_v48,
    val_main_v52, val_main_v50, val_main_cst_5, val_main_v51]
  unfold Half.conv
  simp only [Half.down_eq]
  rfl

theorem grad_f : val_main_v65 (F := Ideal) x0 x1 x5 (ix2 R c) = (half x0 x1 x2 x3 x4 x5 x6).df R c := by
  pointwise [
    val_main_v65, val_main_v64, val_main_v63, val_main_v60, val_main_v6, val_main_v5, val_main_v2]
  rfl

theorem grad_uc : val_main_v66 (F := Ideal) x0 x1 x2 x4 x5 (ix2 R c) = (half x0 x1 x2 x3 x4 x5 x6).dU R c := by
  pointwise [
    val_main_v66, val_main_v32_0, val_main_v32_2, val_main_call0_v4, val_main_call0_cst_0, val_main_call0_v3,
    val_main_call0_v2, val_main_call0_cst, val_main_call0_v1, val_main_call0_v0]
  rw [conv_g x0 x1 x2 x3 x4 x5 x6, grad_f x0 x1 x2 x3 x4 x5 x6, mul_comm]
  rfl

/-- What the precondition gives: the gradient at the gate columns' convolution is finite. -/
def Finite : Prop := ∀ R c, Fin' ((half x0 x1 x2 x3 x4 x5 x6).df R c * Half.conv (half x0 x1 x2 x3 x4 x5 x6).u (half x0 x1 x2 x3 x4 x5 x6).cu R c)

variable {x0 x1 x2 x3 x4 x5 x6} in
theorem grad_gc (h : Finite x0 x1 x2 x3 x4 x5 x6) :
    val_main_v102 (F := Ideal) x0 x1 x2 x3 x4 x5 (ix2 R c) = (half x0 x1 x2 x3 x4 x5 x6).dG R c := by
  pointwise [
    val_main_v102, val_main_call1_v1, val_main_v67, val_main_v32_2, val_main_call0_v4, val_main_call0_cst_0,
    val_main_call0_v3, val_main_call0_v2, val_main_call0_cst, val_main_call0_v1, val_main_call0_v0,
    val_main_call1_v2, val_main_call1_v0, val_main_v32_1, val_main_call0_v7, val_main_call0_v6,
    val_main_call0_cst_1]
  rw [conv_g x0 x1 x2 x3 x4 x5 x6, grad_f x0 x1 x2 x3 x4 x5 x6, conv_u x0 x1 x2 x3 x4 x5 x6]
  exact silu_grad (h R c) _

theorem grad_u : val_main_v94 (F := Ideal) x0 x1 x2 x4 x5 (ix2 R c) = (half x0 x1 x2 x3 x4 x5 x6).dup R c := by
  pointwise [
    val_main_v94, val_main_v88, val_main_v76, val_main_v75, val_main_v69, val_main_v68, val_main_v54, val_main_v49,
    val_main_v48, val_main_v4, val_main_cst_9, val_main_v87, val_main_v86, val_main_v80, val_main_v79,
    val_main_v44, val_main_v39, val_main_v38, val_main_cst_13, val_main_v93, val_main_v92, val_main_v35,
    val_main_v34, val_main_v33]
  simp only [grad_uc x0 x1 x2 x3 x4 x5 x6]
  unfold Half.dup Half.convT
  rw [Half.mul_up _ _ 8191 1 rfl, Half.mul_up _ _ 8190 2 rfl, add_rev]
  rfl

variable {x0 x1 x2 x3 x4 x5 x6} in
theorem grad_g (h : Finite x0 x1 x2 x3 x4 x5 x6) :
    val_main_v129 (F := Ideal) x0 x1 x2 x3 x4 x5 (ix2 R c) = (half x0 x1 x2 x3 x4 x5 x6).dgp R c := by
  pointwise [
    val_main_v129, val_main_v123, val_main_v111, val_main_v110, val_main_v104, val_main_v103, val_main_v28,
    val_main_v23, val_main_v22, val_main_v3, val_main_cst_20, val_main_v122, val_main_v121, val_main_v115,
    val_main_v114, val_main_v18, val_main_v13, val_main_v12, val_main_cst_24, val_main_v128, val_main_v127,
    val_main_v9, val_main_v8, val_main_v7]
  simp only [grad_gc _ _ h]
  unfold Half.dgp Half.convT
  rw [Half.mul_up _ _ 8191 1 rfl, Half.mul_up _ _ 8190 2 rfl, add_rev]
  rfl

theorem taps_u (k : Fin 8) : val_main_v101 (F := Ideal) x0 x1 x2 x3 x4 x5 (ix2 k c)
    = Half.taps (half x0 x1 x2 x3 x4 x5 x6).dU (half x0 x1 x2 x3 x4 x5 x6).u k c := by
  pointwise [
    val_main_v101, val_main_v91, val_main_v78, val_main_v77, val_main_v73, val_main_v72, val_main_v71,
    val_main_v70, val_main_v52, val_main_v50, val_main_cst_5, val_main_v51, val_main_cst_7, val_main_cst_8,
    val_main_cst_10, val_main_v90, val_main_v89, val_main_v84, val_main_v83, val_main_v82, val_main_v81,
    val_main_v42, val_main_v40, val_main_cst_3, val_main_v41, val_main_cst_11, val_main_cst_12, val_main_cst_14,
    val_main_v100, val_main_v99, val_main_v98, val_main_v97, val_main_v96, val_main_v95, val_main_cst_15,
    val_main_cst_16, val_main_cst_17]
  simp only [grad_uc x0 x1 x2 x3 x4 x5 x6]
  unfold Half.taps
  fin_vals k with hk
  all_goals simp [hk, Half.tap_eq _ _ 8192 0 rfl, Half.tap_eq _ _ 8191 1 rfl, Half.tap_eq _ _ 8190 2 rfl, half] <;> rfl

variable {x0 x1 x2 x3 x4 x5 x6} in
theorem taps_g (h : Finite x0 x1 x2 x3 x4 x5 x6) (k : Fin 8) :
    val_main_v136 (F := Ideal) x0 x1 x2 x3 x4 x5 (ix2 k c) = Half.taps (half x0 x1 x2 x3 x4 x5 x6).dG (half x0 x1 x2 x3 x4 x5 x6).g k c := by
  pointwise [
    val_main_v136, val_main_v126, val_main_v113, val_main_v112, val_main_v108, val_main_v107, val_main_v106,
    val_main_v105, val_main_v26, val_main_v24, val_main_cst_1, val_main_v25, val_main_cst_18, val_main_cst_19,
    val_main_cst_21, val_main_v125, val_main_v124, val_main_v119, val_main_v118, val_main_v117, val_main_v116,
    val_main_v16, val_main_v14, val_main_cst, val_main_v15, val_main_cst_22, val_main_cst_23, val_main_cst_25,
    val_main_v135, val_main_v134, val_main_v133, val_main_v132, val_main_v131, val_main_v130, val_main_cst_26,
    val_main_cst_27, val_main_cst_28]
  simp only [grad_gc _ _ h]
  unfold Half.taps
  fin_vals k with hk
  all_goals simp [hk, Half.tap_eq _ _ 8192 0 rfl, Half.tap_eq _ _ 8191 1 rfl, Half.tap_eq _ _ 8190 2 rfl, half] <;> rfl

variable {x0 x1 x2 x3 x4 x5 x6} in
theorem grad_h (h : Finite x0 x1 x2 x3 x4 x5 x6) (k : Fin 1024) :
    val_main_v141 (F := Ideal) x0 x1 x2 x3 x4 x5 x6 (ix2 R k) = (half x0 x1 x2 x3 x4 x5 x6).dh R k := by
  pointwise [
    val_main_v141, val_main_v139, val_main_v1, val_main_v140, val_main_v0]
  simp only [grad_g _ _ h, grad_u x0 x1 x2 x3 x4 x5 x6]
  exact add_comm _ _

theorem gated (k : Fin 1024) : val_main_v147 (F := Ideal) x0 x1 (ix2 R k) = (half x0 x1 x2 x3 x4 x5 x6).D R k := by
  pointwise [
    val_main_v147, val_main_v146, val_main_v145, val_main_v144, val_main_v143, val_main_v142]
  rfl

end TrainStep.RefHalf0
-- ==== Proof.Ffn.Pre.lean ====
/-
  What the precondition says entry by entry, and that it keeps the gradient at the gate columns' convolution finite.
-/
module

public import proofs.«01_k».proof.Defs
public import proofs.«01_k».proof.Proof.Ffn.RefRead
public import Idealize.ShloMosaic.Lib.ReduceAll

@[expose] public section

set_option maxRecDepth 16384

open Idealize.ShloMosaic
open Cert.Pre_finite

namespace TrainStep.Pre

theorem facts : Facts :=
  ⟨by decide, by decide, by decide, by decide, by decide, by decide, by decide, by decide, by decide, by decide,
    by decide, by decide, by decide⟩

attribute [local instance] facts

instance : Subsingleton S_.Idx := ⟨fun _ _ => funext fun k => k.elim0⟩

/-- The one index of a scalar. -/
abbrev nil : S_.Idx := fun k => k.elim0

/-- An array whose entries less themselves compare equal to zero has finite entries. -/
theorem finite_of_all {s : Shape} (x : Vec Ideal s .f32) {dims : Fin 0 → Fin s.rank} (hb : S_.BroadcastsInDim s dims)
    {ax : List (Fin s.rank)} (hr : s.ReducesTo ax S_) (hs : 0 < S_.numel) (j : S_.Idx)
    (h : Host.reduce IntOp.andi (cmpf .oeq (subf x x) (broadcastInDim s dims hb (constant (F := Ideal) S_ .f32 0x00000000#32)))
      (constantI S_ 1 1#1) hr hs j = 1#1) (i : s.Idx) : Fin' (x i) := by
  have e := Host.reduce_andi_all _ _ hr hs j h i
  apply fin'_of_sub_self
  revert e
  show BitVec.ofBool (decide (x i - x i = Ideal.ofBits .f32 0x00000000#32)) = 1#1 → _
  rw [show Ideal.ofBits .f32 0x00000000#32 = 0 by pointwise []]
  intro e
  by_contra hne
  simp [hne] at e

/-- Five truth values laid in a row. -/
theorem five (v0 v1 v2 v3 v4 : IVec S_ 1)
    (h : ∀ i, concatenate S5 0 [⟨S1, broadcastInDim S1 ![] Facts.bcast_S_S1 v0⟩, ⟨S1, broadcastInDim S1 ![] Facts.bcast_S_S1 v1⟩,
      ⟨S1, broadcastInDim S1 ![] Facts.bcast_S_S1 v2⟩, ⟨S1, broadcastInDim S1 ![] Facts.bcast_S_S1 v3⟩,
      ⟨S1, broadcastInDim S1 ![] Facts.bcast_S_S1 v4⟩] Facts.concatenates_S1_S1_S1_S1_S1_S5_d0 i = 1#1) :
    v0 nil = 1#1 ∧ v1 nil = 1#1 ∧ v2 nil = 1#1 ∧ v3 nil = 1#1 ∧ v4 nil = 1#1 := by
  refine ⟨?_, ?_, ?_, ?_, ?_⟩
  · have e := h (ix1 0)
    revert e; pointwise []; intro e; exact (congrArg v0 (Subsingleton.elim _ _)).trans e
  · have e := h (ix1 1)
    revert e; pointwise []; intro e; exact (congrArg v1 (Subsingleton.elim _ _)).trans e
  · have e := h (ix1 2)
    revert e; pointwise []; intro e; exact (congrArg v2 (Subsingleton.elim _ _)).trans e
  · have e := h (ix1 3)
    revert e; pointwise []; intro e; exact (congrArg v3 (Subsingleton.elim _ _)).trans e
  · have e := h (ix1 4)
    revert e; pointwise []; intro e; exact (congrArg v4 (Subsingleton.elim _ _)).trans e

variable {a0 : Vec Ideal S8192x1024 .f32} {a1 : Vec Ideal S8x1024 .f32} {a2 a3 : Vec Ideal S8192x1408 .f32}
  {a4 : Vec Ideal S8x5632 .f32} {a5 : Vec Ideal S2816x1024 .f32} {a6 : Vec Ideal S1024x5632 .f32}

/-- The five arrays the precondition speaks of have finite entries. -/
theorem entries (h : ∀ i, fn (F := Ideal) a0 a1 a2 a3 a4 a5 a6 i = 1#1) :
    (∀ i, Fin' (a0 i)) ∧ (∀ i, Fin' (a1 i)) ∧ (∀ i, Fin' (a3 i)) ∧ (∀ i, Fin' (a4 i)) ∧ ∀ i, Fin' (a5 i) :=
  by
  obtain ⟨e0, e1, e2, e3, e4⟩ := five _ _ _ _ _ h
  exact ⟨finite_of_all a0 _ _ _ _ e0, finite_of_all a1 _ _ _ _ e1, finite_of_all a3 _ _ _ _ e2,
    finite_of_all a4 _ _ _ _ e3, finite_of_all a5 _ _ _ _ e4⟩

/-- Under the precondition the gate columns' cotangent is finite. -/
theorem finite (h : ∀ i, fn (F := Ideal) a0 a1 a2 a3 a4 a5 a6 i = 1#1) : RefHalf0.Finite a0 a1 a2 a3 a4 a5 a6 := by
  obtain ⟨h0, h1, h3, h4, h5⟩ := entries h
  have hd : ∀ s R c, Fin' (Half.down (RefHalf0.half a0 a1 a2 a3 a4 a5 a6).u s R c) := fun s R c => by
    rw [Half.down_eq]
    split
    · exact fin'_zero
    · exact h3 _
  intro R c
  exact (Fin'.sum _ _ fun k => ((h1 _).mul (h0 _)).mul (h5 _)).mul
    ((((h4 _).mul (h3 _)).add ((h4 _).mul (hd 1 R c))).add ((h4 _).mul (hd 2 R c)))

end TrainStep.Pre
-- ==== Proof.Ffn.Claim.lean ====
/-
  The first half's backward call: on every device the kernel's six results are the reference's.
-/
module

public import proofs.«01_k».proof.Proof.Ffn.Arrays
public import proofs.«01_k».proof.Proof.Ffn.Pre
public import proofs.«01_k».proof.Proof.Gen.ReferenceIdeal.Run

@[expose] public section

set_option maxRecDepth 16384

open Idealize.ShloMosaic Idealize.ShloMosaic.StableHlo Idealize.SL.Sem

namespace TrainStep

attribute [local instance] Cert.KernelIdeal.Gen.facts Cert.ReferenceIdeal.Gen.facts Pre.facts

namespace Ref

open Cert.ReferenceIdeal Cert.ReferenceIdeal.Read

/-- The reference's results as functions of its arguments. -/
theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v147) = val_main_v147 (F := Ideal) (a c main_arg0) (a c main_arg1)
      ∧ r.2.mem ((c.tc : Thread nD τ).loc main_v148) = val_main_v148 (F := Ideal) (a c main_arg0) (a c main_arg1) (a c main_arg2) (a c main_arg3) (a c main_arg4) (a c main_arg5)
      ∧ r.2.mem ((c.tc : Thread nD τ).loc main_v149) = val_main_v149 (F := Ideal) (a c main_arg0) (a c main_arg1) (a c main_arg2) (a c main_arg4) (a c main_arg5)
      ∧ r.2.mem ((c.tc : Thread nD τ).loc main_v141) = val_main_v141 (F := Ideal) (a c main_arg0) (a c main_arg1) (a c main_arg2) (a c main_arg3) (a c main_arg4) (a c main_arg5) (a c main_arg6)
      ∧ r.2.mem ((c.tc : Thread nD τ).loc main_v136) = val_main_v136 (F := Ideal) (a c main_arg0) (a c main_arg1) (a c main_arg2) (a c main_arg3) (a c main_arg4) (a c main_arg5)
      ∧ r.2.mem ((c.tc : Thread nD τ).loc main_v101) = val_main_v101 (F := Ideal) (a c main_arg0) (a c main_arg1) (a c main_arg2) (a c main_arg3) (a c main_arg4) (a c main_arg5)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2
      ∧ r.2.mem ((c.tc : Thread nD τ).loc main_arg3) = a c main_arg3
      ∧ r.2.mem ((c.tc : Thread nD τ).loc main_arg4) = a c main_arg4
      ∧ r.2.mem ((c.tc : Thread nD τ).loc main_arg5) = a c main_arg5
      ∧ r.2.mem ((c.tc : Thread nD τ).loc main_arg6) = a c main_arg6 :=
  (θ_run defs _ _).mono (fun r h c => by
    obtain ⟨h0, h1, h2, h3, h4, h5, hargs⟩ := h c
    exact ⟨h0.trans (val_main_v147_eq (launchContents m c)), h1.trans (val_main_v148_eq (launchContents m c)),
      h2.trans (val_main_v149_eq (launchContents m c)), h3.trans (val_main_v141_eq (launchContents m c)),
      h4.trans (val_main_v136_eq (launchContents m c)), h5.trans (val_main_v101_eq (launchContents m c)), hargs⟩)
    (Cert.ReferenceIdeal.Value.run m ρ)

end Ref

theorem algebraic : Cert.algebraic_KernelIdeal_ReferenceIdeal_pre_finite := by
  intro m ρ m' ρ' hpre hagree
  refine ⟨fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    Cert.KernelIdeal.Value.run_blocks m ρ, ?_⟩
  refine (θ_run _ _ _).mono (fun r h c => ?_) (Ref.run m' ρ')
  have hf := Pre.finite (fun i => congrFun (hpre c) i)
  obtain ⟨e0, e1, e2, e3, e4, e5, e6⟩ := hagree c
  obtain ⟨h0, h1, h2, h3, h4, h5, hargs⟩ := h c
  refine ⟨h0.trans ?_, h1.trans ?_, h2.trans ?_, h3.trans ?_, h4.trans ?_, h5.trans ?_, hargs⟩
  all_goals simp only [e0, e1, e2, e3, e4, e5, e6]
  · exact ext2 fun R k => (RefHalf0.gated _ _ _ _ _ _ _ R k).trans (Kern.arr11 m c R k).symm
  · exact ext2 fun R l => (RefHalf0.grad_g R l hf).trans (Kern.arr12 m c R l).symm
  · exact ext2 fun R l => (RefHalf0.grad_u _ _ _ _ _ _ _ R l).trans (Kern.arr13 m c R l).symm
  · exact ext2 fun R k => (RefHalf0.grad_h R hf k).trans (Kern.arr14 m c R k).symm
  · exact ext2 fun k l => (RefHalf0.taps_g l hf k).trans (Kern.arr15 m c k l).symm
  · exact ext2 fun k l => (RefHalf0.taps_u _ _ _ _ _ _ _ l k).trans (Kern.arr16 m c k l).symm

end TrainStep
-- ==== Proof.Wgrad.UpCase.lean ====
/-
  What one grid point of the `w_up` gradient's call leaves in its four running sums, and the last point of a row of the
  grid in the result: each sum's columns as two shards.
-/
module

public import proofs.«01_k».proof.Proof.Gen.Kernel2Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel2Ideal Cert.Kernel2Ideal.Gen

namespace TrainStep.UpCase

theorem hz : (![0, 0] : Fin 2 → Nat) = fun _ => 0 := funext fun a => by fin_cases a <;> rfl

variable (c : Dev nD) (i : grid0.Coords) (arg2 : Memref sig .tc .vmem S512x512 .bf16) (harg2 : arg2.IsWhole)
  (arg3 : Memref sig .tc .vmem S512x1408 .bf16) (harg3 : arg3.IsWhole) (arg4 : Memref sig .tc .vmem S512x1408 .bf16)
  (harg4 : arg4.IsWhole) (arg5 : Memref sig .tc .vmem S512x1408 .bf16) (harg5 : arg5.IsWhole)
  (arg6 : Memref sig .tc .vmem S512x1408 .bf16) (harg6 : arg6.IsWhole) (arg7 : Memref sig .tc .vmem S8x512x768 .bf16)
  (harg7 : arg7.IsWhole) (arg8 : Memref sig .tc .vmem S512x1408 .f32) (harg8 : arg8.IsWhole)
  (arg9 : Memref sig .tc .vmem S512x1408 .f32) (harg9 : arg9.IsWhole) (arg10 : Memref sig .tc .vmem S512x1408 .f32)
  (harg10 : arg10.IsWhole) (arg11 : Memref sig .tc .vmem S512x1408 .f32) (harg11 : arg11.IsWhole)
  (x0 : Vec Ideal S512x512 .bf16) (x1 x2 x3 x4 : Vec Ideal S512x1408 .bf16) (xs0 xs1 xs2 xs3 : Vec Ideal S512x1408 .f32)

/-- The product of one block's columns `k` and `l`. -/
noncomputable def prod (x : Vec Ideal S512x512 .bf16) (y : Vec Ideal S512x1408 .bf16) (k : Fin 512) (l : Fin 1408) : EReal :=
  ∑ r : Fin 512, x (ix2 r k) * y (ix2 r l)

theorem A (h0 : cond0_0 i) (h1 : ¬cond0_1 i) (k : Fin 512) (l : Fin 1408) :
    sout0_A_0 (F := Ideal) c i arg2 harg2 arg3 harg3 arg4 harg4 arg5 harg5 arg6 harg6 arg7 harg7 arg8 harg8 arg9 harg9 arg10 harg10 arg11 harg11 h0 h1 x0 x1 x2 x3 x4 (ix2 k l) = prod x0 x1 k l
    ∧ sout0_A_1 (F := Ideal) c i arg2 harg2 arg3 harg3 arg4 harg4 arg5 harg5 arg6 harg6 arg7 harg7 arg8 harg8 arg9 harg9 arg10 harg10 arg11 harg11 h0 h1 x0 x1 x2 x3 x4 (ix2 k l) = prod x0 x2 k l
    ∧ sout0_A_2 (F := Ideal) c i arg2 harg2 arg3 harg3 arg4 harg4 arg5 harg5 arg6 harg6 arg7 harg7 arg8 harg8 arg9 harg9 arg10 harg10 arg11 harg11 h0 h1 x0 x1 x2 x3 x4 (ix2 k l) = prod x0 x3 k l
    ∧ sout0_A_3 (F := Ideal) c i arg2 harg2 arg3 harg3 arg4 harg4 arg5 harg5 arg6 harg6 arg7 harg7 arg8 harg8 arg9 harg9 arg10 harg10 arg11 harg11 h0 h1 x0 x1 x2 x3 x4 (ix2 k l) = prod x0 x4 k l := by
  refine ⟨?_, ?_, ?_, ?_⟩
  · unfold sout0_A_0 kernelRun0_A; dsimp only; rw [View.read_writes_full (s := S512x1408)]; sl_unfold_words
    simp only [View.readAt_eq_ld, Memref.IsWhole.read_unread, View.ld_unit_zero (S := S512x1408) hz,
      View.ld_unit_zero (S := S512x512) hz, shapeCast_self, View.readCov_unit_zero (S := S512x1408) _ hz]
    pointwise [k0_pay14, k0_pay10]; rfl
  · unfold sout0_A_1 kernelRun0_A; dsimp only; rw [View.read_writes_full (s := S512x1408)]; sl_unfold_words
    simp only [View.readAt_eq_ld, Memref.IsWhole.read_unread, View.ld_unit_zero (S := S512x1408) hz,
      View.ld_unit_zero (S := S512x512) hz, shapeCast_self, View.readCov_unit_zero (S := S512x1408) _ hz]
    pointwise [k0_pay15, k0_pay11]; rfl
  · unfold sout0_A_2 kernelRun0_A; dsimp only; rw [View.read_writes_full (s := S512x1408)]; sl_unfold_words
    simp only [View.readAt_eq_ld, Memref.IsWhole.read_unread, View.ld_unit_zero (S := S512x1408) hz,
      View.ld_unit_zero (S := S512x512) hz, shapeCast_self, View.readCov_unit_zero (S := S512x1408) _ hz]
    pointwise [k0_pay16, k0_pay12]; rfl
  · unfold sout0_A_3 kernelRun0_A; dsimp only; rw [View.read_writes_full (s := S512x1408)]; sl_unfold_words
    simp only [View.readAt_eq_ld, Memref.IsWhole.read_unread, View.ld_unit_zero (S := S512x1408) hz,
      View.ld_unit_zero (S := S512x512) hz, shapeCast_self, View.readCov_unit_zero (S := S512x1408) _ hz]
    pointwise [k0_pay1, k0_pay13]; rfl

theorem B (h0 : ¬cond0_0 i) (h1 : ¬cond0_1 i) (k : Fin 512) (l : Fin 1408) :
    sout0_B_0 (F := Ideal) c i arg2 harg2 arg3 harg3 arg4 harg4 arg5 harg5 arg6 harg6 arg7 harg7 arg8 harg8 arg9 harg9 arg10 harg10 arg11 harg11 h0 h1 x0 x1 x2 x3 x4 xs0 xs1 xs2 xs3 (ix2 k l) = xs0 (ix2 k l) + prod x0 x1 k l
    ∧ sout0_B_1 (F := Ideal) c i arg2 harg2 arg3 harg3 arg4 harg4 arg5 harg5 arg6 harg6 arg7 harg7 arg8 harg8 arg9 harg9 arg10 harg10 arg11 harg11 h0 h1 x0 x1 x2 x3 x4 xs0 xs1 xs2 xs3 (ix2 k l) = xs1 (ix2 k l) + prod x0 x2 k l
    ∧ sout0_B_2 (F := Ideal) c i arg2 harg2 arg3 harg3 arg4 harg4 arg5 harg5 arg6 harg6 arg7 harg7 arg8 harg8 arg9 harg9 arg10 harg10 arg11 harg11 h0 h1 x0 x1 x2 x3 x4 xs0 xs1 xs2 xs3 (ix2 k l) = xs2 (ix2 k l) + prod x0 x3 k l
    ∧ sout0_B_3 (F := Ideal) c i arg2 harg2 arg3 harg3 arg4 harg4 arg5 harg5 arg6 harg6 arg7 harg7 arg8 harg8 arg9 harg9 arg10 harg10 arg11 harg11 h0 h1 x0 x1 x2 x3 x4 xs0 xs1 xs2 xs3 (ix2 k l) = xs3 (ix2 k l) + prod x0 x4 k l := by
  refine ⟨?_, ?_, ?_, ?_⟩
  · unfold sout0_B_0 kernelRun0_B; dsimp only; rw [View.read_writes_full (s := S512x1408)]; sl_unfold_words
    simp only [View.readAt_eq_ld, Memref.IsWhole.read_unread, View.ld_unit_zero (S := S512x1408) hz,
      View.ld_unit_zero (S := S512x512) hz, shapeCast_self]
    pointwise [k0_pay14]; rfl
  · unfold sout0_B_1 kernelRun0_B; dsimp only; rw [View.read_writes_full (s := S512x1408)]; sl_unfold_words
    simp only [View.readAt_eq_ld, Memref.IsWhole.read_unread, View.ld_unit_zero (S := S512x1408) hz,
      View.ld_unit_zero (S := S512x512) hz, shapeCast_self]
    pointwise [k0_pay15]; rfl
  · unfold sout0_B_2 kernelRun0_B; dsimp only; rw [View.read_writes_full (s := S512x1408)]; sl_unfold_words
    simp only [View.readAt_eq_ld, Memref.IsWhole.read_unread, View.ld_unit_zero (S := S512x1408) hz,
      View.ld_unit_zero (S := S512x512) hz, shapeCast_self]
    pointwise [k0_pay16]; rfl
  · unfold sout0_B_3 kernelRun0_B; dsimp only; rw [View.read_writes_full (s := S512x1408)]; sl_unfold_words
    simp only [View.readAt_eq_ld, Memref.IsWhole.read_unread, View.ld_unit_zero (S := S512x1408) hz,
      View.ld_unit_zero (S := S512x512) hz, shapeCast_self]
    pointwise [k0_pay1]; rfl

/-- A load of columns `o`, `o + 1`, … of what one store of the whole left. -/
theorem window (v : View sig .tc .vmem S512x1408 .f32) (w : Vec Ideal S512x1408 .f32) (o : ℕ)
    (inb : ∀ a, (![0, 0] : Fin 2 → ℕ) a + S512x1408.size a ≤ S512x1408.size a)
    (inb' : ∀ a, (![0, o] : Fin 2 → ℕ) a + (![512, 768] : Fin 2 → ℕ) a ≤ S512x1408.size a) (k : Fin 512) (j : Fin 768)
    (l : Fin 1408) (h : l.val = o + j.val) :
    v.readCov [⟨Rect.unit (s := S512x1408) ![0, 0] S512x1408.size inb, w⟩] (Rect.unit (s := S512x1408) ![0, o] ![512, 768] inb').toLoadRect (ix2 k j)
      = w (ix2 k l) := by
  rw [View.readCov_eq_canon_ld _ _ _ (fun y => ⟨_, List.mem_singleton_self _, View.mem_set_unit_zero hz inb y⟩),
    View.canon_unit_zero hz]
  refine congrArg w (funext fun a => Fin.ext ?_)
  fin_cases a
  · show 0 + 1 * k.val = k.val
    omega
  · show o + 1 * j.val = l.val
    omega

theorem pay0 (k : Fin 512) (l : Fin 1408) : k0_pay14 (F := Ideal) x0 xs0 x1 (ix2 k l) = xs0 (ix2 k l) + prod x0 x1 k l := by
  pointwise [k0_pay14]; rfl

theorem pay1 (k : Fin 512) (l : Fin 1408) : k0_pay15 (F := Ideal) x0 xs1 x2 (ix2 k l) = xs1 (ix2 k l) + prod x0 x2 k l := by
  pointwise [k0_pay15]; rfl

theorem pay2 (k : Fin 512) (l : Fin 1408) : k0_pay16 (F := Ideal) x0 xs2 x3 (ix2 k l) = xs2 (ix2 k l) + prod x0 x3 k l := by
  pointwise [k0_pay16]; rfl

theorem pay3 (k : Fin 512) (l : Fin 1408) : k0_pay1 (F := Ideal) x0 xs3 x4 (ix2 k l) = xs3 (ix2 k l) + prod x0 x4 k l := by
  pointwise [k0_pay1]; rfl

/-- The four sums after the point, chosen by the shard's number. -/
noncomputable def sums (q : Fin 8) (k : Fin 512) (l : Fin 1408) : EReal :=
  if q.val / 2 = 0 then xs0 (ix2 k l) + prod x0 x1 k l
  else if q.val / 2 = 1 then xs1 (ix2 k l) + prod x0 x2 k l
  else if q.val / 2 = 2 then xs2 (ix2 k l) + prod x0 x3 k l
  else xs3 (ix2 k l) + prod x0 x4 k l

/-- The last point's result: shard `q` holds columns `704 (q mod 2) + l` of sum `q / 2`. -/
theorem C (h0 : ¬cond0_0 i) (h1 : cond0_1 i) (q : Fin 8) (k : Fin 512) (l : Fin 768) (hl : l.val < 704) :
    out0_C_5 (F := Ideal) c i arg2 harg2 arg3 harg3 arg4 harg4 arg5 harg5 arg6 harg6 arg7 harg7 arg8 harg8 arg9 harg9 arg10 harg10 arg11 harg11 h0 h1 x0 x1 x2 x3 x4 xs0 xs1 xs2 xs3 (ix3 q k l)
      = sums x0 x1 x2 x3 x4 xs0 xs1 xs2 xs3 q k ⟨704 * (q.val % 2) + l.val, by omega⟩ := by
  unfold out0_C_5 kernelRun0_C
  dsimp only
  sl_unfold_words
  simp only [View.readAt_eq_ld, Memref.IsWhole.read_unread, View.ld_unit_zero (S := S512x1408) hz,
      View.ld_unit_zero (S := S512x512) hz, shapeCast_self]
  by_cases hq : q = 7
  · subst hq
    rw [View.read_writes_cons_unit_of_mem _ _ _ _ _ _ (ix3 0 k l) rfl (by intro a; fin_cases a <;> simp)]
    pointwise [k0_pay4]
    exact (window _ _ 640 _ _ k _ _ (by dsimp only; omega)).trans (pay3 ..)
  rw [View.read_writes_cons_unit_of_not_mem _ _ _ _ _ _ rfl 0 (Or.inl (show q.val < 7 by omega))]
  by_cases hq : q = 6
  · subst hq
    rw [View.read_writes_cons_unit_of_mem _ _ _ _ _ _ (ix3 0 k l) rfl (by intro a; fin_cases a <;> simp)]
    pointwise [k0_pay3]
    exact (window _ _ 0 _ _ k _ _ (by dsimp only; omega)).trans (pay3 ..)
  rw [View.read_writes_cons_unit_of_not_mem _ _ _ _ _ _ rfl 0 (Or.inl (show q.val < 6 by omega))]
  by_cases hq : q = 5
  · subst hq
    rw [View.read_writes_cons_unit_of_mem _ _ _ _ _ _ (ix3 0 k l) rfl (by intro a; fin_cases a <;> simp)]
    pointwise [k0_pay2]
    exact (window _ _ 640 _ _ k _ _ (by dsimp only; omega)).trans (pay2 ..)
  rw [View.read_writes_cons_unit_of_not_mem _ _ _ _ _ _ rfl 0 (Or.inl (show q.val < 5 by omega))]
  by_cases hq : q = 4
  · subst hq
    rw [View.read_writes_cons_unit_of_mem _ _ _ _ _ _ (ix3 0 k l) rfl (by intro a; fin_cases a <;> simp)]
    pointwise [k0_pay9]
    exact (window _ _ 0 _ _ k _ _ (by dsimp only; omega)).trans (pay2 ..)
  rw [View.read_writes_cons_unit_of_not_mem _ _ _ _ _ _ rfl 0 (Or.inl (show q.val < 4 by omega))]
  by_cases hq : q = 3
  · subst hq
    rw [View.read_writes_cons_unit_of_mem _ _ _ _ _ _ (ix3 0 k l) rfl (by intro a; fin_cases a <;> simp)]
    pointwise [k0_pay8]
    exact (window _ _ 640 _ _ k _ _ (by dsimp only; omega)).trans (pay1 ..)
  rw [View.read_writes_cons_unit_of_not_mem _ _ _ _ _ _ rfl 0 (Or.inl (show q.val < 3 by omega))]
  by_cases hq : q = 2
  · subst hq
    rw [View.read_writes_cons_unit_of_mem _ _ _ _ _ _ (ix3 0 k l) rfl (by intro a; fin_cases a <;> simp)]
    pointwise [k0_pay7]
    exact (window _ _ 0 _ _ k _ _ (by dsimp only; omega)).trans (pay1 ..)
  rw [View.read_writes_cons_unit_of_not_mem _ _ _ _ _ _ rfl 0 (Or.inl (show q.val < 2 by omega))]
  by_cases hq : q = 1
  · subst hq
    rw [View.read_writes_cons_unit_of_mem _ _ _ _ _ _ (ix3 0 k l) rfl (by intro a; fin_cases a <;> simp)]
    pointwise [k0_pay6]
    exact (window _ _ 640 _ _ k _ _ (by dsimp only; omega)).trans (pay0 ..)
  rw [View.read_writes_cons_unit_of_not_mem _ _ _ _ _ _ rfl 0 (Or.inl (show q.val < 1 by omega))]
  obtain rfl : q = 0 := by omega
  rw [View.read_writes_cons_unit_of_mem _ _ _ _ _ _ (ix3 0 k l) rfl (by intro a; fin_cases a <;> simp)]
  pointwise [k0_pay5]
  exact (window _ _ 0 _ _ k _ _ (by dsimp only; omega)).trans (pay0 ..)

end TrainStep.UpCase
-- ==== Proof.Wgrad.Up.lean ====
/-
  The gradient of `w_up`: on each half of its rows the four running sums over the sixteen blocks of tokens, the result
  array, the reference's result, and their equality on every device.
-/
module

public import proofs.«01_k».proof.Defs
public import proofs.«01_k».proof.Proof.Math.Sums
public import proofs.«01_k».proof.Proof.Wgrad.UpCase
public import proofs.«01_k».proof.Proof.Gen.Reference2Ideal.Read
public import proofs.«01_k».proof.Proof.Gen.Reference2Ideal.Run
public import Idealize.ShloMosaic.Lib.Claim
public import Idealize.ShloMosaic.Lib.Pipeline.ValueKit.Point

@[expose] public section

set_option maxRecDepth 16384

open Idealize.ShloMosaic Idealize.ShloMosaic.TcCoe Idealize.ShloMosaic.StableHlo Idealize.SL.Sem

namespace TrainStep.Up

attribute [local instance] Cert.Kernel2Ideal.Gen.facts Cert.Reference2Ideal.Gen.facts

/-- Column `k` of `x` against column `l` of `y`, over all rows. -/
noncomputable def grad (x : Vec Ideal ⟨2, ![8192, 1024]⟩ .bf16) (y : Vec Ideal ⟨2, ![8192, 1408]⟩ .bf16) (k : Fin 1024)
    (l : Fin 1408) : EReal := ∑ R : Fin 8192, x (ix2 R k) * y (ix2 R l)

/-- Shard `q` of the gradient: columns `704 (q mod 2) + l` of the product with the cotangent's piece `q / 2`. -/
noncomputable def shard (x0 : Vec Ideal ⟨2, ![8192, 1024]⟩ .bf16) (x1 x2 x3 x4 : Vec Ideal ⟨2, ![8192, 1408]⟩ .bf16)
    (q : Fin 8) (k : Fin 1024) (l : Fin 704) : EReal :=
  if q.val / 2 = 0 then grad x0 x1 k ⟨704 * (q.val % 2) + l.val, by omega⟩
  else if q.val / 2 = 1 then grad x0 x2 k ⟨704 * (q.val % 2) + l.val, by omega⟩
  else if q.val / 2 = 2 then grad x0 x3 k ⟨704 * (q.val % 2) + l.val, by omega⟩
  else grad x0 x4 k ⟨704 * (q.val % 2) + l.val, by omega⟩

section Kernel

open Cert.Kernel2Ideal Cert.Kernel2Ideal.Gen

/-- The rows of block `t` of one product. -/
noncomputable def part (x : Vec Ideal ⟨2, ![8192, 1024]⟩ .bf16) (y : Vec Ideal ⟨2, ![8192, 1408]⟩ .bf16) (k : Fin 1024)
    (l : Fin 1408) (t : ℕ) : EReal :=
  ∑ r : Fin 512, ext (fun R => x (ix2 R k) * y (ix2 R l)) (512 * t + r)

theorem parts (x : Vec Ideal ⟨2, ![8192, 1024]⟩ .bf16) (y : Vec Ideal ⟨2, ![8192, 1408]⟩ .bf16) (k : Fin 1024)
    (l : Fin 1408) : ∑ t ∈ Finset.range 16, part x y k l t = grad x y k l := sum_ext 512 16 (by norm_num) _

theorem idx : ∀ t : Fin cfg0.N, win0_0.index t = ![t.val % 16, t.val / 16] ∧ win0_1.index t = ![t.val % 16, 0]
    ∧ win0_2.index t = ![t.val % 16, 0] ∧ win0_3.index t = ![t.val % 16, 0] ∧ win0_4.index t = ![t.val % 16, 0]
    ∧ win0_5.index t = ![0, t.val / 16, 0] :=
  (by decide +kernel : ∀ t : Fin grid0.N, _)

variable (m : (ℓ : Loc nD τ sig) → Buf (Elt Ideal) ℓ) (d : Dev nD)

theorem row_lt (t : ℕ) (r : Fin 512) : 512 * (t % 16) + r.val < 8192 := by omega

theorem lt_N (t : Fin cfg0.N) : t.val < 32 := lt_of_lt_of_eq t.isLt N_0

/-- Column `k` of the half of the columns point `t` works on. -/
def col (t : Fin cfg0.N) (k : Fin 512) : Fin 1024 := ⟨512 * (t.val / 16) + k.val, by have := lt_N t; omega⟩

variable (t : Fin cfg0.N) (k : Fin 512) (l : Fin 1408)

theorem x0_at (r : Fin 512) : iblk m d 0 t (ix2 r k) = m ((d : Thread nD τ).loc main_arg0) (ix2 ⟨512 * (t.val % 16) + r.val, row_lt _ r⟩ (col t k)) := by
  unfold col
  blk_ext! [iblk, V, idx t]

theorem x1_at (r : Fin 512) : iblk m d 1 t (ix2 r l) = m ((d : Thread nD τ).loc main_arg1) (ix2 ⟨512 * (t.val % 16) + r.val, row_lt _ r⟩ l) := by
  blk_ext! [iblk, V, idx t]

theorem x2_at (r : Fin 512) : iblk m d 2 t (ix2 r l) = m ((d : Thread nD τ).loc main_arg2) (ix2 ⟨512 * (t.val % 16) + r.val, row_lt _ r⟩ l) := by
  blk_ext! [iblk, V, idx t]

theorem x3_at (r : Fin 512) : iblk m d 3 t (ix2 r l) = m ((d : Thread nD τ).loc main_arg3) (ix2 ⟨512 * (t.val % 16) + r.val, row_lt _ r⟩ l) := by
  blk_ext! [iblk, V, idx t]

theorem x4_at (r : Fin 512) : iblk m d 4 t (ix2 r l) = m ((d : Thread nD τ).loc main_arg4) (ix2 ⟨512 * (t.val % 16) + r.val, row_lt _ r⟩ l) := by
  blk_ext! [iblk, V, idx t]

theorem prod_eq {x : Vec Ideal S512x512 .bf16} {y : Vec Ideal S512x1408 .bf16} {X : Vec Ideal ⟨2, ![8192, 1024]⟩ .bf16}
    {Y : Vec Ideal ⟨2, ![8192, 1408]⟩ .bf16} (hx : ∀ r, x (ix2 r k) = X (ix2 ⟨512 * (t.val % 16) + r.val, row_lt _ r⟩ (col t k)))
    (hy : ∀ r, y (ix2 r l) = Y (ix2 ⟨512 * (t.val % 16) + r.val, row_lt _ r⟩ l)) :
    UpCase.prod x y k l = part X Y (col t k) l (t.val % 16) := by
  refine Finset.sum_congr rfl fun r _ => ?_
  rw [ext_lt _ (row_lt _ r)]
  exact congrArg₂ (fun x y : EReal => x * y) (hx r) (hy r)

/-- The sum against one piece of the cotangent, over the blocks of tokens done through point `n` of its half. -/
noncomputable def upto (x : Vec Ideal ⟨2, ![8192, 1024]⟩ .bf16) (y : Vec Ideal ⟨2, ![8192, 1408]⟩ .bf16) (t : Fin cfg0.N) (k : Fin 512)
    (l : Fin 1408) : EReal := ∑ s ∈ Finset.range (t.val % 16 + 1), part x y (col t k) l s

theorem upto_first (x : Vec Ideal ⟨2, ![8192, 1024]⟩ .bf16) (y : Vec Ideal ⟨2, ![8192, 1408]⟩ .bf16) (h : t.val % 16 = 0) :
    upto x y t k l = part x y (col t k) l (t.val % 16) := by
  unfold upto
  rw [h, Finset.sum_range_one]

theorem upto_next (x : Vec Ideal ⟨2, ![8192, 1024]⟩ .bf16) (y : Vec Ideal ⟨2, ![8192, 1408]⟩ .bf16) (h : ¬t.val % 16 = 0)
    (hp : t.val - 1 < cfg0.N) :
    upto x y t k l = upto x y ⟨t.val - 1, hp⟩ k l + part x y (col t k) l (t.val % 16) := by
  unfold upto
  rw [Finset.sum_range_succ]
  have e : t.val % 16 = (t.val - 1) % 16 + 1 := by omega
  have ec : col ⟨t.val - 1, hp⟩ k = col t k := Fin.ext (by
    show 512 * ((t.val - 1) / 16) + k.val = 512 * (t.val / 16) + k.val
    omega)
  dsimp only
  rw [ec, ← e]

theorem upto_last (x : Vec Ideal ⟨2, ![8192, 1024]⟩ .bf16) (y : Vec Ideal ⟨2, ![8192, 1408]⟩ .bf16) (h : t.val % 16 = 15) :
    upto x y t k l = grad x y (col t k) l := by
  unfold upto
  rw [h]
  exact parts ..

/-- The four running sums after a point that is not the last of its half. -/
structure State (s0 s1 s2 s3 : Vec Ideal S512x1408 .f32) : Prop where
  s0 : ∀ k l, s0 (ix2 k l) = upto (m ((d : Thread nD τ).loc main_arg0)) (m ((d : Thread nD τ).loc main_arg1)) t k l
  s1 : ∀ k l, s1 (ix2 k l) = upto (m ((d : Thread nD τ).loc main_arg0)) (m ((d : Thread nD τ).loc main_arg2)) t k l
  s2 : ∀ k l, s2 (ix2 k l) = upto (m ((d : Thread nD τ).loc main_arg0)) (m ((d : Thread nD τ).loc main_arg3)) t k l
  s3 : ∀ k l, s3 (ix2 k l) = upto (m ((d : Thread nD τ).loc main_arg0)) (m ((d : Thread nD τ).loc main_arg4)) t k l

theorem first (h0 : t.val % 16 = 0) : State m d t (outsAt0 m d t.val t.isLt).2.1 (outsAt0 m d t.val t.isLt).2.2.1
    (outsAt0 m d t.val t.isLt).2.2.2.1 (outsAt0 m d t.val t.isLt).2.2.2.2 := by
  rw [outsAt0_A m d t h0 (by omega)]
  dsimp only
  have hx := fun k r => x0_at m d t k r
  exact ⟨fun k l => ((UpCase.A ..).1.trans (prod_eq t k l (hx k) (x1_at m d t l))).trans (upto_first t k l _ _ h0).symm,
    fun k l => ((UpCase.A ..).2.1.trans (prod_eq t k l (hx k) (x2_at m d t l))).trans (upto_first t k l _ _ h0).symm,
    fun k l => ((UpCase.A ..).2.2.1.trans (prod_eq t k l (hx k) (x3_at m d t l))).trans (upto_first t k l _ _ h0).symm,
    fun k l => ((UpCase.A ..).2.2.2.trans (prod_eq t k l (hx k) (x4_at m d t l))).trans (upto_first t k l _ _ h0).symm⟩

theorem state : ∀ (n : ℕ) (h : n < cfg0.N), n % 16 < 15 → State m d ⟨n, h⟩ (outsAt0 m d n h).2.1 (outsAt0 m d n h).2.2.1
    (outsAt0 m d n h).2.2.2.1 (outsAt0 m d n h).2.2.2.2
  | 0, h, _ => first m d ⟨0, h⟩ rfl
  | n + 1, h, h15 => by
    by_cases h0 : (n + 1) % 16 = 0
    · exact first m d ⟨n + 1, h⟩ h0
    obtain ⟨s0, s1, s2, s3⟩ := state n (Nat.lt_of_succ_lt h) (by omega)
    rw [outsAt0_B m d ⟨n + 1, h⟩ h0 (by dsimp only; omega)]
    dsimp only
    have hx := fun k r => x0_at m d ⟨n + 1, h⟩ k r
    exact ⟨fun k l => ((UpCase.B ..).1.trans (congrArg₂ (· + ·) (s0 k l) (prod_eq _ k l (hx k) (x1_at m d _ l)))).trans (upto_next ⟨n + 1, h⟩ k l _ _ h0 _).symm,
      fun k l => ((UpCase.B ..).2.1.trans (congrArg₂ (· + ·) (s1 k l) (prod_eq _ k l (hx k) (x2_at m d _ l)))).trans (upto_next ⟨n + 1, h⟩ k l _ _ h0 _).symm,
      fun k l => ((UpCase.B ..).2.2.1.trans (congrArg₂ (· + ·) (s2 k l) (prod_eq _ k l (hx k) (x3_at m d _ l)))).trans (upto_next ⟨n + 1, h⟩ k l _ _ h0 _).symm,
      fun k l => ((UpCase.B ..).2.2.2.trans (congrArg₂ (· + ·) (s3 k l) (prod_eq _ k l (hx k) (x4_at m d _ l)))).trans (upto_next ⟨n + 1, h⟩ k l _ _ h0 _).symm⟩

/-- The result of device `d`'s arguments. -/
noncomputable def want (q : Fin 8) (k : Fin 1024) (l : Fin 704) : EReal :=
  shard (m ((d : Thread nD τ).loc main_arg0)) (m ((d : Thread nD τ).loc main_arg1)) (m ((d : Thread nD τ).loc main_arg2))
    (m ((d : Thread nD τ).loc main_arg3)) (m ((d : Thread nD τ).loc main_arg4)) q k l

/-- What the last point of a half writes. -/
theorem out (h : t.val % 16 = 15) (q : Fin 8) (l : Fin 704) :
    (outsAt0 m d t.val t.isLt).1 (ix3 q k ⟨l.val, by omega⟩) = want m d q (col t k) l := by
  have hp : t.val - 1 < cfg0.N := by have := t.isLt; omega
  obtain ⟨s0, s1, s2, s3⟩ := state m d (t.val - 1) hp (by omega)
  have h0 : ¬t.val % 16 = 0 := by omega
  rw [outsAt0_C m d t h0 h]
  dsimp only
  refine (UpCase.C (hl := l.isLt) ..).trans ?_
  have hx := fun k r => x0_at m d t k r
  have step : ∀ (X : Vec Ideal ⟨2, ![8192, 1024]⟩ .bf16) (Y : Vec Ideal ⟨2, ![8192, 1408]⟩ .bf16) (a p : EReal) (j : Fin 1408),
      a = upto X Y ⟨t.val - 1, hp⟩ k j → p = part X Y (col t k) j (t.val % 16) → a + p = grad X Y (col t k) j := by
    intro X Y a p j ha hpart
    rw [ha, hpart, ← upto_next t k j X Y h0 hp, upto_last t k j X Y h]
  unfold UpCase.sums want shard
  refine if_congr Iff.rfl ?_ (if_congr Iff.rfl ?_ (if_congr Iff.rfl ?_ ?_))
  · exact step _ _ _ _ _ (s0 k _) (prod_eq t k _ (hx k) (x1_at m d t _))
  · exact step _ _ _ _ _ (s1 k _) (prod_eq t k _ (hx k) (x2_at m d t _))
  · exact step _ _ _ _ _ (s2 k _) (prod_eq t k _ (hx k) (x3_at m d t _))
  · exact step _ _ _ _ _ (s3 k _) (prod_eq t k _ (hx k) (x4_at m d t _))

theorem disjoint : ∀ t t' : Fin cfg0.N, (cfg0.win 5).flush t = true → (cfg0.win 5).flush t' = true → t ≠ t' →
    Disjoint ((cfg0.win 5).blk t).view.set ((cfg0.win 5).blk t').view.set := fun t t' h h' hne =>
  (cfg0.win 5).disjoint_blk fun e => hne (Fin.ext (by
    have e1 := congrFun (((idx t).2.2.2.2.2.symm.trans e).trans (idx t').2.2.2.2.2) 1
    have : t.val / 16 = t'.val / 16 := e1
    have := (flush0_5 t).mp h
    have := (flush0_5 t').mp h'
    omega))

/-- The call's array, at the columns the host keeps. -/
theorem arr (q : Fin 8) (k : Fin 1024) (l : Fin 704) :
    (dats m 0 d).arrAt 5 cfg0.N (ix3 q k ⟨l.val, by omega⟩) = want m d q k l := by
  have hN : cfg0.N = 32 := N_0
  obtain ⟨t, ht, j, rfl⟩ : ∃ (t : Fin cfg0.N) (_ : t.val % 16 = 15) (j : Fin 512), col t j = k :=
    ⟨⟨16 * (k.val / 512) + 15, by omega⟩, by dsimp only; omega, ⟨k.val % 512, by omega⟩, Fin.ext (by
      show 512 * ((16 * (k.val / 512) + 15) / 16) + k.val % 512 = k.val
      omega)⟩
  have hf : (dats m 0 d).flushed 5 t = (cfg0.win 5).cut (grid0.coords t) ((outsAt0 m d t.val t.isLt).1) := by
    show (cfg0.win 5).cut (grid0.coords t) ((dats m 0 d).after 5 t) = _
    rw [after0_5]
  have hb := (dats m 0 d).read_blk_arrAt_eq_flushed 5 disjoint cfg0.N t t.isLt ((flush0_5 t).mpr ht)
  refine Eq.trans ?_ ((congrFun (hb.trans hf) (ix3 q j ⟨l.val, by omega⟩)).trans (out m d t j ht q l))
  rw [View.read_apply]
  unfold col
  blk_ext [idx t]

/-- The kernel's run: its result is the call's array without the columns past the shard's. -/
theorem kernel (ρ : Dev nD → PrngReg) :
    θ_run defs (onTc (τ := τ) (main (F := Ideal))) ⟨m, fun _ => 0, ρ⟩ fun r => ∀ c : Dev nD,
      r.2.mem ((c.tc : Thread nD τ).loc main_v1)
        = extractStridedSlice S8x1024x704 ![0, 0, 0] ((dats m 0 c).arrAt 5 cfg0.N) slices_S8x1024x768_S8x1024x704_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from run_main m ρ
  unfold Pipeline.afterTail₀ hostOps1
  simp only [List.flatten_cons, List.flatten_nil, List.append_nil]
  after_results
  exact congrArg (extractStridedSlice S8x1024x704 ![0, 0, 0] · slices_S8x1024x768_S8x1024x704_0_0_0)
    (Pipeline.withArrays_arr spec0 (by decide) c (V0 m c) (fun w => (dats m 0 c).arrAt w cfg0.N) 5)

end Kernel

section Reference

open Cert.Reference2Ideal Cert.Reference2Ideal.Read

/-- The reference's result, read at one entry. -/
theorem ref (x0 : Vec Ideal ⟨2, ![8192, 1024]⟩ .bf16) (x1 x2 x3 x4 : Vec Ideal ⟨2, ![8192, 1408]⟩ .bf16) (q : Fin 8)
    (k : Fin 1024) (l : Fin 704) : val_main_v12 (F := Ideal) x0 x1 x2 x3 x4 (ix3 q k l) = shard x0 x1 x2 x3 x4 q k l := by
  pointwise [val_main_v12, val_main_v11, val_main_v10, val_main_v9, val_main_v8, val_main_v5, val_main_v4, val_main_v3,
    val_main_v2, val_main_v1, val_main_v0]
  have pick : ∀ (Y : Vec Ideal ⟨2, ![8192, 1408]⟩ .bf16) (j j' : Fin 1408), j = j' →
      ∑ R : Fin 8192, Y (ix2 R j) * x0 (ix2 R k) = grad x0 Y k j' := by
    rintro Y j _ rfl
    exact Finset.sum_congr rfl fun R _ => mul_comm _ _
  have hl := l.isLt
  have hq := q.isLt
  unfold shard
  by_cases h0 : q.val / 2 = 0
  · have c0 : q.val * 704 + l.val < 1408 := by omega
    simp only [dif_pos c0, if_pos h0]
    exact pick _ _ _ (Fin.ext (by dsimp only; omega))
  have c0 : ¬q.val * 704 + l.val < 1408 := by omega
  by_cases h1 : q.val / 2 = 1
  · have c1 : q.val * 704 + l.val - 1408 < 1408 := by omega
    simp only [dif_neg c0, dif_pos c1, if_neg h0, if_pos h1]
    exact pick _ _ _ (Fin.ext (by dsimp only; omega))
  have c1 : ¬q.val * 704 + l.val - 1408 < 1408 := by omega
  by_cases h2 : q.val / 2 = 2
  · have c2 : q.val * 704 + l.val - 1408 - 1408 < 1408 := by omega
    simp only [dif_neg c0, dif_neg c1, dif_pos c2, if_neg h0, if_neg h1, if_pos h2]
    exact pick _ _ _ (Fin.ext (by dsimp only; omega))
  have c2 : ¬q.val * 704 + l.val - 1408 - 1408 < 1408 := by omega
  simp only [dif_neg c0, dif_neg c1, dif_neg c2, if_neg h0, if_neg h1, if_neg h2]
  exact pick _ _ _ (Fin.ext (by dsimp only; omega))

theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v12)
        = val_main_v12 (F := Ideal) (a c main_arg0) (a c main_arg1) (a c main_arg2) (a c main_arg3) (a c main_arg4)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2
      ∧ r.2.mem ((c.tc : Thread nD τ).loc main_arg3) = a c main_arg3
      ∧ r.2.mem ((c.tc : Thread nD τ).loc main_arg4) = a c main_arg4 :=
  (θ_run defs _ _).mono (fun r h c => by
    obtain ⟨h0, hargs⟩ := h c
    exact ⟨h0.trans (val_main_v12_eq (F := Ideal) _ _ _ _ _), hargs⟩)
    (Cert.Reference2Ideal.Value.run m ρ)

end Reference

theorem algebraic : Cert.algebraic_Kernel2Ideal_Reference2Ideal := by
  intro m ρ m' ρ' _ hagree
  refine ⟨_, kernel m ρ, ?_⟩
  refine (θ_run _ _ _).mono (fun r h c => ?_) (run m' ρ')
  obtain ⟨e0, e1, e2, e3, e4⟩ := hagree c
  obtain ⟨h0, hargs⟩ := h c
  refine ⟨h0.trans ?_, hargs⟩
  simp only [e0, e1, e2, e3, e4]
  refine funext fun i => ?_
  rw [eq_ix3 i]
  refine (ref ..).trans ((arr m c _ _ _).symm.trans ?_)
  pointwise []

end TrainStep.Up
-- ==== Proof.Wgrad.DownCase.lean ====
/-
  What one grid point of the `w_down` gradient's call leaves in its two running sums, and the last one in the result.
-/
module

public import proofs.«01_k».proof.Proof.Gen.Kernel3Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel3Ideal Cert.Kernel3Ideal.Gen

namespace TrainStep.DownCase

theorem hz : (![0, 0] : Fin 2 → Nat) = fun _ => 0 := funext fun a => by fin_cases a <;> rfl

variable (c : Dev nD) (i : grid0.Coords) (arg1 : Memref sig .tc .vmem S1024x1408 .bf16) (harg1 : arg1.IsWhole)
  (arg2 : Memref sig .tc .vmem S1024x1408 .bf16) (harg2 : arg2.IsWhole) (arg3 : Memref sig .tc .vmem S1024x1024 .bf16)
  (harg3 : arg3.IsWhole) (arg4 : Memref sig .tc .vmem S2x1408x1024 .bf16) (harg4 : arg4.IsWhole)
  (arg5 : Memref sig .tc .vmem S1408x1024 .f32) (harg5 : arg5.IsWhole) (arg6 : Memref sig .tc .vmem S1408x1024 .f32)
  (harg6 : arg6.IsWhole) (x0 x1 : Vec Ideal S1024x1408 .bf16) (x2 : Vec Ideal S1024x1024 .bf16)
  (xs0 xs1 : Vec Ideal S1408x1024 .f32) (k : Fin 1408) (l : Fin 1024)

/-- The product of one block's columns `k` and `l`. -/
noncomputable def prod (x : Vec Ideal S1024x1408 .bf16) (y : Vec Ideal S1024x1024 .bf16) (k : Fin 1408) (l : Fin 1024) : EReal :=
  ∑ r : Fin 1024, x (ix2 r k) * y (ix2 r l)

theorem A_s0 (h0 : cond0_0 i) (h1 : ¬cond0_1 i) : sout0_A_0 (F := Ideal) c i arg1 harg1 arg2 harg2 arg3 harg3 arg4 harg4 arg5 harg5 arg6 harg6 h0 h1 x0 x1 x2 (ix2 k l) = prod x0 x2 k l := by
  unfold sout0_A_0
  rw [View.read_writes_eq_canon _ _ _ (scover0_A_0 c i arg1 harg1 arg2 harg2 arg3 harg3 arg4 harg4 arg5 harg5 arg6 harg6 h0 h1 x0 x1 x2)]
  unfold kernelRun0_A
  dsimp only
  rw [View.canon_cons_unit_zero (S := S1408x1024) hz]
  sl_unfold_words
  simp only [View.readAt_eq_ld, Memref.IsWhole.read_unread, View.ld_unit_zero (S := S1408x1024) hz,
    View.ld_unit_zero (S := S1024x1408) hz, View.ld_unit_zero (S := S1024x1024) hz, shapeCast_self, View.readCov_unit_zero (S := S1408x1024) _ hz]
  pointwise [k0_pay3, k0_pay1]
  rfl

theorem B_s0 (h0 : ¬cond0_0 i) (h1 : ¬cond0_1 i) : sout0_B_0 (F := Ideal) c i arg1 harg1 arg2 harg2 arg3 harg3 arg4 harg4 arg5 harg5 arg6 harg6 h0 h1 x0 x1 x2 xs0 xs1 (ix2 k l) = xs0 (ix2 k l) + prod x0 x2 k l := by
  unfold sout0_B_0
  rw [View.read_writes_eq_canon _ _ _ (scover0_B_0 c i arg1 harg1 arg2 harg2 arg3 harg3 arg4 harg4 arg5 harg5 arg6 harg6 h0 h1 x0 x1 x2 xs0 xs1)]
  unfold kernelRun0_B
  dsimp only
  rw [View.canon_cons_unit_zero (S := S1408x1024) hz]
  sl_unfold_words
  simp only [View.readAt_eq_ld, Memref.IsWhole.read_unread, View.ld_unit_zero (S := S1408x1024) hz,
    View.ld_unit_zero (S := S1024x1408) hz, View.ld_unit_zero (S := S1024x1024) hz, shapeCast_self, View.readCov_unit_zero (S := S1408x1024) _ hz]
  pointwise [k0_pay3]
  rfl

theorem A_s1 (h0 : cond0_0 i) (h1 : ¬cond0_1 i) : sout0_A_1 (F := Ideal) c i arg1 harg1 arg2 harg2 arg3 harg3 arg4 harg4 arg5 harg5 arg6 harg6 h0 h1 x0 x1 x2 (ix2 k l) = prod x1 x2 k l := by
  unfold sout0_A_1
  rw [View.read_writes_eq_canon _ _ _ (scover0_A_1 c i arg1 harg1 arg2 harg2 arg3 harg3 arg4 harg4 arg5 harg5 arg6 harg6 h0 h1 x0 x1 x2)]
  unfold kernelRun0_A
  dsimp only
  rw [View.canon_cons_unit_zero (S := S1408x1024) hz]
  sl_unfold_words
  simp only [View.readAt_eq_ld, Memref.IsWhole.read_unread, View.ld_unit_zero (S := S1408x1024) hz,
    View.ld_unit_zero (S := S1024x1408) hz, View.ld_unit_zero (S := S1024x1024) hz, shapeCast_self, View.readCov_unit_zero (S := S1408x1024) _ hz]
  pointwise [k0_pay4, k0_pay2]
  rfl

theorem B_s1 (h0 : ¬cond0_0 i) (h1 : ¬cond0_1 i) : sout0_B_1 (F := Ideal) c i arg1 harg1 arg2 harg2 arg3 harg3 arg4 harg4 arg5 harg5 arg6 harg6 h0 h1 x0 x1 x2 xs0 xs1 (ix2 k l) = xs1 (ix2 k l) + prod x1 x2 k l := by
  unfold sout0_B_1
  rw [View.read_writes_eq_canon _ _ _ (scover0_B_1 c i arg1 harg1 arg2 harg2 arg3 harg3 arg4 harg4 arg5 harg5 arg6 harg6 h0 h1 x0 x1 x2 xs0 xs1)]
  unfold kernelRun0_B
  dsimp only
  rw [View.canon_cons_unit_zero (S := S1408x1024) hz]
  sl_unfold_words
  simp only [View.readAt_eq_ld, Memref.IsWhole.read_unread, View.ld_unit_zero (S := S1408x1024) hz,
    View.ld_unit_zero (S := S1024x1408) hz, View.ld_unit_zero (S := S1024x1024) hz, shapeCast_self, View.readCov_unit_zero (S := S1408x1024) _ hz]
  pointwise [k0_pay4]
  rfl

/-- The last point's result: the two running sums, each with this point's product. -/
theorem C_3 (h0 : ¬cond0_0 i) (h1 : cond0_1 i) (p : Fin 2) : out0_C_3 (F := Ideal) c i arg1 harg1 arg2 harg2 arg3 harg3 arg4 harg4 arg5 harg5 arg6 harg6 h0 h1 x0 x1 x2 xs0 xs1 (ix3 p k l)
    = if p = 0 then xs0 (ix2 k l) + prod x0 x2 k l else xs1 (ix2 k l) + prod x1 x2 k l := by
  unfold out0_C_3
  unfold kernelRun0_C
  dsimp only
  sl_unfold_words
  simp only [View.readAt_eq_ld, Memref.IsWhole.read_unread, View.ld_unit_zero (S := S1408x1024) hz,
    View.ld_unit_zero (S := S1024x1408) hz, View.ld_unit_zero (S := S1024x1024) hz, shapeCast_self, View.readCov_unit_zero (S := S1408x1024) _ hz]
  by_cases hp : p = 0
  · subst hp
    rw [View.read_writes_cons_unit_of_not_mem _ _ _ _ _ _ rfl 0 (Or.inl Nat.zero_lt_one),
      View.read_writes_cons_unit_of_mem _ _ _ _ _ _ (ix3 0 k l) rfl (by intro a; fin_cases a <;> simp)]
    pointwise [k0_pay5, k0_pay3]
    rfl
  · obtain rfl : p = 1 := by omega
    rw [View.read_writes_cons_unit_of_mem _ _ _ _ _ _ (ix3 0 k l) rfl (by intro a; fin_cases a <;> simp)]
    pointwise [k0_pay6, k0_pay4]
    rfl

end TrainStep.DownCase
-- ==== Proof.Wgrad.Down.lean ====
/-
  The gradient of `w_down`: the two running sums over the eight blocks of rows, the result array, the reference's
  result, and their equality on every device.
-/
module

public import proofs.«01_k».proof.Defs
public import proofs.«01_k».proof.Proof.Math.Sums
public import proofs.«01_k».proof.Proof.Wgrad.DownCase
public import proofs.«01_k».proof.Proof.Gen.Kernel3Ideal.Value
public import proofs.«01_k».proof.Proof.Gen.Reference3Ideal.Read
public import proofs.«01_k».proof.Proof.Gen.Reference3Ideal.Run
public import Idealize.ShloMosaic.Lib.Claim
public import Idealize.ShloMosaic.Lib.Pipeline.ValueKit.Point

@[expose] public section

set_option maxRecDepth 16384

open Idealize.ShloMosaic Idealize.ShloMosaic.TcCoe Idealize.ShloMosaic.StableHlo Idealize.SL.Sem

namespace TrainStep.Down

attribute [local instance] Cert.Kernel3Ideal.Gen.facts Cert.Reference3Ideal.Gen.facts

/-- Column `k` of `x` against column `l` of `y`, over all rows. -/
noncomputable def grad (x : Vec Ideal ⟨2, ![8192, 1408]⟩ .bf16) (y : Vec Ideal ⟨2, ![8192, 1024]⟩ .bf16) (k : Fin 1408)
    (l : Fin 1024) : EReal := ∑ R : Fin 8192, x (ix2 R k) * y (ix2 R l)

section Kernel

open Cert.Kernel3Ideal Cert.Kernel3Ideal.Gen Cert.Kernel3Ideal.Value

variable (m : (ℓ : Loc nD τ sig) → Buf (Elt Ideal) ℓ) (d : Dev nD) (k : Fin 1408) (l : Fin 1024)

/-- The rows of block `t` of one product. -/
noncomputable def part (x : Vec Ideal ⟨2, ![8192, 1408]⟩ .bf16) (y : Vec Ideal ⟨2, ![8192, 1024]⟩ .bf16) (t : ℕ) : EReal :=
  ∑ r : Fin 1024, ext (fun R => x (ix2 R k) * y (ix2 R l)) (1024 * t + r)

theorem parts (x : Vec Ideal ⟨2, ![8192, 1408]⟩ .bf16) (y : Vec Ideal ⟨2, ![8192, 1024]⟩ .bf16) :
    ∑ t ∈ Finset.range 8, part k l x y t = grad x y k l := sum_ext 1024 8 (by norm_num) _

theorem idx : ∀ t : Fin cfg0.N, win0_0.index t = ![t.val, 0] ∧ win0_1.index t = ![t.val, 0] ∧ win0_2.index t = ![t.val, 0]
    ∧ win0_3.index t = ![0, 0, 0] :=
  (by decide +kernel : ∀ t : Fin grid0.N, _)

variable (t : Fin cfg0.N)

theorem row_lt (r : Fin 1024) : 1024 * t.val + r.val < 8192 := by
  have := t.isLt
  have hN : cfg0.N = 8 := N_0
  omega

theorem prod0 : DownCase.prod (iblk m d 0 t) (iblk m d 2 t) k l
    = part k l (m ((d : Thread nD τ).loc main_arg0)) (m ((d : Thread nD τ).loc main_arg2)) t.val := by
  refine Finset.sum_congr rfl fun r _ => ?_
  rw [ext_lt _ (row_lt t r)]
  have e0 : iblk m d 0 t (ix2 r k) = m ((d : Thread nD τ).loc main_arg0) (ix2 ⟨1024 * t.val + r.val, row_lt t r⟩ k) := by
    blk_ext! [iblk, V, idx t]
  have e2 : iblk m d 2 t (ix2 r l) = m ((d : Thread nD τ).loc main_arg2) (ix2 ⟨1024 * t.val + r.val, row_lt t r⟩ l) := by
    blk_ext! [iblk, V, idx t]
  exact congrArg₂ (fun x y : EReal => x * y) e0 e2

theorem prod1 : DownCase.prod (iblk m d 1 t) (iblk m d 2 t) k l
    = part k l (m ((d : Thread nD τ).loc main_arg1)) (m ((d : Thread nD τ).loc main_arg2)) t.val := by
  refine Finset.sum_congr rfl fun r _ => ?_
  rw [ext_lt _ (row_lt t r)]
  have e0 : iblk m d 1 t (ix2 r k) = m ((d : Thread nD τ).loc main_arg1) (ix2 ⟨1024 * t.val + r.val, row_lt t r⟩ k) := by
    blk_ext! [iblk, V, idx t]
  have e2 : iblk m d 2 t (ix2 r l) = m ((d : Thread nD τ).loc main_arg2) (ix2 ⟨1024 * t.val + r.val, row_lt t r⟩ l) := by
    blk_ext! [iblk, V, idx t]
  exact congrArg₂ (fun x y : EReal => x * y) e0 e2

/-- The two running sums after point `n`, the last point apart. -/
theorem state : ∀ (n : ℕ) (h : n < cfg0.N), n < 7 → ∀ k l,
    (outsAt0 m d n h).2.1 (ix2 k l) = ∑ t ∈ Finset.range (n + 1), part k l (m ((d : Thread nD τ).loc main_arg0)) (m ((d : Thread nD τ).loc main_arg2)) t
    ∧ (outsAt0 m d n h).2.2 (ix2 k l) = ∑ t ∈ Finset.range (n + 1), part k l (m ((d : Thread nD τ).loc main_arg1)) (m ((d : Thread nD τ).loc main_arg2)) t
  | 0, h, _, k, l => by
    rw [outsAt0_A m d ⟨0, h⟩ rfl (by dsimp only; omega)]
    dsimp only
    rw [Finset.sum_range_one, Finset.sum_range_one]
    exact ⟨(DownCase.A_s0 ..).trans (prod0 m d k l _), (DownCase.A_s1 ..).trans (prod1 m d k l _)⟩
  | n + 1, h, h7, k, l => by
    obtain ⟨s0, s1⟩ := state n (Nat.lt_of_succ_lt h) (by omega) k l
    rw [outsAt0_B m d ⟨n + 1, h⟩ (by dsimp only; omega) (by dsimp only; omega)]
    dsimp only
    rw [Finset.sum_range_succ _ (n + 1), Finset.sum_range_succ _ (n + 1), ← s0, ← s1]
    exact ⟨(DownCase.B_s0 ..).trans (congrArg (_ + ·) (prod0 m d k l ⟨n + 1, h⟩)),
      (DownCase.B_s1 ..).trans (congrArg (_ + ·) (prod1 m d k l ⟨n + 1, h⟩))⟩

theorem last_lt : 7 < cfg0.N := by rw [show cfg0.N = 8 from N_0]; decide

theorem last (h : t.val % 8 = 7) : t = ⟨7, last_lt⟩ := Fin.ext (by
  have hN : cfg0.N = 8 := N_0
  have := t.isLt
  show t.val = 7
  omega)

/-- The last point's result. -/
theorem out (p : Fin 2) : (outsAt0 m d 7 last_lt).1 (ix3 p k l)
    = if p = 0 then grad (m ((d : Thread nD τ).loc main_arg0)) (m ((d : Thread nD τ).loc main_arg2)) k l
      else grad (m ((d : Thread nD τ).loc main_arg1)) (m ((d : Thread nD τ).loc main_arg2)) k l := by
  obtain ⟨s0, s1⟩ := state m d 6 (Nat.lt_of_succ_lt last_lt) (by omega) k l
  rw [outsAt0_C m d ⟨7, last_lt⟩ (by decide) rfl]
  dsimp only
  rw [← parts, ← parts, Finset.sum_range_succ _ 7, Finset.sum_range_succ _ 7, ← s0, ← s1, ← prod0 m d k l ⟨7, last_lt⟩,
    ← prod1 m d k l ⟨7, last_lt⟩]
  exact DownCase.C_3 ..

/-- The result array. -/
theorem arr (p : Fin 2) : (dats m 0 d).arrAt 3 cfg0.N (ix3 p k l)
    = if p = 0 then grad (m ((d : Thread nD τ).loc main_arg0)) (m ((d : Thread nD τ).loc main_arg2)) k l
      else grad (m ((d : Thread nD τ).loc main_arg1)) (m ((d : Thread nD τ).loc main_arg2)) k l := by
  have hb := (dats m 0 d).read_blk_arrAt_eq_flushed 3
    (fun t t' h h' hne => absurd ((last t ((flush0_3 t).mp h)).trans (last t' ((flush0_3 t').mp h')).symm) hne)
    cfg0.N ⟨7, last_lt⟩ last_lt ((flush0_3 _).mpr rfl)
  refine Eq.trans ?_ ((congrFun (hb.trans (flushed3 m d _)) (ix3 p k l)).trans (out m d k l p))
  rw [View.read_apply]
  generalize (⟨7, last_lt⟩ : Fin cfg0.N) = t
  blk_ext [idx t]

end Kernel

section Reference

open Cert.Reference3Ideal Cert.Reference3Ideal.Read

/-- The reference's result, read at one entry. -/
theorem ref (x0 x1 : Vec Ideal ⟨2, ![8192, 1408]⟩ .bf16) (x2 : Vec Ideal ⟨2, ![8192, 1024]⟩ .bf16) (p : Fin 2) (k : Fin 1408)
    (l : Fin 1024) : val_main_v9 (F := Ideal) x0 x1 x2 (ix3 p k l) = if p = 0 then grad x0 x2 k l else grad x1 x2 k l := by
  pointwise [val_main_v9, val_main_v8, val_main_v7, val_main_v6, val_main_v3, val_main_v2, val_main_v1, val_main_v0]
  have hk := k.isLt
  by_cases hp : p = 0
  · subst hp
    rw [if_pos rfl]
    refine Finset.sum_congr rfl fun R _ => ?_
    have h : (0 : Fin 2).val * 1408 + k.val < 1408 := by simp
    rw [dif_pos h, mul_comm]
    congr 3
    exact Fin.ext (by simp)
  · obtain rfl : p = 1 := by omega
    rw [if_neg hp]
    refine Finset.sum_congr rfl fun R _ => ?_
    have h : ¬(1 : Fin 2).val * 1408 + k.val < 1408 := by simp
    rw [dif_neg h, mul_comm]
    congr 3
    exact Fin.ext (by simp)

theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v9) = val_main_v9 (F := Ideal) (a c main_arg0) (a c main_arg1) (a c main_arg2)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2 :=
  (θ_run defs _ _).mono (fun r h c => by
    obtain ⟨h0, hargs⟩ := h c
    exact ⟨h0.trans (val_main_v9_eq (F := Ideal) _ _ _), hargs⟩)
    (Cert.Reference3Ideal.Value.run m ρ)

end Reference

theorem algebraic : Cert.algebraic_Kernel3Ideal_Reference3Ideal := by
  intro m ρ m' ρ' _ hagree
  refine ⟨fun c => (Cert.Kernel3Ideal.Gen.dats m 0 c).arrAt 3 Cert.Kernel3Ideal.cfg0.N,
    Cert.Kernel3Ideal.Value.run_blocks m ρ, ?_⟩
  refine (θ_run _ _ _).mono (fun r h c => ?_) (run m' ρ')
  obtain ⟨e0, e1, e2⟩ := hagree c
  obtain ⟨h0, hargs⟩ := h c
  refine ⟨h0.trans ?_, hargs⟩
  simp only [e0, e1, e2]
  refine funext fun i => ?_
  rw [eq_ix3 i]
  exact (ref _ _ _ _ _ _).trans (arr m c _ _ _).symm

end TrainStep.Down
-- ==== Proof.Wgrad.InCase.lean ====
/-
  What one grid point of the `w_in` gradient's call leaves in its running sum, and the last point in the result: the
  sum's columns as eight shards.
-/
module

public import proofs.«01_k».proof.Proof.Gen.Kernel4Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel4Ideal Cert.Kernel4Ideal.Gen

namespace TrainStep.InCase

theorem hz : (![0, 0] : Fin 2 → Nat) = fun _ => 0 := funext fun a => by fin_cases a <;> rfl

variable (c : Dev nD) (i : grid0.Coords) (arg2 : Memref sig .tc .vmem S1024x1024 .bf16) (harg2 : arg2.IsWhole)
  (arg3 : Memref sig .tc .vmem S1024x3712 .bf16) (harg3 : arg3.IsWhole) (arg4 : Memref sig .tc .vmem S8x1024x512 .bf16)
  (harg4 : arg4.IsWhole) (arg5 : Memref sig .tc .vmem S1024x3712 .f32) (harg5 : arg5.IsWhole)
  (x0 : Vec Ideal S1024x1024 .bf16) (x1 : Vec Ideal S1024x3712 .bf16) (xs0 : Vec Ideal S1024x3712 .f32)

/-- The product of one block's columns `k` and `l`. -/
noncomputable def prod (x : Vec Ideal S1024x1024 .bf16) (y : Vec Ideal S1024x3712 .bf16) (k : Fin 1024) (l : Fin 3712) : EReal :=
  ∑ r : Fin 1024, x (ix2 r k) * y (ix2 r l)

theorem A (h0 : cond0_0 i) (h1 : ¬cond0_1 i) (k : Fin 1024) (l : Fin 3712) :
    sout0_A_0 (F := Ideal) c i arg2 harg2 arg3 harg3 arg4 harg4 arg5 harg5 h0 h1 x0 x1 (ix2 k l) = prod x0 x1 k l := by
  unfold sout0_A_0 kernelRun0_A; dsimp only; rw [View.read_writes_full (s := S1024x3712)]; sl_unfold_words
  simp only [View.readAt_eq_ld, Memref.IsWhole.read_unread, View.ld_unit_zero (S := S1024x3712) hz,
    View.ld_unit_zero (S := S1024x1024) hz, shapeCast_self, View.readCov_unit_zero (S := S1024x3712) _ hz]
  pointwise [k0_pay2, k0_pay1]; rfl

theorem B (h0 : ¬cond0_0 i) (h1 : ¬cond0_1 i) (k : Fin 1024) (l : Fin 3712) :
    sout0_B_0 (F := Ideal) c i arg2 harg2 arg3 harg3 arg4 harg4 arg5 harg5 h0 h1 x0 x1 xs0 (ix2 k l) = xs0 (ix2 k l) + prod x0 x1 k l := by
  unfold sout0_B_0 kernelRun0_B; dsimp only; rw [View.read_writes_full (s := S1024x3712)]; sl_unfold_words
  simp only [View.readAt_eq_ld, Memref.IsWhole.read_unread, View.ld_unit_zero (S := S1024x3712) hz,
    View.ld_unit_zero (S := S1024x1024) hz, shapeCast_self]
  pointwise [k0_pay2]; rfl

/-- A load of columns `o`, `o + 1`, … of what one store of the whole left. -/
theorem window (v : View sig .tc .vmem S1024x3712 .f32) (w : Vec Ideal S1024x3712 .f32) (o n : ℕ)
    (inb : ∀ a, (![0, 0] : Fin 2 → ℕ) a + S1024x3712.size a ≤ S1024x3712.size a)
    (inb' : ∀ a, (![0, o] : Fin 2 → ℕ) a + (![1024, n] : Fin 2 → ℕ) a ≤ S1024x3712.size a) (k : Fin 1024) (j : Fin n)
    (l : Fin 3712) (h : l.val = o + j.val) :
    v.readCov [⟨Rect.unit (s := S1024x3712) ![0, 0] S1024x3712.size inb, w⟩] (Rect.unit (s := S1024x3712) ![0, o] ![1024, n] inb').toLoadRect (ix2 k j)
      = w (ix2 k l) := by
  rw [View.readCov_eq_canon_ld _ _ _ (fun y => ⟨_, List.mem_singleton_self _, View.mem_set_unit_zero hz inb y⟩),
    View.canon_unit_zero hz]
  refine congrArg w (funext fun a => Fin.ext ?_)
  fin_cases a
  · show 0 + 1 * k.val = k.val
    omega
  · show o + 1 * j.val = l.val
    omega

theorem pay (k : Fin 1024) (l : Fin 3712) : k0_pay2 (F := Ideal) x0 xs0 x1 (ix2 k l) = xs0 (ix2 k l) + prod x0 x1 k l := by
  pointwise [k0_pay2]; rfl

/-- The last point's result: shard `q` holds columns `449 q + l` of the sum. -/
theorem C (h0 : ¬cond0_0 i) (h1 : cond0_1 i) (q : Fin 8) (k : Fin 1024) (l : Fin 512) (hl : l.val < 449) :
    out0_C_2 (F := Ideal) c i arg2 harg2 arg3 harg3 arg4 harg4 arg5 harg5 h0 h1 x0 x1 xs0 (ix3 q k l)
      = xs0 (ix2 k ⟨449 * q.val + l.val, by omega⟩) + prod x0 x1 k ⟨449 * q.val + l.val, by omega⟩ := by
  unfold out0_C_2 kernelRun0_C
  dsimp only
  sl_unfold_words
  simp only [View.readAt_eq_ld, Memref.IsWhole.read_unread, View.ld_unit_zero (S := S1024x3712) hz,
      View.ld_unit_zero (S := S1024x1024) hz, shapeCast_self]
  by_cases hq : q = 7
  · subst hq
    rw [View.read_writes_cons_unit_of_mem _ _ _ _ _ _ (ix3 0 k l) rfl (by intro a; fin_cases a <;> simp)]
    pointwise [k0_pay6]
    exact (window _ _ 3072 640 _ _ k _ _ (by dsimp only; omega)).trans (pay ..)
  rw [View.read_writes_cons_unit_of_not_mem _ _ _ _ _ _ rfl 0 (Or.inl (show q.val < 7 by omega))]
  by_cases hq : q = 6
  · subst hq
    rw [View.read_writes_cons_unit_of_mem _ _ _ _ _ _ (ix3 0 k l) rfl (by intro a; fin_cases a <;> simp)]
    pointwise [k0_pay5]
    exact (window _ _ 2688 512 _ _ k _ _ (by dsimp only; omega)).trans (pay ..)
  rw [View.read_writes_cons_unit_of_not_mem _ _ _ _ _ _ rfl 0 (Or.inl (show q.val < 6 by omega))]
  by_cases hq : q = 5
  · subst hq
    rw [View.read_writes_cons_unit_of_mem _ _ _ _ _ _ (ix3 0 k l) rfl (by intro a; fin_cases a <;> simp)]
    pointwise [k0_pay4]
    exact (window _ _ 2176 640 _ _ k _ _ (by dsimp only; omega)).trans (pay ..)
  rw [View.read_writes_cons_unit_of_not_mem _ _ _ _ _ _ rfl 0 (Or.inl (show q.val < 5 by omega))]
  by_cases hq : q = 4
  · subst hq
    rw [View.read_writes_cons_unit_of_mem _ _ _ _ _ _ (ix3 0 k l) rfl (by intro a; fin_cases a <;> simp)]
    pointwise [k0_pay3, k0_pay11]
    exact (window _ _ 1792 512 _ _ k _ _ (by dsimp only; omega)).trans (pay ..)
  rw [View.read_writes_cons_unit_of_not_mem _ _ _ _ _ _ rfl 0 (Or.inl (show q.val < 4 by omega))]
  by_cases hq : q = 3
  · subst hq
    rw [View.read_writes_cons_unit_of_mem _ _ _ _ _ _ (ix3 0 k l) rfl (by intro a; fin_cases a <;> simp)]
    pointwise [k0_pay10]
    exact (window _ _ 1280 640 _ _ k _ _ (by dsimp only; omega)).trans (pay ..)
  rw [View.read_writes_cons_unit_of_not_mem _ _ _ _ _ _ rfl 0 (Or.inl (show q.val < 3 by omega))]
  by_cases hq : q = 2
  · subst hq
    rw [View.read_writes_cons_unit_of_mem _ _ _ _ _ _ (ix3 0 k l) rfl (by intro a; fin_cases a <;> simp)]
    pointwise [k0_pay9]
    exact (window _ _ 896 512 _ _ k _ _ (by dsimp only; omega)).trans (pay ..)
  rw [View.read_writes_cons_unit_of_not_mem _ _ _ _ _ _ rfl 0 (Or.inl (show q.val < 2 by omega))]
  by_cases hq : q = 1
  · subst hq
    rw [View.read_writes_cons_unit_of_mem _ _ _ _ _ _ (ix3 0 k l) rfl (by intro a; fin_cases a <;> simp)]
    pointwise [k0_pay8]
    exact (window _ _ 384 640 _ _ k _ _ (by dsimp only; omega)).trans (pay ..)
  rw [View.read_writes_cons_unit_of_not_mem _ _ _ _ _ _ rfl 0 (Or.inl (show q.val < 1 by omega))]
  obtain rfl : q = 0 := by omega
  rw [View.read_writes_cons_unit_of_mem _ _ _ _ _ _ (ix3 0 k l) rfl (by intro a; fin_cases a <;> simp)]
  pointwise [k0_pay7]
  exact (window _ _ 0 512 _ _ k _ _ (by dsimp only; omega)).trans (pay ..)

end TrainStep.InCase
-- ==== Proof.Wgrad.In.lean ====
/-
  The gradient of `w_in`: the running sum over the eight blocks of tokens, the result array, the reference's result, and
  their equality on every device.
-/
module

public import proofs.«01_k».proof.Defs
public import proofs.«01_k».proof.Proof.Math.Sums
public import proofs.«01_k».proof.Proof.Wgrad.InCase
public import proofs.«01_k».proof.Proof.Gen.Reference4Ideal.Read
public import proofs.«01_k».proof.Proof.Gen.Reference4Ideal.Run
public import Idealize.ShloMosaic.Lib.Claim
public import Idealize.ShloMosaic.Lib.Pipeline.ValueKit.Point

@[expose] public section

set_option maxRecDepth 16384

open Idealize.ShloMosaic Idealize.ShloMosaic.TcCoe Idealize.ShloMosaic.StableHlo Idealize.SL.Sem

namespace TrainStep.In

attribute [local instance] Cert.Kernel4Ideal.Gen.facts Cert.Reference4Ideal.Gen.facts

/-- Column `k` of `x` against column `l` of `y`, over all rows. -/
noncomputable def grad (x : Vec Ideal ⟨2, ![8192, 1024]⟩ .bf16) (y : Vec Ideal ⟨2, ![8192, 3712]⟩ .bf16) (k : Fin 1024)
    (l : Fin 3712) : EReal := ∑ R : Fin 8192, x (ix2 R k) * y (ix2 R l)

section Kernel

open Cert.Kernel4Ideal Cert.Kernel4Ideal.Gen

/-- The rows of block `t` of the product. -/
noncomputable def part (x : Vec Ideal ⟨2, ![8192, 1024]⟩ .bf16) (y : Vec Ideal ⟨2, ![8192, 3712]⟩ .bf16) (k : Fin 1024)
    (l : Fin 3712) (t : ℕ) : EReal :=
  ∑ r : Fin 1024, ext (fun R => x (ix2 R k) * y (ix2 R l)) (1024 * t + r)

theorem parts (x : Vec Ideal ⟨2, ![8192, 1024]⟩ .bf16) (y : Vec Ideal ⟨2, ![8192, 3712]⟩ .bf16) (k : Fin 1024)
    (l : Fin 3712) : ∑ t ∈ Finset.range 8, part x y k l t = grad x y k l := sum_ext 1024 8 (by norm_num) _

theorem idx : ∀ t : Fin cfg0.N, win0_0.index t = ![t.val, 0] ∧ win0_1.index t = ![t.val, 0] ∧ win0_2.index t = ![0, 0, 0] :=
  (by decide +kernel : ∀ t : Fin grid0.N, _)

variable (m : (ℓ : Loc nD τ sig) → Buf (Elt Ideal) ℓ) (d : Dev nD) (t : Fin cfg0.N)

theorem lt_N : t.val < 8 := lt_of_lt_of_eq t.isLt N_0

theorem row_lt (r : Fin 1024) : 1024 * t.val + r.val < 8192 := by have := lt_N t; omega

theorem prod_eq (k : Fin 1024) (l : Fin 3712) : InCase.prod (iblk m d 0 t) (iblk m d 1 t) k l
    = part (m ((d : Thread nD τ).loc main_arg0)) (m ((d : Thread nD τ).loc main_arg1)) k l t.val := by
  refine Finset.sum_congr rfl fun r _ => ?_
  rw [ext_lt _ (row_lt t r)]
  have e0 : iblk m d 0 t (ix2 r k) = m ((d : Thread nD τ).loc main_arg0) (ix2 ⟨1024 * t.val + r.val, row_lt t r⟩ k) := by
    blk_ext! [iblk, V, idx t]
  have e1 : iblk m d 1 t (ix2 r l) = m ((d : Thread nD τ).loc main_arg1) (ix2 ⟨1024 * t.val + r.val, row_lt t r⟩ l) := by
    blk_ext! [iblk, V, idx t]
  exact congrArg₂ (fun x y : EReal => x * y) e0 e1

/-- The running sum after point `n`, the last point apart. -/
theorem state : ∀ (n : ℕ) (h : n < cfg0.N), n < 7 → ∀ k l, (outsAt0 m d n h).2 (ix2 k l)
    = ∑ t ∈ Finset.range (n + 1), part (m ((d : Thread nD τ).loc main_arg0)) (m ((d : Thread nD τ).loc main_arg1)) k l t
  | 0, h, _, k, l => by
    rw [outsAt0_A m d ⟨0, h⟩ rfl (by dsimp only; omega)]
    dsimp only
    rw [Finset.sum_range_one]
    exact (InCase.A ..).trans (prod_eq m d _ k l)
  | n + 1, h, h7, k, l => by
    rw [outsAt0_B m d ⟨n + 1, h⟩ (by dsimp only; omega) (by dsimp only; omega)]
    dsimp only
    rw [Finset.sum_range_succ _ (n + 1), ← state n (Nat.lt_of_succ_lt h) (by omega) k l]
    exact (InCase.B ..).trans (congrArg (_ + ·) (prod_eq m d ⟨n + 1, h⟩ k l))

theorem last_lt : 7 < cfg0.N := by rw [show cfg0.N = 8 from N_0]; decide

theorem last (h : t.val % 8 = 7) : t = ⟨7, last_lt⟩ := Fin.ext (by
  have := lt_N t
  show t.val = 7
  omega)

/-- Shard `q` of the gradient of device `d`'s arguments. -/
noncomputable def want (q : Fin 8) (k : Fin 1024) (l : Fin 449) : EReal :=
  grad (m ((d : Thread nD τ).loc main_arg0)) (m ((d : Thread nD τ).loc main_arg1)) k ⟨449 * q.val + l.val, by omega⟩

/-- What the last point writes. -/
theorem out (q : Fin 8) (k : Fin 1024) (l : Fin 449) :
    (outsAt0 m d 7 last_lt).1 (ix3 q k ⟨l.val, by omega⟩) = want m d q k l := by
  rw [outsAt0_C m d ⟨7, last_lt⟩ (by decide) rfl]
  dsimp only
  refine (InCase.C (hl := l.isLt) ..).trans ?_
  unfold want
  rw [← parts, Finset.sum_range_succ _ 7, ← state m d 6 (Nat.lt_of_succ_lt last_lt) (by omega)]
  exact congrArg (_ + ·) (prod_eq m d ⟨7, last_lt⟩ k _)

/-- The call's array, at the columns the host keeps. -/
theorem arr (q : Fin 8) (k : Fin 1024) (l : Fin 449) :
    (dats m 0 d).arrAt 2 cfg0.N (ix3 q k ⟨l.val, by omega⟩) = want m d q k l := by
  have hf : (dats m 0 d).flushed 2 ⟨7, last_lt⟩
      = (cfg0.win 2).cut (grid0.coords ⟨7, last_lt⟩) ((outsAt0 m d 7 last_lt).1) := by
    show (cfg0.win 2).cut (grid0.coords ⟨7, last_lt⟩) ((dats m 0 d).after 2 ⟨7, last_lt⟩) = _
    rw [after0_2]
  have hb := (dats m 0 d).read_blk_arrAt_eq_flushed 2
    (fun t t' h h' hne => absurd ((last t ((flush0_2 t).mp h)).trans (last t' ((flush0_2 t').mp h')).symm) hne)
    cfg0.N ⟨7, last_lt⟩ last_lt ((flush0_2 _).mpr rfl)
  refine Eq.trans ?_ ((congrFun (hb.trans hf) (ix3 q k ⟨l.val, by omega⟩)).trans (out m d q k l))
  rw [View.read_apply]
  generalize (⟨7, last_lt⟩ : Fin cfg0.N) = t
  blk_ext [idx t]

/-- The kernel's run: its result is the call's array without the columns past the shard's. -/
theorem kernel (ρ : Dev nD → PrngReg) :
    θ_run defs (onTc (τ := τ) (main (F := Ideal))) ⟨m, fun _ => 0, ρ⟩ fun r => ∀ c : Dev nD,
      r.2.mem ((c.tc : Thread nD τ).loc main_v1)
        = extractStridedSlice S8x1024x449 ![0, 0, 0] ((dats m 0 c).arrAt 2 cfg0.N) slices_S8x1024x512_S8x1024x449_0_0_0
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from run_main m ρ
  unfold Pipeline.afterTail₀ hostOps1
  simp only [List.flatten_cons, List.flatten_nil, List.append_nil]
  after_results
  exact congrArg (extractStridedSlice S8x1024x449 ![0, 0, 0] · slices_S8x1024x512_S8x1024x449_0_0_0)
    (Pipeline.withArrays_arr spec0 (by decide) c (V0 m c) (fun w => (dats m 0 c).arrAt w cfg0.N) 2)

end Kernel

section Reference

open Cert.Reference4Ideal Cert.Reference4Ideal.Read

/-- The reference's result, read at one entry. -/
theorem ref (x0 : Vec Ideal ⟨2, ![8192, 1024]⟩ .bf16) (x1 : Vec Ideal ⟨2, ![8192, 3712]⟩ .bf16) (q : Fin 8) (k : Fin 1024)
    (l : Fin 449) : val_main_v9 (F := Ideal) x0 x1 (ix3 q k l) = grad x0 x1 k ⟨449 * q.val + l.val, by omega⟩ := by
  pointwise [val_main_v9, val_main_v8, val_main_v7, val_main_v6, val_main_v5, val_main_v2, val_main_v1, val_main_v0]
  refine Finset.sum_congr rfl fun R _ => (mul_comm _ _).trans ?_
  congr 3
  exact Fin.ext (by dsimp only; omega)

theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v9) = val_main_v9 (F := Ideal) (a c main_arg0) (a c main_arg1)
      ∧ r.2.mem ((c.tc : Thread nD τ).loc main_arg0) = a c main_arg0
      ∧ r.2.mem ((c.tc : Thread nD τ).loc main_arg1) = a c main_arg1 :=
  (θ_run defs _ _).mono (fun r h c => by
    obtain ⟨h0, hargs⟩ := h c
    exact ⟨h0.trans (val_main_v9_eq (F := Ideal) _ _), hargs⟩)
    (Cert.Reference4Ideal.Value.run m ρ)

end Reference

theorem algebraic : Cert.algebraic_Kernel4Ideal_Reference4Ideal := by
  intro m ρ m' ρ' _ hagree
  refine ⟨_, kernel m ρ, ?_⟩
  refine (θ_run _ _ _).mono (fun r h c => ?_) (run m' ρ')
  obtain ⟨e0, e1⟩ := hagree c
  obtain ⟨h0, hargs⟩ := h c
  refine ⟨h0.trans ?_, hargs⟩
  simp only [e0, e1]
  refine funext fun i => ?_
  rw [eq_ix3 i]
  refine (ref ..).trans ((arr m c _ _ _).symm.trans ?_)
  pointwise []

end TrainStep.In
-- ==== Proof.Wgrad.OutCase.lean ====
/-
  What one grid point of the `w_out` gradient's call leaves in its two running sums, and the last one in the result.
-/
module

public import proofs.«01_k».proof.Proof.Gen.Kernel5Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel5Ideal Cert.Kernel5Ideal.Gen

namespace TrainStep.OutCase

theorem hz : (![0, 0] : Fin 2 → Nat) = fun _ => 0 := funext fun a => by fin_cases a <;> rfl

variable (c : Dev nD) (i : grid0.Coords) (arg1 : Memref sig .tc .vmem S1024x512 .bf16) (harg1 : arg1.IsWhole)
  (arg2 : Memref sig .tc .vmem S1024x512 .bf16) (harg2 : arg2.IsWhole) (arg3 : Memref sig .tc .vmem S1024x1024 .bf16)
  (harg3 : arg3.IsWhole) (arg4 : Memref sig .tc .vmem S2x512x1024 .bf16) (harg4 : arg4.IsWhole)
  (arg5 : Memref sig .tc .vmem S512x1024 .f32) (harg5 : arg5.IsWhole) (arg6 : Memref sig .tc .vmem S512x1024 .f32)
  (harg6 : arg6.IsWhole) (x0 x1 : Vec Ideal S1024x512 .bf16) (x2 : Vec Ideal S1024x1024 .bf16)
  (xs0 xs1 : Vec Ideal S512x1024 .f32) (k : Fin 512) (l : Fin 1024)

/-- The product of one block's columns `k` and `l`. -/
noncomputable def prod (x : Vec Ideal S1024x512 .bf16) (y : Vec Ideal S1024x1024 .bf16) (k : Fin 512) (l : Fin 1024) : EReal :=
  ∑ r : Fin 1024, x (ix2 r k) * y (ix2 r l)

theorem A_s0 (h0 : cond0_0 i) (h1 : ¬cond0_1 i) : sout0_A_0 (F := Ideal) c i arg1 harg1 arg2 harg2 arg3 harg3 arg4 harg4 arg5 harg5 arg6 harg6 h0 h1 x0 x1 x2 (ix2 k l) = prod x0 x2 k l := by
  unfold sout0_A_0
  rw [View.read_writes_eq_canon _ _ _ (scover0_A_0 c i arg1 harg1 arg2 harg2 arg3 harg3 arg4 harg4 arg5 harg5 arg6 harg6 h0 h1 x0 x1 x2)]
  unfold kernelRun0_A
  dsimp only
  rw [View.canon_cons_unit_zero (S := S512x1024) hz]
  sl_unfold_words
  simp only [View.readAt_eq_ld, Memref.IsWhole.read_unread, View.ld_unit_zero (S := S512x1024) hz,
    View.ld_unit_zero (S := S1024x512) hz, View.ld_unit_zero (S := S1024x1024) hz, shapeCast_self, View.readCov_unit_zero (S := S512x1024) _ hz]
  pointwise [k0_pay3, k0_pay1]
  rfl

theorem B_s0 (h0 : ¬cond0_0 i) (h1 : ¬cond0_1 i) : sout0_B_0 (F := Ideal) c i arg1 harg1 arg2 harg2 arg3 harg3 arg4 harg4 arg5 harg5 arg6 harg6 h0 h1 x0 x1 x2 xs0 xs1 (ix2 k l) = xs0 (ix2 k l) + prod x0 x2 k l := by
  unfold sout0_B_0
  rw [View.read_writes_eq_canon _ _ _ (scover0_B_0 c i arg1 harg1 arg2 harg2 arg3 harg3 arg4 harg4 arg5 harg5 arg6 harg6 h0 h1 x0 x1 x2 xs0 xs1)]
  unfold kernelRun0_B
  dsimp only
  rw [View.canon_cons_unit_zero (S := S512x1024) hz]
  sl_unfold_words
  simp only [View.readAt_eq_ld, Memref.IsWhole.read_unread, View.ld_unit_zero (S := S512x1024) hz,
    View.ld_unit_zero (S := S1024x512) hz, View.ld_unit_zero (S := S1024x1024) hz, shapeCast_self, View.readCov_unit_zero (S := S512x1024) _ hz]
  pointwise [k0_pay3]
  rfl

theorem A_s1 (h0 : cond0_0 i) (h1 : ¬cond0_1 i) : sout0_A_1 (F := Ideal) c i arg1 harg1 arg2 harg2 arg3 harg3 arg4 harg4 arg5 harg5 arg6 harg6 h0 h1 x0 x1 x2 (ix2 k l) = prod x1 x2 k l := by
  unfold sout0_A_1
  rw [View.read_writes_eq_canon _ _ _ (scover0_A_1 c i arg1 harg1 arg2 harg2 arg3 harg3 arg4 harg4 arg5 harg5 arg6 harg6 h0 h1 x0 x1 x2)]
  unfold kernelRun0_A
  dsimp only
  rw [View.canon_cons_unit_zero (S := S512x1024) hz]
  sl_unfold_words
  simp only [View.readAt_eq_ld, Memref.IsWhole.read_unread, View.ld_unit_zero (S := S512x1024) hz,
    View.ld_unit_zero (S := S1024x512) hz, View.ld_unit_zero (S := S1024x1024) hz, shapeCast_self, View.readCov_unit_zero (S := S512x1024) _ hz]
  pointwise [k0_pay4, k0_pay2]
  rfl

theorem B_s1 (h0 : ¬cond0_0 i) (h1 : ¬cond0_1 i) : sout0_B_1 (F := Ideal) c i arg1 harg1 arg2 harg2 arg3 harg3 arg4 harg4 arg5 harg5 arg6 harg6 h0 h1 x0 x1 x2 xs0 xs1 (ix2 k l) = xs1 (ix2 k l) + prod x1 x2 k l := by
  unfold sout0_B_1
  rw [View.read_writes_eq_canon _ _ _ (scover0_B_1 c i arg1 harg1 arg2 harg2 arg3 harg3 arg4 harg4 arg5 harg5 arg6 harg6 h0 h1 x0 x1 x2 xs0 xs1)]
  unfold kernelRun0_B
  dsimp only
  rw [View.canon_cons_unit_zero (S := S512x1024) hz]
  sl_unfold_words
  simp only [View.readAt_eq_ld, Memref.IsWhole.read_unread, View.ld_unit_zero (S := S512x1024) hz,
    View.ld_unit_zero (S := S1024x512) hz, View.ld_unit_zero (S := S1024x1024) hz, shapeCast_self, View.readCov_unit_zero (S := S512x1024) _ hz]
  pointwise [k0_pay4]
  rfl

/-- The last point's result: the two running sums, each with this point's product. -/
theorem C_3 (h0 : ¬cond0_0 i) (h1 : cond0_1 i) (p : Fin 2) : out0_C_3 (F := Ideal) c i arg1 harg1 arg2 harg2 arg3 harg3 arg4 harg4 arg5 harg5 arg6 harg6 h0 h1 x0 x1 x2 xs0 xs1 (ix3 p k l)
    = if p = 0 then xs0 (ix2 k l) + prod x0 x2 k l else xs1 (ix2 k l) + prod x1 x2 k l := by
  unfold out0_C_3
  unfold kernelRun0_C
  dsimp only
  sl_unfold_words
  simp only [View.readAt_eq_ld, Memref.IsWhole.read_unread, View.ld_unit_zero (S := S512x1024) hz,
    View.ld_unit_zero (S := S1024x512) hz, View.ld_unit_zero (S := S1024x1024) hz, shapeCast_self, View.readCov_unit_zero (S := S512x1024) _ hz]
  by_cases hp : p = 0
  · subst hp
    rw [View.read_writes_cons_unit_of_not_mem _ _ _ _ _ _ rfl 0 (Or.inl Nat.zero_lt_one),
      View.read_writes_cons_unit_of_mem _ _ _ _ _ _ (ix3 0 k l) rfl (by intro a; fin_cases a <;> simp)]
    pointwise [k0_pay5, k0_pay3]
    rfl
  · obtain rfl : p = 1 := by omega
    rw [View.read_writes_cons_unit_of_mem _ _ _ _ _ _ (ix3 0 k l) rfl (by intro a; fin_cases a <;> simp)]
    pointwise [k0_pay6, k0_pay4]
    rfl

end TrainStep.OutCase
-- ==== Proof.Wgrad.Out.lean ====
/-
  The gradient of `w_out`: the two running sums over the eight blocks of rows, the result array, the reference's
  result, and their equality on every device.
-/
module

public import proofs.«01_k».proof.Defs
public import proofs.«01_k».proof.Proof.Math.Sums
public import proofs.«01_k».proof.Proof.Wgrad.OutCase
public import proofs.«01_k».proof.Proof.Gen.Kernel5Ideal.Value
public import proofs.«01_k».proof.Proof.Gen.Reference5Ideal.Read
public import proofs.«01_k».proof.Proof.Gen.Reference5Ideal.Run
public import Idealize.ShloMosaic.Lib.Claim
public import Idealize.ShloMosaic.Lib.Pipeline.ValueKit.Point

@[expose] public section

set_option maxRecDepth 16384

open Idealize.ShloMosaic Idealize.ShloMosaic.TcCoe Idealize.ShloMosaic.StableHlo Idealize.SL.Sem

namespace TrainStep.Out

attribute [local instance] Cert.Kernel5Ideal.Gen.facts Cert.Reference5Ideal.Gen.facts

/-- Column `k` of `x` against column `l` of `y`, over all rows. -/
noncomputable def grad (x : Vec Ideal ⟨2, ![8192, 512]⟩ .bf16) (y : Vec Ideal ⟨2, ![8192, 1024]⟩ .bf16) (k : Fin 512)
    (l : Fin 1024) : EReal := ∑ R : Fin 8192, x (ix2 R k) * y (ix2 R l)

section Kernel

open Cert.Kernel5Ideal Cert.Kernel5Ideal.Gen Cert.Kernel5Ideal.Value

variable (m : (ℓ : Loc nD τ sig) → Buf (Elt Ideal) ℓ) (d : Dev nD) (k : Fin 512) (l : Fin 1024)

/-- The rows of block `t` of one product. -/
noncomputable def part (x : Vec Ideal ⟨2, ![8192, 512]⟩ .bf16) (y : Vec Ideal ⟨2, ![8192, 1024]⟩ .bf16) (t : ℕ) : EReal :=
  ∑ r : Fin 1024, ext (fun R => x (ix2 R k) * y (ix2 R l)) (1024 * t + r)

theorem parts (x : Vec Ideal ⟨2, ![8192, 512]⟩ .bf16) (y : Vec Ideal ⟨2, ![8192, 1024]⟩ .bf16) :
    ∑ t ∈ Finset.range 8, part k l x y t = grad x y k l := sum_ext 1024 8 (by norm_num) _

theorem idx : ∀ t : Fin cfg0.N, win0_0.index t = ![t.val, 0] ∧ win0_1.index t = ![t.val, 0] ∧ win0_2.index t = ![t.val, 0]
    ∧ win0_3.index t = ![0, 0, 0] :=
  (by decide +kernel : ∀ t : Fin grid0.N, _)

variable (t : Fin cfg0.N)

theorem row_lt (r : Fin 1024) : 1024 * t.val + r.val < 8192 := by
  have := t.isLt
  have hN : cfg0.N = 8 := N_0
  omega

theorem prod0 : OutCase.prod (iblk m d 0 t) (iblk m d 2 t) k l
    = part k l (m ((d : Thread nD τ).loc main_arg0)) (m ((d : Thread nD τ).loc main_arg2)) t.val := by
  refine Finset.sum_congr rfl fun r _ => ?_
  rw [ext_lt _ (row_lt t r)]
  have e0 : iblk m d 0 t (ix2 r k) = m ((d : Thread nD τ).loc main_arg0) (ix2 ⟨1024 * t.val + r.val, row_lt t r⟩ k) := by
    blk_ext! [iblk, V, idx t]
  have e2 : iblk m d 2 t (ix2 r l) = m ((d : Thread nD τ).loc main_arg2) (ix2 ⟨1024 * t.val + r.val, row_lt t r⟩ l) := by
    blk_ext! [iblk, V, idx t]
  exact congrArg₂ (fun x y : EReal => x * y) e0 e2

theorem prod1 : OutCase.prod (iblk m d 1 t) (iblk m d 2 t) k l
    = part k l (m ((d : Thread nD τ).loc main_arg1)) (m ((d : Thread nD τ).loc main_arg2)) t.val := by
  refine Finset.sum_congr rfl fun r _ => ?_
  rw [ext_lt _ (row_lt t r)]
  have e0 : iblk m d 1 t (ix2 r k) = m ((d : Thread nD τ).loc main_arg1) (ix2 ⟨1024 * t.val + r.val, row_lt t r⟩ k) := by
    blk_ext! [iblk, V, idx t]
  have e2 : iblk m d 2 t (ix2 r l) = m ((d : Thread nD τ).loc main_arg2) (ix2 ⟨1024 * t.val + r.val, row_lt t r⟩ l) := by
    blk_ext! [iblk, V, idx t]
  exact congrArg₂ (fun x y : EReal => x * y) e0 e2

/-- The two running sums after point `n`, the last point apart. -/
theorem state : ∀ (n : ℕ) (h : n < cfg0.N), n < 7 → ∀ k l,
    (outsAt0 m d n h).2.1 (ix2 k l) = ∑ t ∈ Finset.range (n + 1), part k l (m ((d : Thread nD τ).loc main_arg0)) (m ((d : Thread nD τ).loc main_arg2)) t
    ∧ (outsAt0 m d n h).2.2 (ix2 k l) = ∑ t ∈ Finset.range (n + 1), part k l (m ((d : Thread nD τ).loc main_arg1)) (m ((d : Thread nD τ).loc main_arg2)) t
  | 0, h, _, k, l => by
    rw [outsAt0_A m d ⟨0, h⟩ rfl (by dsimp only; omega)]
    dsimp only
    rw [Finset.sum_range_one, Finset.sum_range_one]
    exact ⟨(OutCase.A_s0 ..).trans (prod0 m d k l _), (OutCase.A_s1 ..).trans (prod1 m d k l _)⟩
  | n + 1, h, h7, k, l => by
    obtain ⟨s0, s1⟩ := state n (Nat.lt_of_succ_lt h) (by omega) k l
    rw [outsAt0_B m d ⟨n + 1, h⟩ (by dsimp only; omega) (by dsimp only; omega)]
    dsimp only
    rw [Finset.sum_range_succ _ (n + 1), Finset.sum_range_succ _ (n + 1), ← s0, ← s1]
    exact ⟨(OutCase.B_s0 ..).trans (congrArg (_ + ·) (prod0 m d k l ⟨n + 1, h⟩)),
      (OutCase.B_s1 ..).trans (congrArg (_ + ·) (prod1 m d k l ⟨n + 1, h⟩))⟩

theorem last_lt : 7 < cfg0.N := by rw [show cfg0.N = 8 from N_0]; decide

theorem last (h : t.val % 8 = 7) : t = ⟨7, last_lt⟩ := Fin.ext (by
  have hN : cfg0.N = 8 := N_0
  have := t.isLt
  show t.val = 7
  omega)

/-- The last point's result. -/
theorem out (p : Fin 2) : (outsAt0 m d 7 last_lt).1 (ix3 p k l)
    = if p = 0 then grad (m ((d : Thread nD τ).loc main_arg0)) (m ((d : Thread nD τ).loc main_arg2)) k l
      else grad (m ((d : Thread nD τ).loc main_arg1)) (m ((d : Thread nD τ).loc main_arg2)) k l := by
  obtain ⟨s0, s1⟩ := state m d 6 (Nat.lt_of_succ_lt last_lt) (by omega) k l
  rw [outsAt0_C m d ⟨7, last_lt⟩ (by decide) rfl]
  dsimp only
  rw [← parts, ← parts, Finset.sum_range_succ _ 7, Finset.sum_range_succ _ 7, ← s0, ← s1, ← prod0 m d k l ⟨7, last_lt⟩,
    ← prod1 m d k l ⟨7, last_lt⟩]
  exact OutCase.C_3 ..

/-- The result array. -/
theorem arr (p : Fin 2) : (dats m 0 d).arrAt 3 cfg0.N (ix3 p k l)
    = if p = 0 then grad (m ((d : Thread nD τ).loc main_arg0)) (m ((d : Thread nD τ).loc main_arg2)) k l
      else grad (m ((d : Thread nD τ).loc main_arg1)) (m ((d : Thread nD τ).loc main_arg2)) k l := by
  have hb := (dats m 0 d).read_blk_arrAt_eq_flushed 3
    (fun t t' h h' hne => absurd ((last t ((flush0_3 t).mp h)).trans (last t' ((flush0_3 t').mp h')).symm) hne)
    cfg0.N ⟨7, last_lt⟩ last_lt ((flush0_3 _).mpr rfl)
  refine Eq.trans ?_ ((congrFun (hb.trans (flushed3 m d _)) (ix3 p k l)).trans (out m d k l p))
  rw [View.read_apply]
  generalize (⟨7, last_lt⟩ : Fin cfg0.N) = t
  blk_ext [idx t]

end Kernel

section Reference

open Cert.Reference5Ideal Cert.Reference5Ideal.Read

/-- The reference's result, read at one entry. -/
theorem ref (x0 x1 : Vec Ideal ⟨2, ![8192, 512]⟩ .bf16) (x2 : Vec Ideal ⟨2, ![8192, 1024]⟩ .bf16) (p : Fin 2) (k : Fin 512)
    (l : Fin 1024) : val_main_v9 (F := Ideal) x0 x1 x2 (ix3 p k l) = if p = 0 then grad x0 x2 k l else grad x1 x2 k l := by
  pointwise [val_main_v9, val_main_v8, val_main_v7, val_main_v6, val_main_v3, val_main_v2, val_main_v1, val_main_v0]
  have hk := k.isLt
  by_cases hp : p = 0
  · subst hp
    rw [if_pos rfl]
    refine Finset.sum_congr rfl fun R _ => ?_
    have h : (0 : Fin 2).val * 512 + k.val < 512 := by simp
    rw [dif_pos h, mul_comm]
    congr 3
    exact Fin.ext (by simp)
  · obtain rfl : p = 1 := by omega
    rw [if_neg hp]
    refine Finset.sum_congr rfl fun R _ => ?_
    have h : ¬(1 : Fin 2).val * 512 + k.val < 512 := by simp
    rw [dif_neg h, mul_comm]
    congr 3
    exact Fin.ext (by simp)

theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v9) = val_main_v9 (F := Ideal) (a c main_arg0) (a c main_arg1) (a c main_arg2)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2 :=
  (θ_run defs _ _).mono (fun r h c => by
    obtain ⟨h0, hargs⟩ := h c
    exact ⟨h0.trans (val_main_v9_eq (F := Ideal) _ _ _), hargs⟩)
    (Cert.Reference5Ideal.Value.run m ρ)

end Reference

theorem algebraic : Cert.algebraic_Kernel5Ideal_Reference5Ideal := by
  intro m ρ m' ρ' _ hagree
  refine ⟨fun c => (Cert.Kernel5Ideal.Gen.dats m 0 c).arrAt 3 Cert.Kernel5Ideal.cfg0.N,
    Cert.Kernel5Ideal.Value.run_blocks m ρ, ?_⟩
  refine (θ_run _ _ _).mono (fun r h c => ?_) (run m' ρ')
  obtain ⟨e0, e1, e2⟩ := hagree c
  obtain ⟨h0, hargs⟩ := h c
  refine ⟨h0.trans ?_, hargs⟩
  simp only [e0, e1, e2]
  refine funext fun i => ?_
  rw [eq_ix3 i]
  exact (ref _ _ _ _ _ _).trans (arr m c _ _ _).symm

end TrainStep.Out
-- ==== Proof.Fwd.FirstCase.lean ====
/-
  What one grid point of the first half's forward call leaves in its seven result blocks and in its two carried blocks,
  as the payloads of its stores.
-/
module

public import proofs.«01_k».proof.Proof.Gen.Kernel6Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel6Ideal Cert.Kernel6Ideal.Gen

namespace TrainStep.FwdFirst

theorem hz : (![0, 0] : Fin 2 → Nat) = fun _ => 0 := funext fun a => by fin_cases a <;> rfl

/-- Row `o` of a block of eight rows, as the kernel loads it. -/
noncomputable def row1024 (x : Vec Ideal S8x1024 .f32) (o : ℕ)
    (inb : ∀ a : Fin 2, (![o, 0] : Fin 2 → ℕ) a + S1x1024.size a ≤ S8x1024.size a) : Vec Ideal S1x1024 .f32 :=
  View.ld x (Rect.unit (s := S8x1024) ![o, 0] S1x1024.size inb)

noncomputable def row1408 (x : Vec Ideal S8x1408 .f32) (o : ℕ)
    (inb : ∀ a : Fin 2, (![o, 0] : Fin 2 → ℕ) a + S1x1408.size a ≤ S8x1408.size a) : Vec Ideal S1x1408 .f32 :=
  View.ld x (Rect.unit (s := S8x1408) ![o, 0] S1x1408.size inb)

section Payloads

variable (x0 : Vec Ideal S512x1024 .f32) (x1 x2 : Vec Ideal S8x1024 .f32) (x3 x4 : Vec Ideal S1024x1408 .bf16)
  (x5 x6 : Vec Ideal S8x1408 .f32) (x7 : Vec Ideal S1408x1024 .bf16) (s0 s1 : Vec Ideal S8x1408 .f32)

/-- The block's products with the gate columns and with the up columns. -/
noncomputable def g : FVec Ideal S512x1408 .f32 :=
  k0_pay11 x0 (row1024 x2 1 inb_S8x1024_S1x1024_1_0) (row1024 x1 4 inb_S8x1024_S1x1024_4_0)
    (row1024 x1 3 inb_S8x1024_S1x1024_3_0) x3

noncomputable def u : FVec Ideal S512x1408 .f32 :=
  k0_pay12 x0 (row1024 x2 1 inb_S8x1024_S1x1024_1_0) (row1024 x1 4 inb_S8x1024_S1x1024_4_0)
    (row1024 x1 3 inb_S8x1024_S1x1024_3_0) x4

/-- The gate columns' convolution. -/
noncomputable def gc : FVec Ideal S512x1408 .f32 :=
  k0_pay15 (g x0 x1 x2 x3) s0 (row1408 x5 2 inb_S8x1408_S1x1408_2_0) (row1408 x5 1 inb_S8x1408_S1x1408_1_0)
    (row1408 x5 0 inb_S8x1408_S1x1408_0_0)

/-- The up columns' convolution without tap 0, and the block moved down by two rows. -/
noncomputable def u2 : FVec Ideal S512x1408 .f32 := k0_pay16 (u x0 x1 x2 x4) s1

noncomputable def uc' : FVec Ideal S512x1408 .f32 :=
  k0_pay17 (u x0 x1 x2 x4) s1 (row1408 x6 2 inb_S8x1408_S1x1408_2_0) (row1408 x6 1 inb_S8x1408_S1x1408_1_0)

/-- Everything a point leaves, given what it finds carried. -/
noncomputable def res : Vec Ideal S512x1024 .bf16 × Vec Ideal S512x1408 .bf16 × Vec Ideal S512x1408 .bf16
    × Vec Ideal S512x1408 .bf16 × Vec Ideal S512x1408 .bf16 × Vec Ideal S512x1408 .bf16 × Vec Ideal S512x1024 .f32
    × Vec Ideal S8x1408 .f32 × Vec Ideal S8x1408 .f32 :=
  (k0_pay10 x0 (row1024 x2 1 inb_S8x1024_S1x1024_1_0) (row1024 x1 4 inb_S8x1024_S1x1024_4_0)
      (row1024 x1 3 inb_S8x1024_S1x1024_3_0),
    k0_pay13 x0 (row1024 x2 1 inb_S8x1024_S1x1024_1_0) (row1024 x1 4 inb_S8x1024_S1x1024_4_0)
      (row1024 x1 3 inb_S8x1024_S1x1024_3_0) x3,
    k0_pay14 (u x0 x1 x2 x4), k0_pay4 (gc x0 x1 x2 x3 x5 s0),
    k0_pay5 (u2 x0 x1 x2 x4 s1) (uc' x0 x1 x2 x4 x6 s1) (row1408 x6 0 inb_S8x1408_S1x1408_0_0),
    k0_pay6 (gc x0 x1 x2 x3 x5 s0) (u2 x0 x1 x2 x4 s1) (uc' x0 x1 x2 x4 x6 s1) (row1408 x6 0 inb_S8x1408_S1x1408_0_0),
    k0_pay7 (gc x0 x1 x2 x3 x5 s0) (u2 x0 x1 x2 x4 s1) (uc' x0 x1 x2 x4 x6 s1) (row1408 x6 0 inb_S8x1408_S1x1408_0_0) x7,
    k0_pay2 (g x0 x1 x2 x3), k0_pay3 (u x0 x1 x2 x4))

end Payloads

variable (m : (ℓ : Loc nD τ sig) → Buf (Elt Ideal) ℓ) (d : Dev nD) (t : Fin cfg0.N)

/-- What point `t` leaves when it finds `s0` and `s1` carried. -/
noncomputable def resAt (s0 s1 : Vec Ideal S8x1408 .f32) :=
  res (iblk m d 0 t) (iblk m d 1 t) (iblk m d 2 t) (iblk m d 3 t) (iblk m d 4 t) (iblk m d 5 t) (iblk m d 6 t)
    (iblk m d 7 t) s0 s1

theorem tuple {A B C D E F G H I : Type} {a a' : A} {b b' : B} {c c' : C} {d d' : D} {e e' : E} {f f' : F} {g g' : G}
    {h h' : H} {i i' : I} (ha : a = a') (hb : b = b') (hc : c = c') (hd : d = d') (he : e = e') (hf : f = f')
    (hg : g = g') (hh : h = h') (hi : i = i') :
    (a, b, c, d, e, f, g, h, i) = (a', b', c', d', e', f', g', h', i') := by
  subst ha hb hc hd he hf hg hh hi; rfl

/-- The first point clears the two carried blocks. -/
theorem first (h0 : t.val % 16 = 0) :
    outsAt0 m d t.val t.isLt = resAt m d t (k0_pay8 (F := Ideal)) (k0_pay9 (F := Ideal)) := by
  rw [outsAt0_A m d t h0]
  unfold resAt res out0_A_8 out0_A_9 out0_A_10 out0_A_11 out0_A_12 out0_A_13 out0_A_14 sout0_A_0 sout0_A_1
  refine tuple ?_ ?_ ?_ ?_ ?_ ?_ ?_ ?_ ?_
  all_goals
    unfold kernelRun0_A
    dsimp only
    first
      | rw [View.read_writes_full (s := S512x1024)]
      | rw [View.read_writes_full (s := S512x1408)]
      | rw [View.read_writes_full (s := S8x1408)]
    sl_unfold_words
    simp only [View.readAt_eq_ld, Memref.IsWhole.read_unread, View.ld_unit_zero (S := S512x1024) hz,
      View.ld_unit_zero (S := S1024x1408) hz, View.ld_unit_zero (S := S1408x1024) hz,
      View.readCov_unit_zero (S := S8x1408) _ hz, g, u, gc, u2, uc', row1024, row1408]

/-- A later point finds what the point before left. -/
theorem later (h0 : ¬t.val % 16 = 0) (s0 s1 : Vec Ideal S8x1408 .f32)
    (e0 : (outsAt0 m d (t.val - 1) (Nat.lt_of_le_of_lt (Nat.sub_le _ _) t.isLt)).2.2.2.2.2.2.2.1 = s0)
    (e1 : (outsAt0 m d (t.val - 1) (Nat.lt_of_le_of_lt (Nat.sub_le _ _) t.isLt)).2.2.2.2.2.2.2.2 = s1) :
    outsAt0 m d t.val t.isLt = resAt m d t s0 s1 := by
  have r0 : (View.whole cc0_scratch0).read (Elt Ideal) ((Memref.isWhole_whole cc0_scratch0).unread s0) = s0 :=
    Memref.IsWhole.read_unread _ s0
  have r1 : (View.whole cc0_scratch1).read (Elt Ideal) ((Memref.isWhole_whole cc0_scratch1).unread s1) = s1 :=
    Memref.IsWhole.read_unread _ s1
  rw [outsAt0_B m d t h0, e0, e1]
  unfold resAt res out0_B_8 out0_B_9 out0_B_10 out0_B_11 out0_B_12 out0_B_13 out0_B_14 sout0_B_0 sout0_B_1
  refine tuple ?_ ?_ ?_ ?_ ?_ ?_ ?_ ?_ ?_
  all_goals
    unfold kernelRun0_B
    dsimp only
    first
      | rw [View.read_writes_full (s := S512x1024)]
      | rw [View.read_writes_full (s := S512x1408)]
      | rw [View.read_writes_full (s := S8x1408)]
    sl_unfold_words
    simp only [View.readAt_eq_ld, Memref.IsWhole.read_unread, View.ld_unit_zero (S := S512x1024) hz,
      View.ld_unit_zero (S := S1024x1408) hz, View.ld_unit_zero (S := S1408x1024) hz,
      View.ld_unit_zero (S := S8x1408) hz, r0, r1, g, u, gc, u2, uc', row1024, row1408]

end TrainStep.FwdFirst
-- ==== Proof.Fwd.Spec.lean ====
/-
  The forward pass of one column half of the convolutional gated feed-forward block, written as plain functions of a
  row and a column.
-/
module

public import proofs.«01_k».proof.Proof.Ffn.Spec

@[expose] public section

open Idealize.ShloMosaic

namespace TrainStep

/-- What one half of the forward pass works on: the block's input, the norm's weight, the modulation's scale and
shift, the half's columns of `w_up`, the taps of the two convolutions and the half's rows of `w_down`. -/
structure Fwd where
  x : Fin 8192 → Fin 1024 → EReal
  nw : Fin 1024 → EReal
  sc : Fin 1024 → EReal
  sh : Fin 1024 → EReal
  wg : Fin 1024 → Fin 1408 → EReal
  wu : Fin 1024 → Fin 1408 → EReal
  cg : Fin 3 → Fin 1408 → EReal
  cu : Fin 3 → Fin 1408 → EReal
  wd : Fin 1408 → Fin 1024 → EReal

namespace Fwd

/-- One row, divided by its root mean square, weighted and modulated. -/
noncomputable def normed (x nw sc sh : Fin 1024 → EReal) (k : Fin 1024) : EReal :=
  x k * Ideal.rsqrt (Ideal.div (∑ j, x j * x j) (Ideal.ofBits .f32 0x44800000#32) + Ideal.ofBits .f32 0x358637BD#32) * nw k * (1 + sc k) + sh k

variable (W : Fwd)

noncomputable def h (R : Fin 8192) (k : Fin 1024) : EReal := normed (W.x R) W.nw W.sc W.sh k
noncomputable def g (R : Fin 8192) (c : Fin 1408) : EReal := ∑ k, W.h R k * W.wg k c
noncomputable def u (R : Fin 8192) (c : Fin 1408) : EReal := ∑ k, W.h R k * W.wu k c
noncomputable def gc : Fin 8192 → Fin 1408 → EReal := Half.conv W.g W.cg
noncomputable def uc : Fin 8192 → Fin 1408 → EReal := Half.conv W.u W.cu
noncomputable def f (R : Fin 8192) (c : Fin 1408) : EReal := W.gc R c * Ideal.logistic (W.gc R c) * W.uc R c
noncomputable def d (R : Fin 8192) (k : Fin 1024) : EReal := ∑ c, W.f R c * W.wd c k

/-- The first half's data, read off the step's arrays: the block's input, the modulation rows (row 4 scales, row 3 shifts),
the weights of the norms (row 1), `w_up`, the taps and `w_down`. -/
noncomputable def first (x0 : Vec Ideal (⟨2, ![8192, 1024]⟩ : Shape) .f32) (x1 x2 : Vec Ideal (⟨2, ![8, 1024]⟩ : Shape) .f32)
    (x3 : Vec Ideal (⟨2, ![1024, 5632]⟩ : Shape) .f32) (x4 : Vec Ideal (⟨2, ![8, 5632]⟩ : Shape) .f32)
    (x5 : Vec Ideal (⟨2, ![2816, 1024]⟩ : Shape) .f32) : Fwd where
  x R k := x0 (ix2 R k)
  nw k := x2 (ix2 1 k)
  sc k := x1 (ix2 4 k)
  sh k := x1 (ix2 3 k)
  wg k c := x3 (ix2 k ⟨c, by omega⟩)
  wu k c := x3 (ix2 k ⟨2816 + c, by omega⟩)
  cg i c := x4 (ix2 ⟨i, by omega⟩ ⟨c, by omega⟩)
  cu i c := x4 (ix2 ⟨i, by omega⟩ ⟨2816 + c, by omega⟩)
  wd c k := x5 (ix2 ⟨c, by omega⟩ k)

/-- The last half's data. -/
noncomputable def last (x0 : Vec Ideal (⟨2, ![8192, 1024]⟩ : Shape) .f32) (x1 x2 : Vec Ideal (⟨2, ![8, 1024]⟩ : Shape) .f32)
    (x3 : Vec Ideal (⟨2, ![1024, 5632]⟩ : Shape) .f32) (x4 : Vec Ideal (⟨2, ![8, 5632]⟩ : Shape) .f32)
    (x5 : Vec Ideal (⟨2, ![2816, 1024]⟩ : Shape) .f32) : Fwd where
  x R k := x0 (ix2 R k)
  nw k := x2 (ix2 1 k)
  sc k := x1 (ix2 4 k)
  sh k := x1 (ix2 3 k)
  wg k c := x3 (ix2 k ⟨1408 + c, by omega⟩)
  wu k c := x3 (ix2 k ⟨4224 + c, by omega⟩)
  cg i c := x4 (ix2 ⟨i, by omega⟩ ⟨1408 + c, by omega⟩)
  cu i c := x4 (ix2 ⟨i, by omega⟩ ⟨4224 + c, by omega⟩)
  wd c k := x5 (ix2 ⟨1408 + c, by omega⟩ k)

/-! ## One block of 512 rows -/

/-- A block moved down by `s` rows, the last of the eight carried rows coming in at the top. -/
noncomputable def down (x : Fin 512 → Fin 1408 → EReal) (cr : Fin 8 → Fin 1408 → EReal) (s : ℕ) (r : Fin 512)
    (c : Fin 1408) : EReal :=
  if h : r.val < s then ext (fun k => cr k c) (8 + r - s) else x ⟨r - s, by omega⟩ c

/-- The kernel moves a block down by rotating it, below the eight carried rows. -/
theorem rotated (x : Fin 512 → Fin 1408 → EReal) (cr : Fin 8 → Fin 1408 → EReal) (s : ℕ) (h8 : s ≤ 8)
    (r : Fin 512) (c : Fin 1408) (h1 : (8 + r.val + 520 - s) % 520 < 8 → (8 + r.val + 520 - s) % 520 < 8)
    (h2 : ¬(8 + r.val + 520 - s) % 520 < 8 → (8 + r.val + 520 - s) % 520 - 8 < 512) :
    (if h : (8 + r.val + 520 - s) % 520 < 8 then cr ⟨(8 + r.val + 520 - s) % 520, h1 h⟩ c
      else x ⟨(8 + r.val + 520 - s) % 520 - 8, h2 h⟩ c) = down x cr s r c := by
  have hr := r.isLt
  have e : (8 + r.val + 520 - s) % 520 = 8 + r.val - s := by omega
  generalize (8 + r.val + 520 - s) % 520 = q at e h1 h2 ⊢
  subst e
  unfold down
  by_cases h : r.val < s
  · rw [dif_pos h, dif_pos (by omega), ext_lt _ (by omega)]
  · rw [dif_neg h, dif_neg (by omega)]
    congr 2
    omega

noncomputable def convBlk (x : Fin 512 → Fin 1408 → EReal) (cr : Fin 8 → Fin 1408 → EReal) (w : Fin 3 → Fin 1408 → EReal)
    (r : Fin 512) (c : Fin 1408) : EReal := w 2 c * x r c + w 1 c * down x cr 1 r c + w 0 c * down x cr 2 r c

/-- What block `n` finds carried: the eight rows before it, zeros before the first. -/
def Carry (X : Fin 8192 → Fin 1408 → EReal) (n : ℕ) (cr : Fin 8 → Fin 1408 → EReal) : Prop :=
  ∀ k c, cr k c = if n = 0 then 0 else ext (fun R => X R c) (512 * n - 8 + k)

/-- Row `r` of block `n`. -/
def at512 (n : ℕ) (h : n < 16) (r : Fin 512) : Fin 8192 := ⟨512 * n + r.val, by omega⟩

variable {X : Fin 8192 → Fin 1408 → EReal} {x : Fin 512 → Fin 1408 → EReal} {cr : Fin 8 → Fin 1408 → EReal} {n : ℕ}

theorem down_eq (h : n < 16) (hx : ∀ r c, x r c = X (at512 n h r) c) (hc : Carry X n cr) (s : ℕ) (h8 : s ≤ 8) (r : Fin 512)
    (c : Fin 1408) : down x cr s r c = Half.down X s (at512 n h r) c := by
  have hr := r.isLt
  unfold down Half.down
  by_cases hs : r.val < s
  · rw [dif_pos hs, ext_lt _ (by omega), hc]
    by_cases h0 : n = 0
    · rw [if_pos h0, if_pos (by show 512 * n + r.val < s; omega)]
    · rw [if_neg h0, if_neg (by show ¬512 * n + r.val < s; omega)]
      congr 1
      show 512 * n - 8 + (8 + r.val - s) = 512 * n + r.val - s
      omega
  · rw [dif_neg hs, if_neg (by show ¬512 * n + r.val < s; omega), ext_lt _ (by show 512 * n + r.val - s < 8192; omega), hx]
    congr 1
    exact Fin.ext (by show 512 * n + (r.val - s) = 512 * n + r.val - s; omega)

/-- A block's convolution is the array's. -/
theorem convBlk_eq (h : n < 16) (hx : ∀ r c, x r c = X (at512 n h r) c) (hc : Carry X n cr) (w : Fin 3 → Fin 1408 → EReal)
    (r : Fin 512) (c : Fin 1408) : convBlk x cr w r c = Half.conv X w (at512 n h r) c := by
  unfold convBlk Half.conv
  rw [down_eq h hx hc 1 (by omega), down_eq h hx hc 2 (by omega), hx]

theorem carry_zero (h : ∀ k c, cr k c = 0) : Carry X 0 cr := fun k c => (h k c).trans (if_pos rfl).symm

/-- The last eight rows of block `n` are what block `n + 1` finds. -/
theorem carry_succ (h : n < 16) (hx : ∀ r c, x r c = X (at512 n h r) c)
    (hcr : ∀ (k : Fin 8) c, cr k c = x ⟨504 + k, by omega⟩ c) : Carry X (n + 1) cr := fun k c => by
  rw [hcr, hx, if_neg (Nat.succ_ne_zero n), ext_lt _ (by omega)]
  congr 1
  exact Fin.ext (by show 512 * n + (504 + k.val) = 512 * (n + 1) - 8 + k.val; omega)

end Fwd

end TrainStep
-- ==== Proof.Fwd.First.lean ====
/-
  The first half's forward call: the values of a grid point's stores, what is carried from point to point, and the seven
  result arrays.
-/
module

public import proofs.«01_k».proof.Proof.Fwd.FirstCase
public import proofs.«01_k».proof.Proof.Fwd.Spec
public import proofs.«01_k».proof.Proof.Gen.Kernel6Ideal.Value
public import Idealize.ShloMosaic.Lib.Claim
public import Idealize.ShloMosaic.Lib.Pipeline.ValueKit.Point

@[expose] public section

set_option maxRecDepth 16384

open Idealize.ShloMosaic Idealize.ShloMosaic.TcCoe Idealize.SL.Sem
open Cert.Kernel6Ideal Cert.Kernel6Ideal.Gen Cert.Kernel6Ideal.Value

namespace TrainStep.FwdFirst

/-- The rows of a block of eight. -/
def rows (x : Vec Ideal S8x1408 .f32) (k : Fin 8) (c : Fin 1408) : EReal := x (ix2 k c)

section Values

variable (x0 : Vec Ideal S512x1024 .f32) (x1 x2 : Vec Ideal S8x1024 .f32) (x3 x4 : Vec Ideal S1024x1408 .bf16)
  (x5 x6 : Vec Ideal S8x1408 .f32) (x7 : Vec Ideal S1408x1024 .bf16) (s0 s1 : Vec Ideal S8x1408 .f32)
  (r : Fin 512) (l : Fin 1408)

theorem row_val (x : Vec Ideal S8x1408 .f32) (o : ℕ) (inb) (h : o < 8) : row1408 x o inb (ix2 0 l) = x (ix2 ⟨o, h⟩ l) := by
  refine congrArg x ((eq_ix2 _).trans (congrArg₂ ix2 (Fin.ext ?_) (Fin.ext ?_)))
  · simp
  · simp

theorem row_val' (x : Vec Ideal S8x1024 .f32) (o : ℕ) (inb) (h : o < 8) (k : Fin 1024) :
    row1024 x o inb (ix2 0 k) = x (ix2 ⟨o, h⟩ k) := by
  refine congrArg x ((eq_ix2 _).trans (congrArg₂ ix2 (Fin.ext ?_) (Fin.ext ?_)))
  · simp
  · simp

/-- The block's rows, normed. -/
noncomputable def hBlk (r : Fin 512) (k : Fin 1024) : EReal :=
  Fwd.normed (fun k => x0 (ix2 r k)) (fun k => x2 (ix2 1 k)) (fun k => x1 (ix2 4 k)) (fun k => x1 (ix2 3 k)) k

theorem h_val (k : Fin 1024) : (res x0 x1 x2 x3 x4 x5 x6 x7 s0 s1).1 (ix2 r k) = hBlk x0 x1 x2 r k := by
  unfold res
  pointwise [k0_pay10]
  simp only [row_val' _ 1 _ (by omega), row_val' _ 3 _ (by omega), row_val' _ 4 _ (by omega)]
  rfl

theorem g_val : g x0 x1 x2 x3 (ix2 r l) = ∑ k, hBlk x0 x1 x2 r k * x3 (ix2 k l) := by
  pointwise [g, k0_pay11, k0_pay10]
  simp only [row_val' _ 1 _ (by omega), row_val' _ 3 _ (by omega), row_val' _ 4 _ (by omega)]
  rfl

theorem u_val : u x0 x1 x2 x4 (ix2 r l) = ∑ k, hBlk x0 x1 x2 r k * x4 (ix2 k l) := by
  pointwise [u, k0_pay12, k0_pay10]
  simp only [row_val' _ 1 _ (by omega), row_val' _ 3 _ (by omega), row_val' _ 4 _ (by omega)]
  rfl

/-- The convolution of a block, the taps in rows 0, 1 and 2. -/
noncomputable def conv (y : FVec Ideal S512x1408 .f32) (s x : Vec Ideal S8x1408 .f32) (r : Fin 512) (l : Fin 1408) : EReal :=
  Fwd.convBlk (fun r l => y (ix2 r l)) (rows s) (fun i l => x (ix2 ⟨i, by omega⟩ l)) r l

theorem gc_val : gc x0 x1 x2 x3 x5 s0 (ix2 r l) = conv (g x0 x1 x2 x3) s0 x5 r l := by
  pointwise [gc, k0_pay15]
  unfold conv Fwd.convBlk
  rw [← Fwd.rotated _ _ 1 (by omega) r l id (by omega), ← Fwd.rotated _ _ 2 (by omega) r l id (by omega)]
  simp only [row_val l _ 0 _ (by omega), row_val l _ 1 _ (by omega), row_val l _ 2 _ (by omega)]
  rfl

theorem uc_val : k0_pay1 (u2 x0 x1 x2 x4 s1) (uc' x0 x1 x2 x4 x6 s1) (row1408 x6 0 inb_S8x1408_S1x1408_0_0) (ix2 r l)
    = conv (u x0 x1 x2 x4) s1 x6 r l := by
  pointwise [k0_pay1, u2, uc', k0_pay16, k0_pay17]
  unfold conv Fwd.convBlk
  rw [← Fwd.rotated _ _ 1 (by omega) r l id (by omega), ← Fwd.rotated _ _ 2 (by omega) r l id (by omega)]
  simp only [row_val l _ 0 _ (by omega), row_val l _ 1 _ (by omega), row_val l _ 2 _ (by omega)]
  rfl

/-- The gated block. -/
noncomputable def fBlk (r : Fin 512) (l : Fin 1408) : EReal :=
  conv (g x0 x1 x2 x3) s0 x5 r l * Ideal.logistic (conv (g x0 x1 x2 x3) s0 x5 r l) * conv (u x0 x1 x2 x4) s1 x6 r l

theorem f_val : k0_pay6 (gc x0 x1 x2 x3 x5 s0) (u2 x0 x1 x2 x4 s1) (uc' x0 x1 x2 x4 x6 s1)
    (row1408 x6 0 inb_S8x1408_S1x1408_0_0) (ix2 r l) = fBlk x0 x1 x2 x3 x4 x5 x6 s0 s1 r l := by
  pointwise [k0_pay6]
  rw [gc_val, uc_val]
  rfl

theorem d_val (k : Fin 1024) : (res x0 x1 x2 x3 x4 x5 x6 x7 s0 s1).2.2.2.2.2.2.1 (ix2 r k)
    = ∑ l, fBlk x0 x1 x2 x3 x4 x5 x6 s0 s1 r l * x7 (ix2 l k) := by
  unfold res
  pointwise [k0_pay7]
  simp only [f_val]

end Values

variable (m : (ℓ : Loc nD τ sig) → Buf (Elt Ideal) ℓ) (d : Dev nD)

/-- The first half's data, read off the argument buffers of device `d`. -/
noncomputable def W : Fwd :=
  Fwd.first (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))

theorem idx : ∀ t : Fin cfg0.N, win0_0.index t = ![t.val, 0] ∧ win0_1.index t = ![0, 0] ∧ win0_2.index t = ![0, 0]
    ∧ win0_3.index t = ![0, 0] ∧ win0_4.index t = ![0, 2] ∧ win0_5.index t = ![0, 0] ∧ win0_6.index t = ![0, 2]
    ∧ win0_7.index t = ![0, 0] :=
  (by decide +kernel : ∀ t : Fin grid0.N, _)

theorem lt16 (t : Fin cfg0.N) : t.val < 16 := lt_of_lt_of_eq t.isLt N_0

section Inputs

variable (t : Fin cfg0.N) (r : Fin 512) (k : Fin 1024) (l : Fin 1408)

theorem x_eq : iblk m d 0 t (ix2 r k) = (W m d).x (Fwd.at512 t.val (lt16 t) r) k := by
  unfold W Fwd.first Fwd.at512
  dsimp only
  blk_ext! [iblk, V, idx t]

theorem sc_eq : iblk m d 1 t (ix2 4 k) = (W m d).sc k := by
  unfold W Fwd.first
  dsimp only
  blk_ext! [iblk, V, idx t]

theorem sh_eq : iblk m d 1 t (ix2 3 k) = (W m d).sh k := by
  unfold W Fwd.first
  dsimp only
  blk_ext! [iblk, V, idx t]

theorem nw_eq : iblk m d 2 t (ix2 1 k) = (W m d).nw k := by
  unfold W Fwd.first
  dsimp only
  blk_ext! [iblk, V, idx t]

theorem wg_eq : iblk m d 3 t (ix2 k l) = (W m d).wg k l := by
  unfold W Fwd.first
  dsimp only
  blk_ext! [iblk, V, idx t]

theorem wu_eq : iblk m d 4 t (ix2 k l) = (W m d).wu k l := by
  unfold W Fwd.first
  dsimp only
  blk_ext! [iblk, V, idx t]

theorem cg_eq (i : Fin 3) : iblk m d 5 t (ix2 (⟨i, by omega⟩ : Fin 8) l) = (W m d).cg i l := by
  unfold W Fwd.first
  dsimp only
  blk_ext! [iblk, V, idx t]

theorem cu_eq (i : Fin 3) : iblk m d 6 t (ix2 (⟨i, by omega⟩ : Fin 8) l) = (W m d).cu i l := by
  unfold W Fwd.first
  dsimp only
  blk_ext! [iblk, V, idx t]

theorem wd_eq : iblk m d 7 t (ix2 l k) = (W m d).wd l k := by
  unfold W Fwd.first
  dsimp only
  blk_ext! [iblk, V, idx t]

theorem h_at : hBlk (iblk m d 0 t) (iblk m d 1 t) (iblk m d 2 t) r k = (W m d).h (Fwd.at512 t.val (lt16 t) r) k := by
  unfold hBlk Fwd.h
  simp only [x_eq, nw_eq, sc_eq, sh_eq]

theorem g_at : g (iblk m d 0 t) (iblk m d 1 t) (iblk m d 2 t) (iblk m d 3 t) (ix2 r l)
    = (W m d).g (Fwd.at512 t.val (lt16 t) r) l := by
  rw [g_val]
  exact Finset.sum_congr rfl fun k _ => by rw [h_at, wg_eq]

theorem u_at : u (iblk m d 0 t) (iblk m d 1 t) (iblk m d 2 t) (iblk m d 4 t) (ix2 r l)
    = (W m d).u (Fwd.at512 t.val (lt16 t) r) l := by
  rw [u_val]
  exact Finset.sum_congr rfl fun k _ => by rw [h_at, wu_eq]

end Inputs

/-- Every point finds the eight rows before its block carried. -/
theorem found : ∀ (n : ℕ) (h : n < cfg0.N), ∃ s0 s1, outsAt0 m d n h = resAt m d ⟨n, h⟩ s0 s1
    ∧ Fwd.Carry (W m d).g n (rows s0) ∧ Fwd.Carry (W m d).u n (rows s1)
  | 0, h => ⟨_, _, first m d ⟨0, h⟩ rfl, Fwd.carry_zero fun k l => by unfold rows; pointwise [k0_pay8],
      Fwd.carry_zero fun k l => by unfold rows; pointwise [k0_pay9]⟩
  | n + 1, h => by
    obtain ⟨s0, s1, e, _, _⟩ := found n (Nat.lt_of_succ_lt h)
    have hN := lt16 ⟨n, Nat.lt_of_succ_lt h⟩
    refine ⟨_, _, later m d ⟨n + 1, h⟩ (by have := lt16 ⟨n + 1, h⟩; dsimp only at this ⊢; omega) _ _ rfl rfl, ?_, ?_⟩
    · refine Fwd.carry_succ hN (fun r l => g_at m d ⟨n, Nat.lt_of_succ_lt h⟩ r l) fun k l => ?_
      show (outsAt0 m d n _).2.2.2.2.2.2.2.1 (ix2 k l) = _
      rw [e]
      unfold resAt res
      dsimp only
      pointwise [k0_pay2]
    · refine Fwd.carry_succ hN (fun r l => u_at m d ⟨n, Nat.lt_of_succ_lt h⟩ r l) fun k l => ?_
      show (outsAt0 m d n _).2.2.2.2.2.2.2.2 (ix2 k l) = _
      rw [e]
      unfold resAt res
      dsimp only
      pointwise [k0_pay3]

section Point

variable (t : Fin cfg0.N) {s0 s1 : Vec Ideal S8x1408 .f32} (r : Fin 512) (l : Fin 1408)

theorem gc_at (h0 : Fwd.Carry (W m d).g t.val (rows s0)) :
    conv (g (iblk m d 0 t) (iblk m d 1 t) (iblk m d 2 t) (iblk m d 3 t)) s0 (iblk m d 5 t) r l
      = (W m d).gc (Fwd.at512 t.val (lt16 t) r) l := by
  unfold conv
  rw [Fwd.convBlk_eq (lt16 t) (g_at m d t) h0]
  simp only [cg_eq]
  rfl

theorem uc_at (h1 : Fwd.Carry (W m d).u t.val (rows s1)) :
    conv (u (iblk m d 0 t) (iblk m d 1 t) (iblk m d 2 t) (iblk m d 4 t)) s1 (iblk m d 6 t) r l
      = (W m d).uc (Fwd.at512 t.val (lt16 t) r) l := by
  unfold conv
  rw [Fwd.convBlk_eq (lt16 t) (u_at m d t) h1]
  simp only [cu_eq]
  rfl

theorem f_at (h0 : Fwd.Carry (W m d).g t.val (rows s0)) (h1 : Fwd.Carry (W m d).u t.val (rows s1)) :
    fBlk (iblk m d 0 t) (iblk m d 1 t) (iblk m d 2 t) (iblk m d 3 t) (iblk m d 4 t) (iblk m d 5 t) (iblk m d 6 t) s0 s1 r l
      = (W m d).f (Fwd.at512 t.val (lt16 t) r) l := by
  unfold fBlk
  rw [gc_at m d t r l h0, uc_at m d t r l h1]
  rfl

/-- What point `t` leaves in its seven result blocks. -/
structure Left (o : Vec Ideal S512x1024 .bf16 × Vec Ideal S512x1408 .bf16 × Vec Ideal S512x1408 .bf16
    × Vec Ideal S512x1408 .bf16 × Vec Ideal S512x1408 .bf16 × Vec Ideal S512x1408 .bf16 × Vec Ideal S512x1024 .f32
    × Vec Ideal S8x1408 .f32 × Vec Ideal S8x1408 .f32) : Prop where
  h r k : o.1 (ix2 r k) = (W m d).h (Fwd.at512 t.val (lt16 t) r) k
  g r l : o.2.1 (ix2 r l) = (W m d).g (Fwd.at512 t.val (lt16 t) r) l
  u r l : o.2.2.1 (ix2 r l) = (W m d).u (Fwd.at512 t.val (lt16 t) r) l
  gc r l : o.2.2.2.1 (ix2 r l) = (W m d).gc (Fwd.at512 t.val (lt16 t) r) l
  uc r l : o.2.2.2.2.1 (ix2 r l) = (W m d).uc (Fwd.at512 t.val (lt16 t) r) l
  f r l : o.2.2.2.2.2.1 (ix2 r l) = (W m d).f (Fwd.at512 t.val (lt16 t) r) l
  d r k : o.2.2.2.2.2.2.1 (ix2 r k) = (W m d).d (Fwd.at512 t.val (lt16 t) r) k

theorem left : Left m d t (outsAt0 m d t.val t.isLt) := by
  obtain ⟨s0, s1, e, h0, h1⟩ := found m d t.val t.isLt
  rw [e]
  unfold resAt
  refine ⟨fun r k => (h_val ..).trans (h_at m d t r k), fun r l => ?_, fun r l => ?_, fun r l => ?_, fun r l => ?_,
    fun r l => (f_val ..).trans (f_at m d t r l h0 h1), fun r k => (d_val ..).trans ?_⟩
  · unfold res
    pointwise [k0_pay13]
    exact g_at m d t r l
  · unfold res
    pointwise [k0_pay14]
    exact u_at m d t r l
  · unfold res
    pointwise [k0_pay4]
    exact (gc_val ..).trans (gc_at m d t r l h0)
  · unfold res
    pointwise [k0_pay5]
    exact (uc_val ..).trans (uc_at m d t r l h1)
  · exact Finset.sum_congr rfl fun l _ => by rw [f_at m d t r l h0 h1, wd_eq]

end Point

theorem idxOut : ∀ t : Fin cfg0.N, win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

/-- Every row lies in the block of some point. -/
theorem exists_row (R : Fin 8192) : ∃ (t : Fin cfg0.N) (r : Fin 512), Fwd.at512 t.val (lt16 t) r = R := by
  have hN : cfg0.N = 16 := N_0
  have hR := R.isLt
  exact ⟨⟨R.val / 512, by omega⟩, ⟨R.val % 512, by omega⟩, Fin.ext (by show 512 * (R.val / 512) + R.val % 512 = R.val; omega)⟩

theorem arr8 (R : Fin 8192) (k : Fin 1024) : (dats m 0 d).arrAt 8 cfg0.N (ix2 R k) = (W m d).h R k := by
  obtain ⟨t, r, rfl⟩ := exists_row R
  refine Eq.trans ?_ ((congrFun ((blocks8 m d t (flush0_8 t)).trans (flushed8 m d t)) (ix2 r k)).trans ((left m d t).h r k))
  rw [View.read_apply]
  unfold Fwd.at512
  blk_ext [idxOut t]

theorem arr9 (R : Fin 8192) (l : Fin 1408) : (dats m 0 d).arrAt 9 cfg0.N (ix2 R l) = (W m d).g R l := by
  obtain ⟨t, r, rfl⟩ := exists_row R
  refine Eq.trans ?_ ((congrFun ((blocks9 m d t (flush0_9 t)).trans (flushed9 m d t)) (ix2 r l)).trans ((left m d t).g r l))
  rw [View.read_apply]
  unfold Fwd.at512
  blk_ext [idxOut t]

theorem arr10 (R : Fin 8192) (l : Fin 1408) : (dats m 0 d).arrAt 10 cfg0.N (ix2 R l) = (W m d).u R l := by
  obtain ⟨t, r, rfl⟩ := exists_row R
  refine Eq.trans ?_ ((congrFun ((blocks10 m d t (flush0_10 t)).trans (flushed10 m d t)) (ix2 r l)).trans ((left m d t).u r l))
  rw [View.read_apply]
  unfold Fwd.at512
  blk_ext [idxOut t]

theorem arr11 (R : Fin 8192) (l : Fin 1408) : (dats m 0 d).arrAt 11 cfg0.N (ix2 R l) = (W m d).gc R l := by
  obtain ⟨t, r, rfl⟩ := exists_row R
  refine Eq.trans ?_ ((congrFun ((blocks11 m d t (flush0_11 t)).trans (flushed11 m d t)) (ix2 r l)).trans ((left m d t).gc r l))
  rw [View.read_apply]
  unfold Fwd.at512
  blk_ext [idxOut t]

theorem arr12 (R : Fin 8192) (l : Fin 1408) : (dats m 0 d).arrAt 12 cfg0.N (ix2 R l) = (W m d).uc R l := by
  obtain ⟨t, r, rfl⟩ := exists_row R
  refine Eq.trans ?_ ((congrFun ((blocks12 m d t (flush0_12 t)).trans (flushed12 m d t)) (ix2 r l)).trans ((left m d t).uc r l))
  rw [View.read_apply]
  unfold Fwd.at512
  blk_ext [idxOut t]

theorem arr13 (R : Fin 8192) (l : Fin 1408) : (dats m 0 d).arrAt 13 cfg0.N (ix2 R l) = (W m d).f R l := by
  obtain ⟨t, r, rfl⟩ := exists_row R
  refine Eq.trans ?_ ((congrFun ((blocks13 m d t (flush0_13 t)).trans (flushed13 m d t)) (ix2 r l)).trans ((left m d t).f r l))
  rw [View.read_apply]
  unfold Fwd.at512
  blk_ext [idxOut t]

theorem arr14 (R : Fin 8192) (k : Fin 1024) : (dats m 0 d).arrAt 14 cfg0.N (ix2 R k) = (W m d).d R k := by
  obtain ⟨t, r, rfl⟩ := exists_row R
  refine Eq.trans ?_ ((congrFun ((blocks14 m d t (flush0_14 t)).trans (flushed14 m d t)) (ix2 r k)).trans ((left m d t).d r k))
  rw [View.read_apply]
  unfold Fwd.at512
  blk_ext [idxOut t]

end TrainStep.FwdFirst
-- ==== Proof.Fwd.FirstRef.lean ====
/-
  The first half's forward reference, read at a row and a column.
-/
module

public import proofs.«01_k».proof.Proof.Fwd.Spec
public import proofs.«01_k».proof.Proof.Gen.Reference6Ideal.Read

@[expose] public section

set_option maxRecDepth 16384

open Idealize.ShloMosaic
open Cert.Reference6Ideal Cert.Reference6Ideal.Gen Cert.Reference6Ideal.Read

namespace TrainStep.FwdFirstRef

variable (x0 : Vec Ideal S8192x1024 .f32) (x1 x2 : Vec Ideal S8x1024 .f32) (x3 : Vec Ideal S1024x5632 .f32)
  (x4 : Vec Ideal S8x5632 .f32) (x5 : Vec Ideal S2816x1024 .f32) (R : Fin 8192) (k : Fin 1024) (l : Fin 1408)

/-- The first half's data, read off the program's six arguments. -/
noncomputable abbrev W : Fwd := Fwd.first x0 x1 x2 x3 x4 x5

theorem h : val_main_v26 (F := Ideal) x0 x1 x2 (ix2 R k) = (W x0 x1 x2 x3 x4 x5).h R k := by
  pointwise [val_main_v26, val_main_v25, val_main_v24, val_main_v23, val_main_v22, val_main_v21, val_main_v20, val_main_v19,
    val_main_v18, val_main_v17, val_main_cst_2, val_main_v16, val_main_v15, val_main_v14, val_main_v13, val_main_v12,
    val_main_v11, val_main_v10, val_main_v9, val_main_v8, val_main_v7, val_main_cst_1, val_main_v6, val_main_v5,
    val_main_cst_0, val_main_v4, val_main_v3, val_main_cst, val_main_v2, val_main_v1, val_main_v0]
  rfl

theorem g : val_main_v28 (F := Ideal) x0 x1 x2 x3 (ix2 R l) = (W x0 x1 x2 x3 x4 x5).g R l := by
  pointwise [val_main_v28, val_main_v27]
  simp only [h x0 x1 x2 x3 x4 x5]
  rfl

theorem u : val_main_v30 (F := Ideal) x0 x1 x2 x3 (ix2 R l) = (W x0 x1 x2 x3 x4 x5).u R l := by
  pointwise [val_main_v30, val_main_v29]
  simp only [h x0 x1 x2 x3 x4 x5]
  rfl

theorem gc : val_main_v54 (F := Ideal) x0 x1 x2 x3 x4 (ix2 R l) = (W x0 x1 x2 x3 x4 x5).gc R l := by
  pointwise [val_main_v54, val_main_v53, val_main_v52, val_main_v51, val_main_v50, val_main_v49, val_main_v48, val_main_cst_4,
    val_main_v47, val_main_v46, val_main_v45, val_main_v44, val_main_v43, val_main_v42, val_main_v41, val_main_v40,
    val_main_v39, val_main_cst_3, val_main_v38, val_main_v37, val_main_v36, val_main_v35, val_main_v34, val_main_v33,
    val_main_v32, val_main_v31]
  simp only [g x0 x1 x2 x3 x4 x5]
  unfold Fwd.gc Half.conv
  simp only [Half.down_eq]
  rfl

theorem uc : val_main_v78 (F := Ideal) x0 x1 x2 x3 x4 (ix2 R l) = (W x0 x1 x2 x3 x4 x5).uc R l := by
  pointwise [val_main_v78, val_main_v77, val_main_v76, val_main_v75, val_main_v74, val_main_v73, val_main_v72, val_main_cst_6,
    val_main_v71, val_main_v70, val_main_v69, val_main_v68, val_main_v67, val_main_v66, val_main_v65, val_main_v64,
    val_main_v63, val_main_cst_5, val_main_v62, val_main_v61, val_main_v60, val_main_v59, val_main_v58, val_main_v57,
    val_main_v56, val_main_v55]
  simp only [u x0 x1 x2 x3 x4 x5]
  unfold Fwd.uc Half.conv
  simp only [Half.down_eq]
  rfl

theorem f : val_main_v80 (F := Ideal) x0 x1 x2 x3 x4 (ix2 R l) = (W x0 x1 x2 x3 x4 x5).f R l := by
  pointwise [val_main_v80, val_main_v79, val_main_call0_v5, val_main_call0_v4, val_main_call0_v3, val_main_call0_v2,
    val_main_call0_v1, val_main_call0_v0, val_main_call0_cst, val_main_call0_cst_0]
  simp only [gc x0 x1 x2 x3 x4 x5, uc x0 x1 x2 x3 x4 x5]
  rfl

theorem d : val_main_v88 (F := Ideal) x0 x1 x2 x3 x4 x5 (ix2 R k) = (W x0 x1 x2 x3 x4 x5).d R k := by
  pointwise [val_main_v88, val_main_v87]
  simp only [f x0 x1 x2 x3 x4 x5]
  rfl

end TrainStep.FwdFirstRef
-- ==== Proof.Fwd.FirstClaim.lean ====
/-
  The first half's forward call: on every device the kernel's seven results are the reference's.
-/
module

public import proofs.«01_k».proof.Proof.Fwd.First
public import proofs.«01_k».proof.Proof.Fwd.FirstRef
public import proofs.«01_k».proof.Proof.Gen.Reference6Ideal.Run
public import proofs.«01_k».proof.Defs

@[expose] public section

set_option maxRecDepth 16384

open Idealize.ShloMosaic Idealize.ShloMosaic.StableHlo Idealize.SL.Sem

namespace TrainStep.FwdFirst

attribute [local instance] Cert.Kernel6Ideal.Gen.facts Cert.Reference6Ideal.Gen.facts

section Reference

open Cert.Reference6Ideal Cert.Reference6Ideal.Read

/-- The reference's results as functions of its arguments. -/
theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v81) = val_main_v81 (F := Ideal) (a c main_arg0) (a c main_arg1) (a c main_arg2)
      ∧ r.2.mem ((c.tc : Thread nD τ).loc main_v82) = val_main_v82 (F := Ideal) (a c main_arg0) (a c main_arg1) (a c main_arg2) (a c main_arg3)
      ∧ r.2.mem ((c.tc : Thread nD τ).loc main_v83) = val_main_v83 (F := Ideal) (a c main_arg0) (a c main_arg1) (a c main_arg2) (a c main_arg3)
      ∧ r.2.mem ((c.tc : Thread nD τ).loc main_v84) = val_main_v84 (F := Ideal) (a c main_arg0) (a c main_arg1) (a c main_arg2) (a c main_arg3) (a c main_arg4)
      ∧ r.2.mem ((c.tc : Thread nD τ).loc main_v85) = val_main_v85 (F := Ideal) (a c main_arg0) (a c main_arg1) (a c main_arg2) (a c main_arg3) (a c main_arg4)
      ∧ r.2.mem ((c.tc : Thread nD τ).loc main_v86) = val_main_v86 (F := Ideal) (a c main_arg0) (a c main_arg1) (a c main_arg2) (a c main_arg3) (a c main_arg4)
      ∧ r.2.mem ((c.tc : Thread nD τ).loc main_v88) = val_main_v88 (F := Ideal) (a c main_arg0) (a c main_arg1) (a c main_arg2) (a c main_arg3) (a c main_arg4) (a c main_arg5)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2
      ∧ r.2.mem ((c.tc : Thread nD τ).loc main_arg3) = a c main_arg3
      ∧ r.2.mem ((c.tc : Thread nD τ).loc main_arg4) = a c main_arg4
      ∧ r.2.mem ((c.tc : Thread nD τ).loc main_arg5) = a c main_arg5 :=
  (θ_run defs _ _).mono (fun r h c => by
    obtain ⟨h0, h1, h2, h3, h4, h5, h6, hargs⟩ := h c
    exact ⟨h0.trans (val_main_v81_eq (F := Ideal) _ _ _),
      h1.trans (val_main_v82_eq (F := Ideal) _ _ _ _),
      h2.trans (val_main_v83_eq (F := Ideal) _ _ _ _),
      h3.trans (val_main_v84_eq (F := Ideal) _ _),
      h4.trans (val_main_v85_eq (F := Ideal) _ _),
      h5.trans (val_main_v86_eq (F := Ideal) _ _),
      h6.trans (val_main_v88_eq (F := Ideal) _ _), hargs⟩)
    (Cert.Reference6Ideal.Value.run m ρ)

end Reference

theorem algebraic : Cert.algebraic_Kernel6Ideal_Reference6Ideal := by
  intro m ρ m' ρ' _ hagree
  refine ⟨fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    fun c => (Cert.Kernel6Ideal.Gen.dats m 0 c).arrAt 11 Cert.Kernel6Ideal.cfg0.N,
    fun c => (Cert.Kernel6Ideal.Gen.dats m 0 c).arrAt 12 Cert.Kernel6Ideal.cfg0.N,
    fun c => (Cert.Kernel6Ideal.Gen.dats m 0 c).arrAt 13 Cert.Kernel6Ideal.cfg0.N,
    fun c => (Cert.Kernel6Ideal.Gen.dats m 0 c).arrAt 14 Cert.Kernel6Ideal.cfg0.N,
    Cert.Kernel6Ideal.Value.run_blocks m ρ, ?_⟩
  refine (θ_run _ _ _).mono (fun r h c => ?_) (run m' ρ')
  obtain ⟨e0, e1, e2, e3, e4, e5⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  all_goals simp only [e0, e1, e2, e3, e4, e5]
  · exact ext2 fun R k => (FwdFirstRef.h _ _ _ _ _ _ R k).trans (arr8 m c R k).symm
  · exact ext2 fun R k => (FwdFirstRef.g _ _ _ _ _ _ R k).trans (arr9 m c R k).symm
  · exact ext2 fun R k => (FwdFirstRef.u _ _ _ _ _ _ R k).trans (arr10 m c R k).symm
  · exact ext2 fun R k => (FwdFirstRef.gc _ _ _ _ _ _ R k).trans (arr11 m c R k).symm
  · exact ext2 fun R k => (FwdFirstRef.uc _ _ _ _ _ _ R k).trans (arr12 m c R k).symm
  · exact ext2 fun R k => (FwdFirstRef.f _ _ _ _ _ _ R k).trans (arr13 m c R k).symm
  · exact ext2 fun R k => (FwdFirstRef.d _ _ _ _ _ _ R k).trans (arr14 m c R k).symm

end TrainStep.FwdFirst
-- ==== Proof.Fwd.LastCase.lean ====
/-
  What one grid point of the last half's forward call leaves in its seven result blocks and in its two carried blocks,
  as the payloads of its stores.
-/
module

public import proofs.«01_k».proof.Proof.Gen.Kernel7Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel7Ideal Cert.Kernel7Ideal.Gen

namespace TrainStep.FwdLast

theorem hz : (![0, 0] : Fin 2 → Nat) = fun _ => 0 := funext fun a => by fin_cases a <;> rfl

/-- Row `o` of a block of eight rows, as the kernel loads it. -/
noncomputable def row1024 (x : Vec Ideal S8x1024 .f32) (o : ℕ)
    (inb : ∀ a : Fin 2, (![o, 0] : Fin 2 → ℕ) a + S1x1024.size a ≤ S8x1024.size a) : Vec Ideal S1x1024 .f32 :=
  View.ld x (Rect.unit (s := S8x1024) ![o, 0] S1x1024.size inb)

noncomputable def row1408 (x : Vec Ideal S8x1408 .f32) (o : ℕ)
    (inb : ∀ a : Fin 2, (![o, 0] : Fin 2 → ℕ) a + S1x1408.size a ≤ S8x1408.size a) : Vec Ideal S1x1408 .f32 :=
  View.ld x (Rect.unit (s := S8x1408) ![o, 0] S1x1408.size inb)

section Payloads

variable (x0 : Vec Ideal S512x1024 .f32) (x1 x2 : Vec Ideal S8x1024 .f32) (x3 x4 : Vec Ideal S1024x1408 .bf16)
  (x5 x6 : Vec Ideal S8x1408 .f32) (x7 : Vec Ideal S1408x1024 .bf16) (x8 : Vec Ideal S512x1024 .f32) (s0 s1 : Vec Ideal S8x1408 .f32)

/-- The block's products with the gate columns and with the up columns. -/
noncomputable def g : FVec Ideal S512x1408 .f32 :=
  k0_pay11 x0 (row1024 x2 1 inb_S8x1024_S1x1024_1_0) (row1024 x1 4 inb_S8x1024_S1x1024_4_0)
    (row1024 x1 3 inb_S8x1024_S1x1024_3_0) x3

noncomputable def u : FVec Ideal S512x1408 .f32 :=
  k0_pay12 x0 (row1024 x2 1 inb_S8x1024_S1x1024_1_0) (row1024 x1 4 inb_S8x1024_S1x1024_4_0)
    (row1024 x1 3 inb_S8x1024_S1x1024_3_0) x4

/-- The gate columns' convolution. -/
noncomputable def gc : FVec Ideal S512x1408 .f32 :=
  k0_pay15 (g x0 x1 x2 x3) s0 (row1408 x5 2 inb_S8x1408_S1x1408_2_0) (row1408 x5 1 inb_S8x1408_S1x1408_1_0)
    (row1408 x5 0 inb_S8x1408_S1x1408_0_0)

/-- The up columns' convolution. -/
noncomputable def uc : FVec Ideal S512x1408 .f32 :=
  k0_pay16 (u x0 x1 x2 x4) s1 (row1408 x6 2 inb_S8x1408_S1x1408_2_0) (row1408 x6 1 inb_S8x1408_S1x1408_1_0)
    (row1408 x6 0 inb_S8x1408_S1x1408_0_0)

/-- Everything a point leaves, given what it finds carried. -/
noncomputable def res : Vec Ideal S512x1408 .bf16 × Vec Ideal S512x1408 .bf16
    × Vec Ideal S512x1408 .bf16 × Vec Ideal S512x1408 .bf16 × Vec Ideal S512x1408 .bf16 × Vec Ideal S512x1024 .f32
    × Vec Ideal S512x1024 .f32 × Vec Ideal S8x1408 .f32 × Vec Ideal S8x1408 .f32 :=
  (k0_pay13 x0 (row1024 x2 1 inb_S8x1024_S1x1024_1_0) (row1024 x1 4 inb_S8x1024_S1x1024_4_0)
      (row1024 x1 3 inb_S8x1024_S1x1024_3_0) x3,
    k0_pay14 x0 (row1024 x2 1 inb_S8x1024_S1x1024_1_0) (row1024 x1 4 inb_S8x1024_S1x1024_4_0)
      (row1024 x1 3 inb_S8x1024_S1x1024_3_0) x4,
    k0_pay3 (gc x0 x1 x2 x3 x5 s0), k0_pay4 (uc x0 x1 x2 x4 x6 s1),
    k0_pay5 (gc x0 x1 x2 x3 x5 s0) (uc x0 x1 x2 x4 x6 s1),
    k0_pay6 (gc x0 x1 x2 x3 x5 s0) (uc x0 x1 x2 x4 x6 s1) x7 x8,
    k0_pay7 x0 (gc x0 x1 x2 x3 x5 s0) (uc x0 x1 x2 x4 x6 s1) x7 x8 (row1024 x1 5 inb_S8x1024_S1x1024_5_0),
    k0_pay1 (g x0 x1 x2 x3), k0_pay2 (u x0 x1 x2 x4))

end Payloads

variable (m : (ℓ : Loc nD τ sig) → Buf (Elt Ideal) ℓ) (d : Dev nD) (t : Fin cfg0.N)

/-- What point `t` leaves when it finds `s0` and `s1` carried. -/
noncomputable def resAt (s0 s1 : Vec Ideal S8x1408 .f32) :=
  res (iblk m d 0 t) (iblk m d 1 t) (iblk m d 2 t) (iblk m d 3 t) (iblk m d 4 t) (iblk m d 5 t) (iblk m d 6 t)
    (iblk m d 7 t) (iblk m d 8 t) s0 s1

theorem tuple {A B C D E F G H I : Type} {a a' : A} {b b' : B} {c c' : C} {d d' : D} {e e' : E} {f f' : F} {g g' : G}
    {h h' : H} {i i' : I} (ha : a = a') (hb : b = b') (hc : c = c') (hd : d = d') (he : e = e') (hf : f = f')
    (hg : g = g') (hh : h = h') (hi : i = i') :
    (a, b, c, d, e, f, g, h, i) = (a', b', c', d', e', f', g', h', i') := by
  subst ha hb hc hd he hf hg hh hi; rfl

/-- The first point clears the two carried blocks. -/
theorem first (h0 : t.val % 16 = 0) :
    outsAt0 m d t.val t.isLt = resAt m d t (k0_pay8 (F := Ideal)) (k0_pay9 (F := Ideal)) := by
  rw [outsAt0_A m d t h0]
  unfold resAt res out0_A_9 out0_A_10 out0_A_11 out0_A_12 out0_A_13 out0_A_14 out0_A_15 sout0_A_0 sout0_A_1
  refine tuple ?_ ?_ ?_ ?_ ?_ ?_ ?_ ?_ ?_
  all_goals
    unfold kernelRun0_A
    dsimp only
    first
      | rw [View.read_writes_full (s := S512x1024)]
      | rw [View.read_writes_full (s := S512x1408)]
      | rw [View.read_writes_full (s := S8x1408)]
    sl_unfold_words
    simp only [View.readAt_eq_ld, Memref.IsWhole.read_unread, View.ld_unit_zero (S := S512x1024) hz,
      View.ld_unit_zero (S := S1024x1408) hz, View.ld_unit_zero (S := S1408x1024) hz,
      View.readCov_unit_zero (S := S8x1408) _ hz, g, u, gc, uc, row1024, row1408]

/-- A later point finds what the point before left. -/
theorem later (h0 : ¬t.val % 16 = 0) (s0 s1 : Vec Ideal S8x1408 .f32)
    (e0 : (outsAt0 m d (t.val - 1) (Nat.lt_of_le_of_lt (Nat.sub_le _ _) t.isLt)).2.2.2.2.2.2.2.1 = s0)
    (e1 : (outsAt0 m d (t.val - 1) (Nat.lt_of_le_of_lt (Nat.sub_le _ _) t.isLt)).2.2.2.2.2.2.2.2 = s1) :
    outsAt0 m d t.val t.isLt = resAt m d t s0 s1 := by
  have r0 : (View.whole cc0_scratch0).read (Elt Ideal) ((Memref.isWhole_whole cc0_scratch0).unread s0) = s0 :=
    Memref.IsWhole.read_unread _ s0
  have r1 : (View.whole cc0_scratch1).read (Elt Ideal) ((Memref.isWhole_whole cc0_scratch1).unread s1) = s1 :=
    Memref.IsWhole.read_unread _ s1
  rw [outsAt0_B m d t h0, e0, e1]
  unfold resAt res out0_B_9 out0_B_10 out0_B_11 out0_B_12 out0_B_13 out0_B_14 out0_B_15 sout0_B_0 sout0_B_1
  refine tuple ?_ ?_ ?_ ?_ ?_ ?_ ?_ ?_ ?_
  all_goals
    unfold kernelRun0_B
    dsimp only
    first
      | rw [View.read_writes_full (s := S512x1024)]
      | rw [View.read_writes_full (s := S512x1408)]
      | rw [View.read_writes_full (s := S8x1408)]
    sl_unfold_words
    simp only [View.readAt_eq_ld, Memref.IsWhole.read_unread, View.ld_unit_zero (S := S512x1024) hz,
      View.ld_unit_zero (S := S1024x1408) hz, View.ld_unit_zero (S := S1408x1024) hz,
      View.ld_unit_zero (S := S8x1408) hz, r0, r1, g, u, gc, uc, row1024, row1408]

end TrainStep.FwdLast
-- ==== Proof.Fwd.Last.lean ====
/-
  The last half's forward call: the values of a grid point's stores, what is carried from point to point, and the seven
  result arrays.
-/
module

public import proofs.«01_k».proof.Proof.Fwd.LastCase
public import proofs.«01_k».proof.Proof.Fwd.Spec
public import proofs.«01_k».proof.Proof.Gen.Kernel7Ideal.Value
public import Idealize.ShloMosaic.Lib.Claim
public import Idealize.ShloMosaic.Lib.Pipeline.ValueKit.Point

@[expose] public section

set_option maxRecDepth 16384

open Idealize.ShloMosaic Idealize.ShloMosaic.TcCoe Idealize.SL.Sem
open Cert.Kernel7Ideal Cert.Kernel7Ideal.Gen Cert.Kernel7Ideal.Value

namespace TrainStep.FwdLast

/-- The rows of a block of eight. -/
def rows (x : Vec Ideal S8x1408 .f32) (k : Fin 8) (c : Fin 1408) : EReal := x (ix2 k c)

section Values

variable (x0 : Vec Ideal S512x1024 .f32) (x1 x2 : Vec Ideal S8x1024 .f32) (x3 x4 : Vec Ideal S1024x1408 .bf16)
  (x5 x6 : Vec Ideal S8x1408 .f32) (x7 : Vec Ideal S1408x1024 .bf16) (x8 : Vec Ideal S512x1024 .f32) (s0 s1 : Vec Ideal S8x1408 .f32)
  (r : Fin 512) (l : Fin 1408)

theorem row_val (x : Vec Ideal S8x1408 .f32) (o : ℕ) (inb) (h : o < 8) : row1408 x o inb (ix2 0 l) = x (ix2 ⟨o, h⟩ l) := by
  refine congrArg x ((eq_ix2 _).trans (congrArg₂ ix2 (Fin.ext ?_) (Fin.ext ?_)))
  · simp
  · simp

theorem row_val' (x : Vec Ideal S8x1024 .f32) (o : ℕ) (inb) (h : o < 8) (k : Fin 1024) :
    row1024 x o inb (ix2 0 k) = x (ix2 ⟨o, h⟩ k) := by
  refine congrArg x ((eq_ix2 _).trans (congrArg₂ ix2 (Fin.ext ?_) (Fin.ext ?_)))
  · simp
  · simp

/-- The block's rows, normed. -/
noncomputable def hBlk (r : Fin 512) (k : Fin 1024) : EReal :=
  Fwd.normed (fun k => x0 (ix2 r k)) (fun k => x2 (ix2 1 k)) (fun k => x1 (ix2 4 k)) (fun k => x1 (ix2 3 k)) k

theorem g_val : g x0 x1 x2 x3 (ix2 r l) = ∑ k, hBlk x0 x1 x2 r k * x3 (ix2 k l) := by
  pointwise [g, k0_pay11, k0_pay10]
  simp only [row_val' _ 1 _ (by omega), row_val' _ 3 _ (by omega), row_val' _ 4 _ (by omega)]
  rfl

theorem u_val : u x0 x1 x2 x4 (ix2 r l) = ∑ k, hBlk x0 x1 x2 r k * x4 (ix2 k l) := by
  pointwise [u, k0_pay12, k0_pay10]
  simp only [row_val' _ 1 _ (by omega), row_val' _ 3 _ (by omega), row_val' _ 4 _ (by omega)]
  rfl

/-- The convolution of a block, the taps in rows 0, 1 and 2. -/
noncomputable def conv (y : FVec Ideal S512x1408 .f32) (s x : Vec Ideal S8x1408 .f32) (r : Fin 512) (l : Fin 1408) : EReal :=
  Fwd.convBlk (fun r l => y (ix2 r l)) (rows s) (fun i l => x (ix2 ⟨i, by omega⟩ l)) r l

theorem gc_val : gc x0 x1 x2 x3 x5 s0 (ix2 r l) = conv (g x0 x1 x2 x3) s0 x5 r l := by
  pointwise [gc, k0_pay15]
  unfold conv Fwd.convBlk
  rw [← Fwd.rotated _ _ 1 (by omega) r l id (by omega), ← Fwd.rotated _ _ 2 (by omega) r l id (by omega)]
  simp only [row_val l _ 0 _ (by omega), row_val l _ 1 _ (by omega), row_val l _ 2 _ (by omega)]
  rfl

theorem uc_val : uc x0 x1 x2 x4 x6 s1 (ix2 r l) = conv (u x0 x1 x2 x4) s1 x6 r l := by
  pointwise [uc, k0_pay16]
  unfold conv Fwd.convBlk
  rw [← Fwd.rotated _ _ 1 (by omega) r l id (by omega), ← Fwd.rotated _ _ 2 (by omega) r l id (by omega)]
  simp only [row_val l _ 0 _ (by omega), row_val l _ 1 _ (by omega), row_val l _ 2 _ (by omega)]
  rfl

/-- The gated block. -/
noncomputable def fBlk (r : Fin 512) (l : Fin 1408) : EReal :=
  conv (g x0 x1 x2 x3) s0 x5 r l * Ideal.logistic (conv (g x0 x1 x2 x3) s0 x5 r l) * conv (u x0 x1 x2 x4) s1 x6 r l

theorem f_val : k0_pay5 (gc x0 x1 x2 x3 x5 s0) (uc x0 x1 x2 x4 x6 s1) (ix2 r l)
    = fBlk x0 x1 x2 x3 x4 x5 x6 s0 s1 r l := by
  pointwise [k0_pay5]
  rw [gc_val, uc_val]
  rfl

theorem d_val (k : Fin 1024) : (res x0 x1 x2 x3 x4 x5 x6 x7 x8 s0 s1).2.2.2.2.2.1 (ix2 r k)
    = x8 (ix2 r k) + ∑ l, fBlk x0 x1 x2 x3 x4 x5 x6 s0 s1 r l * x7 (ix2 l k) := by
  unfold res
  pointwise [k0_pay6]
  simp only [f_val]

theorem x_val (k : Fin 1024) : (res x0 x1 x2 x3 x4 x5 x6 x7 x8 s0 s1).2.2.2.2.2.2.1 (ix2 r k)
    = x0 (ix2 r k) + x1 (ix2 5 k) * (x8 (ix2 r k) + ∑ l, fBlk x0 x1 x2 x3 x4 x5 x6 s0 s1 r l * x7 (ix2 l k)) := by
  unfold res
  pointwise [k0_pay7, k0_pay6]
  simp only [f_val, row_val' _ 5 _ (by omega)]
  rfl

end Values

variable (m : (ℓ : Loc nD τ sig) → Buf (Elt Ideal) ℓ) (d : Dev nD)

/-- The last half's data, read off the argument buffers of device `d`. -/
noncomputable def W : Fwd :=
  Fwd.last (m ((d : Thread nD τ).loc main_arg0)) (m ((d : Thread nD τ).loc main_arg1)) (m ((d : Thread nD τ).loc main_arg2))
    (m ((d : Thread nD τ).loc main_arg3)) (m ((d : Thread nD τ).loc main_arg4)) (m ((d : Thread nD τ).loc main_arg5))

/-- The first half's product and the gates of the block's output. -/
noncomputable def d0 (R : Fin 8192) (k : Fin 1024) : EReal := m ((d : Thread nD τ).loc main_arg6) (ix2 R k)

noncomputable def gt (k : Fin 1024) : EReal := m ((d : Thread nD τ).loc main_arg1) (ix2 5 k)

theorem idx : ∀ t : Fin cfg0.N, win0_0.index t = ![t.val, 0] ∧ win0_1.index t = ![0, 0] ∧ win0_2.index t = ![0, 0]
    ∧ win0_3.index t = ![0, 1] ∧ win0_4.index t = ![0, 3] ∧ win0_5.index t = ![0, 1] ∧ win0_6.index t = ![0, 3]
    ∧ win0_7.index t = ![1, 0] ∧ win0_8.index t = ![t.val, 0] :=
  (by decide +kernel : ∀ t : Fin grid0.N, _)

theorem lt16 (t : Fin cfg0.N) : t.val < 16 := lt_of_lt_of_eq t.isLt N_0

section Inputs

variable (t : Fin cfg0.N) (r : Fin 512) (k : Fin 1024) (l : Fin 1408)

theorem x_eq : iblk m d 0 t (ix2 r k) = (W m d).x (Fwd.at512 t.val (lt16 t) r) k := by
  unfold W Fwd.last Fwd.at512
  dsimp only
  blk_ext! [iblk, V, idx t]

theorem sc_eq : iblk m d 1 t (ix2 4 k) = (W m d).sc k := by
  unfold W Fwd.last
  dsimp only
  blk_ext! [iblk, V, idx t]

theorem sh_eq : iblk m d 1 t (ix2 3 k) = (W m d).sh k := by
  unfold W Fwd.last
  dsimp only
  blk_ext! [iblk, V, idx t]

theorem nw_eq : iblk m d 2 t (ix2 1 k) = (W m d).nw k := by
  unfold W Fwd.last
  dsimp only
  blk_ext! [iblk, V, idx t]

theorem wg_eq : iblk m d 3 t (ix2 k l) = (W m d).wg k l := by
  unfold W Fwd.last
  dsimp only
  blk_ext! [iblk, V, idx t]

theorem wu_eq : iblk m d 4 t (ix2 k l) = (W m d).wu k l := by
  unfold W Fwd.last
  dsimp only
  blk_ext! [iblk, V, idx t]

theorem cg_eq (i : Fin 3) : iblk m d 5 t (ix2 (⟨i, by omega⟩ : Fin 8) l) = (W m d).cg i l := by
  unfold W Fwd.last
  dsimp only
  blk_ext! [iblk, V, idx t]

theorem cu_eq (i : Fin 3) : iblk m d 6 t (ix2 (⟨i, by omega⟩ : Fin 8) l) = (W m d).cu i l := by
  unfold W Fwd.last
  dsimp only
  blk_ext! [iblk, V, idx t]

theorem wd_eq : iblk m d 7 t (ix2 l k) = (W m d).wd l k := by
  unfold W Fwd.last
  dsimp only
  blk_ext! [iblk, V, idx t]

theorem d0_eq : iblk m d 8 t (ix2 r k) = d0 m d (Fwd.at512 t.val (lt16 t) r) k := by
  unfold d0 Fwd.at512
  blk_ext! [iblk, V, idx t]

theorem gt_eq : iblk m d 1 t (ix2 5 k) = gt m d k := by
  unfold gt
  blk_ext! [iblk, V, idx t]

theorem h_at : hBlk (iblk m d 0 t) (iblk m d 1 t) (iblk m d 2 t) r k = (W m d).h (Fwd.at512 t.val (lt16 t) r) k := by
  unfold hBlk Fwd.h
  simp only [x_eq, nw_eq, sc_eq, sh_eq]

theorem g_at : g (iblk m d 0 t) (iblk m d 1 t) (iblk m d 2 t) (iblk m d 3 t) (ix2 r l)
    = (W m d).g (Fwd.at512 t.val (lt16 t) r) l := by
  rw [g_val]
  exact Finset.sum_congr rfl fun k _ => by rw [h_at, wg_eq]

theorem u_at : u (iblk m d 0 t) (iblk m d 1 t) (iblk m d 2 t) (iblk m d 4 t) (ix2 r l)
    = (W m d).u (Fwd.at512 t.val (lt16 t) r) l := by
  rw [u_val]
  exact Finset.sum_congr rfl fun k _ => by rw [h_at, wu_eq]

end Inputs

/-- Every point finds the eight rows before its block carried. -/
theorem found : ∀ (n : ℕ) (h : n < cfg0.N), ∃ s0 s1, outsAt0 m d n h = resAt m d ⟨n, h⟩ s0 s1
    ∧ Fwd.Carry (W m d).g n (rows s0) ∧ Fwd.Carry (W m d).u n (rows s1)
  | 0, h => ⟨_, _, first m d ⟨0, h⟩ rfl, Fwd.carry_zero fun k l => by unfold rows; pointwise [k0_pay8],
      Fwd.carry_zero fun k l => by unfold rows; pointwise [k0_pay9]⟩
  | n + 1, h => by
    obtain ⟨s0, s1, e, _, _⟩ := found n (Nat.lt_of_succ_lt h)
    have hN := lt16 ⟨n, Nat.lt_of_succ_lt h⟩
    refine ⟨_, _, later m d ⟨n + 1, h⟩ (by have := lt16 ⟨n + 1, h⟩; dsimp only at this ⊢; omega) _ _ rfl rfl, ?_, ?_⟩
    · refine Fwd.carry_succ hN (fun r l => g_at m d ⟨n, Nat.lt_of_succ_lt h⟩ r l) fun k l => ?_
      show (outsAt0 m d n _).2.2.2.2.2.2.2.1 (ix2 k l) = _
      rw [e]
      unfold resAt res
      dsimp only
      pointwise [k0_pay1]
    · refine Fwd.carry_succ hN (fun r l => u_at m d ⟨n, Nat.lt_of_succ_lt h⟩ r l) fun k l => ?_
      show (outsAt0 m d n _).2.2.2.2.2.2.2.2 (ix2 k l) = _
      rw [e]
      unfold resAt res
      dsimp only
      pointwise [k0_pay2]

section Point

variable (t : Fin cfg0.N) {s0 s1 : Vec Ideal S8x1408 .f32} (r : Fin 512) (l : Fin 1408)

theorem gc_at (h0 : Fwd.Carry (W m d).g t.val (rows s0)) :
    conv (g (iblk m d 0 t) (iblk m d 1 t) (iblk m d 2 t) (iblk m d 3 t)) s0 (iblk m d 5 t) r l
      = (W m d).gc (Fwd.at512 t.val (lt16 t) r) l := by
  unfold conv
  rw [Fwd.convBlk_eq (lt16 t) (g_at m d t) h0]
  simp only [cg_eq]
  rfl

theorem uc_at (h1 : Fwd.Carry (W m d).u t.val (rows s1)) :
    conv (u (iblk m d 0 t) (iblk m d 1 t) (iblk m d 2 t) (iblk m d 4 t)) s1 (iblk m d 6 t) r l
      = (W m d).uc (Fwd.at512 t.val (lt16 t) r) l := by
  unfold conv
  rw [Fwd.convBlk_eq (lt16 t) (u_at m d t) h1]
  simp only [cu_eq]
  rfl

theorem f_at (h0 : Fwd.Carry (W m d).g t.val (rows s0)) (h1 : Fwd.Carry (W m d).u t.val (rows s1)) :
    fBlk (iblk m d 0 t) (iblk m d 1 t) (iblk m d 2 t) (iblk m d 3 t) (iblk m d 4 t) (iblk m d 5 t) (iblk m d 6 t) s0 s1 r l
      = (W m d).f (Fwd.at512 t.val (lt16 t) r) l := by
  unfold fBlk
  rw [gc_at m d t r l h0, uc_at m d t r l h1]
  rfl

/-- What point `t` leaves in its seven result blocks. -/
structure Left (o : Vec Ideal S512x1408 .bf16 × Vec Ideal S512x1408 .bf16
    × Vec Ideal S512x1408 .bf16 × Vec Ideal S512x1408 .bf16 × Vec Ideal S512x1408 .bf16 × Vec Ideal S512x1024 .f32
    × Vec Ideal S512x1024 .f32 × Vec Ideal S8x1408 .f32 × Vec Ideal S8x1408 .f32) : Prop where
  g r l : o.1 (ix2 r l) = (W m d).g (Fwd.at512 t.val (lt16 t) r) l
  u r l : o.2.1 (ix2 r l) = (W m d).u (Fwd.at512 t.val (lt16 t) r) l
  gc r l : o.2.2.1 (ix2 r l) = (W m d).gc (Fwd.at512 t.val (lt16 t) r) l
  uc r l : o.2.2.2.1 (ix2 r l) = (W m d).uc (Fwd.at512 t.val (lt16 t) r) l
  f r l : o.2.2.2.2.1 (ix2 r l) = (W m d).f (Fwd.at512 t.val (lt16 t) r) l
  dd r k : o.2.2.2.2.2.1 (ix2 r k)
    = d0 m d (Fwd.at512 t.val (lt16 t) r) k + (W m d).d (Fwd.at512 t.val (lt16 t) r) k
  x r k : o.2.2.2.2.2.2.1 (ix2 r k) = (W m d).x (Fwd.at512 t.val (lt16 t) r) k
    + gt m d k * (d0 m d (Fwd.at512 t.val (lt16 t) r) k + (W m d).d (Fwd.at512 t.val (lt16 t) r) k)

theorem left : Left m d t (outsAt0 m d t.val t.isLt) := by
  obtain ⟨s0, s1, e, h0, h1⟩ := found m d t.val t.isLt
  rw [e]
  unfold resAt
  have hd (r : Fin 512) (k : Fin 1024) : (∑ l, fBlk (iblk m d 0 t) (iblk m d 1 t) (iblk m d 2 t) (iblk m d 3 t)
      (iblk m d 4 t) (iblk m d 5 t) (iblk m d 6 t) s0 s1 r l * iblk m d 7 t (ix2 l k) : EReal)
      = (W m d).d (Fwd.at512 t.val (lt16 t) r) k :=
    Finset.sum_congr rfl fun l _ => by rw [f_at m d t r l h0 h1, wd_eq]
  refine ⟨fun r l => ?_, fun r l => ?_, fun r l => ?_, fun r l => ?_,
    fun r l => (f_val ..).trans (f_at m d t r l h0 h1), fun r k => (d_val ..).trans ?_, fun r k => (x_val ..).trans ?_⟩
  · exact g_at m d t r l
  · exact u_at m d t r l
  · exact (gc_val ..).trans (gc_at m d t r l h0)
  · exact (uc_val ..).trans (uc_at m d t r l h1)
  · rw [hd, d0_eq]
  · rw [hd, d0_eq, gt_eq, x_eq]

end Point

theorem idxOut : ∀ t : Fin cfg0.N, win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

/-- Every row lies in the block of some point. -/
theorem exists_row (R : Fin 8192) : ∃ (t : Fin cfg0.N) (r : Fin 512), Fwd.at512 t.val (lt16 t) r = R := by
  have hN : cfg0.N = 16 := N_0
  have hR := R.isLt
  exact ⟨⟨R.val / 512, by omega⟩, ⟨R.val % 512, by omega⟩, Fin.ext (by show 512 * (R.val / 512) + R.val % 512 = R.val; omega)⟩

theorem arr9 (R : Fin 8192) (l : Fin 1408) : (dats m 0 d).arrAt 9 cfg0.N (ix2 R l) = (W m d).g R l := by
  obtain ⟨t, r, rfl⟩ := exists_row R
  refine Eq.trans ?_ ((congrFun ((blocks9 m d t (flush0_9 t)).trans (flushed9 m d t)) (ix2 r l)).trans ((left m d t).g r l))
  rw [View.read_apply]
  unfold Fwd.at512
  blk_ext [idxOut t]

theorem arr10 (R : Fin 8192) (l : Fin 1408) : (dats m 0 d).arrAt 10 cfg0.N (ix2 R l) = (W m d).u R l := by
  obtain ⟨t, r, rfl⟩ := exists_row R
  refine Eq.trans ?_ ((congrFun ((blocks10 m d t (flush0_10 t)).trans (flushed10 m d t)) (ix2 r l)).trans ((left m d t).u r l))
  rw [View.read_apply]
  unfold Fwd.at512
  blk_ext [idxOut t]

theorem arr11 (R : Fin 8192) (l : Fin 1408) : (dats m 0 d).arrAt 11 cfg0.N (ix2 R l) = (W m d).gc R l := by
  obtain ⟨t, r, rfl⟩ := exists_row R
  refine Eq.trans ?_ ((congrFun ((blocks11 m d t (flush0_11 t)).trans (flushed11 m d t)) (ix2 r l)).trans ((left m d t).gc r l))
  rw [View.read_apply]
  unfold Fwd.at512
  blk_ext [idxOut t]

theorem arr12 (R : Fin 8192) (l : Fin 1408) : (dats m 0 d).arrAt 12 cfg0.N (ix2 R l) = (W m d).uc R l := by
  obtain ⟨t, r, rfl⟩ := exists_row R
  refine Eq.trans ?_ ((congrFun ((blocks12 m d t (flush0_12 t)).trans (flushed12 m d t)) (ix2 r l)).trans ((left m d t).uc r l))
  rw [View.read_apply]
  unfold Fwd.at512
  blk_ext [idxOut t]

theorem arr13 (R : Fin 8192) (l : Fin 1408) : (dats m 0 d).arrAt 13 cfg0.N (ix2 R l) = (W m d).f R l := by
  obtain ⟨t, r, rfl⟩ := exists_row R
  refine Eq.trans ?_ ((congrFun ((blocks13 m d t (flush0_13 t)).trans (flushed13 m d t)) (ix2 r l)).trans ((left m d t).f r l))
  rw [View.read_apply]
  unfold Fwd.at512
  blk_ext [idxOut t]

theorem arr14 (R : Fin 8192) (k : Fin 1024) : (dats m 0 d).arrAt 14 cfg0.N (ix2 R k) = d0 m d R k + (W m d).d R k := by
  obtain ⟨t, r, rfl⟩ := exists_row R
  refine Eq.trans ?_ ((congrFun ((blocks14 m d t (flush0_14 t)).trans (flushed14 m d t)) (ix2 r k)).trans ((left m d t).dd r k))
  rw [View.read_apply]
  unfold Fwd.at512
  blk_ext [idxOut t]

theorem arr15 (R : Fin 8192) (k : Fin 1024) : (dats m 0 d).arrAt 15 cfg0.N (ix2 R k) =
    (W m d).x R k + gt m d k * (d0 m d R k + (W m d).d R k) := by
  obtain ⟨t, r, rfl⟩ := exists_row R
  refine Eq.trans ?_ ((congrFun ((blocks15 m d t (flush0_15 t)).trans (flushed15 m d t)) (ix2 r k)).trans ((left m d t).x r k))
  rw [View.read_apply]
  unfold Fwd.at512
  blk_ext [idxOut t]

end TrainStep.FwdLast
-- ==== Proof.Fwd.LastRef.lean ====
/-
  The last half's forward reference, read at a row and a column.
-/
module

public import proofs.«01_k».proof.Proof.Fwd.Spec
public import proofs.«01_k».proof.Proof.Gen.Reference7Ideal.Read

@[expose] public section

set_option maxRecDepth 16384

open Idealize.ShloMosaic
open Cert.Reference7Ideal Cert.Reference7Ideal.Gen Cert.Reference7Ideal.Read

namespace TrainStep.FwdLastRef

variable (x0 : Vec Ideal S8192x1024 .f32) (x1 x2 : Vec Ideal S8x1024 .f32) (x3 : Vec Ideal S1024x5632 .f32)
  (x4 : Vec Ideal S8x5632 .f32) (x5 : Vec Ideal S2816x1024 .f32) (x6 : Vec Ideal S8192x1024 .f32) (R : Fin 8192) (k : Fin 1024) (l : Fin 1408)

/-- The last half's data, read off the program's six arguments. -/
noncomputable abbrev W : Fwd := Fwd.last x0 x1 x2 x3 x4 x5

theorem h : val_main_v26 (F := Ideal) x0 x1 x2 (ix2 R k) = (W x0 x1 x2 x3 x4 x5).h R k := by
  pointwise [val_main_v26, val_main_v25, val_main_v24, val_main_v23, val_main_v22, val_main_v21, val_main_v20, val_main_v19,
    val_main_v18, val_main_v17, val_main_cst_2, val_main_v16, val_main_v15, val_main_v14, val_main_v13, val_main_v12,
    val_main_v11, val_main_v10, val_main_v9, val_main_v8, val_main_v7, val_main_cst_1, val_main_v6, val_main_v5,
    val_main_cst_0, val_main_v4, val_main_v3, val_main_cst, val_main_v2, val_main_v1, val_main_v0]
  rfl

theorem g : val_main_v28 (F := Ideal) x0 x1 x2 x3 (ix2 R l) = (W x0 x1 x2 x3 x4 x5).g R l := by
  pointwise [val_main_v28, val_main_v27]
  simp only [h x0 x1 x2 x3 x4 x5]
  rfl

theorem u : val_main_v30 (F := Ideal) x0 x1 x2 x3 (ix2 R l) = (W x0 x1 x2 x3 x4 x5).u R l := by
  pointwise [val_main_v30, val_main_v29]
  simp only [h x0 x1 x2 x3 x4 x5]
  rfl

theorem gc : val_main_v54 (F := Ideal) x0 x1 x2 x3 x4 (ix2 R l) = (W x0 x1 x2 x3 x4 x5).gc R l := by
  pointwise [val_main_v54, val_main_v53, val_main_v52, val_main_v51, val_main_v50, val_main_v49, val_main_v48, val_main_cst_4,
    val_main_v47, val_main_v46, val_main_v45, val_main_v44, val_main_v43, val_main_v42, val_main_v41, val_main_v40,
    val_main_v39, val_main_cst_3, val_main_v38, val_main_v37, val_main_v36, val_main_v35, val_main_v34, val_main_v33,
    val_main_v32, val_main_v31]
  simp only [g x0 x1 x2 x3 x4 x5]
  unfold Fwd.gc Half.conv
  simp only [Half.down_eq]
  rfl

theorem uc : val_main_v78 (F := Ideal) x0 x1 x2 x3 x4 (ix2 R l) = (W x0 x1 x2 x3 x4 x5).uc R l := by
  pointwise [val_main_v78, val_main_v77, val_main_v76, val_main_v75, val_main_v74, val_main_v73, val_main_v72, val_main_cst_6,
    val_main_v71, val_main_v70, val_main_v69, val_main_v68, val_main_v67, val_main_v66, val_main_v65, val_main_v64,
    val_main_v63, val_main_cst_5, val_main_v62, val_main_v61, val_main_v60, val_main_v59, val_main_v58, val_main_v57,
    val_main_v56, val_main_v55]
  simp only [u x0 x1 x2 x3 x4 x5]
  unfold Fwd.uc Half.conv
  simp only [Half.down_eq]
  rfl

theorem f : val_main_v80 (F := Ideal) x0 x1 x2 x3 x4 (ix2 R l) = (W x0 x1 x2 x3 x4 x5).f R l := by
  pointwise [val_main_v80, val_main_v79, val_main_call0_v5, val_main_call0_v4, val_main_call0_v3, val_main_call0_v2,
    val_main_call0_v1, val_main_call0_v0, val_main_call0_cst, val_main_call0_cst_0]
  simp only [gc x0 x1 x2 x3 x4 x5, uc x0 x1 x2 x3 x4 x5]
  rfl

theorem d : val_main_v83 (F := Ideal) x0 x1 x2 x3 x4 x5 x6 (ix2 R k) = x6 (ix2 R k) + (W x0 x1 x2 x3 x4 x5).d R k := by
  pointwise [val_main_v83, val_main_v82, val_main_v81]
  simp only [f x0 x1 x2 x3 x4 x5]
  rfl

theorem x : val_main_v94 (F := Ideal) x0 x1 x2 x3 x4 x5 x6 (ix2 R k)
    = (W x0 x1 x2 x3 x4 x5).x R k + x1 (ix2 5 k) * (x6 (ix2 R k) + (W x0 x1 x2 x3 x4 x5).d R k) := by
  pointwise [val_main_v94, val_main_v93, val_main_v92, val_main_v91, val_main_v90, val_main_v89]
  rw [d]
  rfl

end TrainStep.FwdLastRef
-- ==== Proof.Fwd.LastClaim.lean ====
/-
  The last half's forward call: on every device the kernel's seven results are the reference's.
-/
module

public import proofs.«01_k».proof.Proof.Fwd.Last
public import proofs.«01_k».proof.Proof.Fwd.LastRef
public import proofs.«01_k».proof.Proof.Gen.Reference7Ideal.Run
public import proofs.«01_k».proof.Defs

@[expose] public section

set_option maxRecDepth 16384

open Idealize.ShloMosaic Idealize.ShloMosaic.StableHlo Idealize.SL.Sem

namespace TrainStep.FwdLast

attribute [local instance] Cert.Kernel7Ideal.Gen.facts Cert.Reference7Ideal.Gen.facts

section Reference

open Cert.Reference7Ideal Cert.Reference7Ideal.Read

/-- The reference's results as functions of its arguments. -/
theorem run (m : (ℓ : Loc nD τ sig) → Buf (Elt Ideal) ℓ) (ρ : Dev nD → PrngReg) :
    let a := fun (c : Dev nD) b => m ((c.tc : Thread nD τ).loc b)
    θ_run defs (onTc (τ := τ) (main (F := Ideal))) ⟨m, fun _ => 0, ρ⟩ fun r => ∀ c : Dev nD,
      r.2.mem ((c.tc : Thread nD τ).loc main_v84) = val_main_v84 (F := Ideal) (a c main_arg0) (a c main_arg1) (a c main_arg2) (a c main_arg3)
      ∧ r.2.mem ((c.tc : Thread nD τ).loc main_v85) = val_main_v85 (F := Ideal) (a c main_arg0) (a c main_arg1) (a c main_arg2) (a c main_arg3)
      ∧ r.2.mem ((c.tc : Thread nD τ).loc main_v86) = val_main_v86 (F := Ideal) (a c main_arg0) (a c main_arg1) (a c main_arg2) (a c main_arg3) (a c main_arg4)
      ∧ r.2.mem ((c.tc : Thread nD τ).loc main_v87) = val_main_v87 (F := Ideal) (a c main_arg0) (a c main_arg1) (a c main_arg2) (a c main_arg3) (a c main_arg4)
      ∧ r.2.mem ((c.tc : Thread nD τ).loc main_v88) = val_main_v88 (F := Ideal) (a c main_arg0) (a c main_arg1) (a c main_arg2) (a c main_arg3) (a c main_arg4)
      ∧ r.2.mem ((c.tc : Thread nD τ).loc main_v83) = val_main_v83 (F := Ideal) (a c main_arg0) (a c main_arg1) (a c main_arg2) (a c main_arg3) (a c main_arg4) (a c main_arg5) (a c main_arg6)
      ∧ r.2.mem ((c.tc : Thread nD τ).loc main_v94) = val_main_v94 (F := Ideal) (a c main_arg0) (a c main_arg1) (a c main_arg2) (a c main_arg3) (a c main_arg4) (a c main_arg5) (a c main_arg6)
      ∧ r.2.mem ((c.tc : Thread nD τ).loc main_arg0) = a c main_arg0
      ∧ r.2.mem ((c.tc : Thread nD τ).loc main_arg1) = a c main_arg1
      ∧ r.2.mem ((c.tc : Thread nD τ).loc main_arg2) = a c main_arg2
      ∧ r.2.mem ((c.tc : Thread nD τ).loc main_arg3) = a c main_arg3
      ∧ r.2.mem ((c.tc : Thread nD τ).loc main_arg4) = a c main_arg4
      ∧ r.2.mem ((c.tc : Thread nD τ).loc main_arg5) = a c main_arg5
      ∧ r.2.mem ((c.tc : Thread nD τ).loc main_arg6) = a c main_arg6 :=
  (θ_run defs _ _).mono (fun r h c => by
    obtain ⟨h0, h1, h2, h3, h4, h5, h6, hargs⟩ := h c
    exact ⟨h0.trans (val_main_v84_eq (F := Ideal) _ _ _ _),
      h1.trans (val_main_v85_eq (F := Ideal) _ _ _ _),
      h2.trans (val_main_v86_eq (F := Ideal) _ _),
      h3.trans (val_main_v87_eq (F := Ideal) _ _),
      h4.trans (val_main_v88_eq (F := Ideal) _ _),
      h5.trans (val_main_v83_eq (F := Ideal) _ _),
      h6.trans (val_main_v94_eq (F := Ideal) _ _), hargs⟩)
    (Cert.Reference7Ideal.Value.run m ρ)

end Reference

theorem algebraic : Cert.algebraic_Kernel7Ideal_Reference7Ideal := by
  intro m ρ m' ρ' _ hagree
  refine ⟨fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    fun c => (Cert.Kernel7Ideal.Gen.dats m 0 c).arrAt 12 Cert.Kernel7Ideal.cfg0.N,
    fun c => (Cert.Kernel7Ideal.Gen.dats m 0 c).arrAt 13 Cert.Kernel7Ideal.cfg0.N,
    fun c => (Cert.Kernel7Ideal.Gen.dats m 0 c).arrAt 14 Cert.Kernel7Ideal.cfg0.N,
    fun c => (Cert.Kernel7Ideal.Gen.dats m 0 c).arrAt 15 Cert.Kernel7Ideal.cfg0.N,
    Cert.Kernel7Ideal.Value.run_blocks m ρ, ?_⟩
  refine (θ_run _ _ _).mono (fun r h c => ?_) (run m' ρ')
  obtain ⟨e0, e1, e2, e3, e4, e5, e6⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  all_goals simp only [e0, e1, e2, e3, e4, e5, e6]
  · exact ext2 fun R k => (FwdLastRef.g _ _ _ _ _ _ R k).trans (arr9 m c R k).symm
  · exact ext2 fun R k => (FwdLastRef.u _ _ _ _ _ _ R k).trans (arr10 m c R k).symm
  · exact ext2 fun R k => (FwdLastRef.gc _ _ _ _ _ _ R k).trans (arr11 m c R k).symm
  · exact ext2 fun R k => (FwdLastRef.uc _ _ _ _ _ _ R k).trans (arr12 m c R k).symm
  · exact ext2 fun R k => (FwdLastRef.f _ _ _ _ _ _ R k).trans (arr13 m c R k).symm
  · exact ext2 fun R k => (FwdLastRef.d _ _ _ _ _ _ _ R k).trans (arr14 m c R k).symm
  · exact ext2 fun R k => (FwdLastRef.x _ _ _ _ _ _ _ R k).trans (arr15 m c R k).symm

end TrainStep.FwdLast
-- ==== Proof.Adam.Spec.lean ====
/-
  The AdamW step of one entry of a weight: from the entry `w`, its gradient `g` and its two moments `m` and `v`. The
  constants are the numbers the f32 words stand for: the decay rates and what they leave of 1, the two corrections of the
  first step, the epsilon, the weight decay and the learning rate.
-/
module

public import Idealize.ShloMosaic.Lib.Pointwise

@[expose] public section

open Idealize.ShloMosaic

namespace TrainStep.Adam

/-- The number an f32 word stands for. -/
noncomputable abbrev num (w : BitVec 32) : EReal := Ideal.ofBits FTy.f32 w

/-- The first moment: 0.9 of the old one and 0.1 of the gradient. -/
noncomputable def first (g m : EReal) : EReal := num 0x3F666666#32 * m + num 0x3DCCCCCD#32 * g

/-- The second moment: 0.999 of the old one and 0.001 of the gradient's square. -/
noncomputable def second (g v : EReal) : EReal := num 0x3F7FBE77#32 * v + num 0x3A83126F#32 * (g * g)

/-- What is added to the weight: the corrected first moment over the root of the corrected second, plus the decay of the
weight, times minus the learning rate. -/
noncomputable def delta (w g m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

/-- Row `R` of a stack of matrices of `n` rows laid one under the other. -/
def row {n N k : ℕ} {α : Type} (x : (⟨3, ![4, n, k]⟩ : Shape).Idx → α) (h : 4 * n = N) (R : Fin N) (c : Fin k) : α :=
  x (ix3 ⟨R.val / n, by have := R.isLt; exact Nat.div_lt_of_lt_mul (by omega)⟩
    ⟨R.val % n, Nat.mod_lt _ (by have := R.isLt; omega)⟩ c)

end TrainStep.Adam
-- ==== Proof.Adam.AdaW.lean ====
/-
  The AdamW step of the modulation weights `ada_w`: the kernel's three result arrays, the reference's, and their equality on every
  device.
-/
module

public import proofs.«01_k».proof.Defs
public import proofs.«01_k».proof.Proof.Adam.Spec
public import proofs.«01_k».proof.Proof.Ffn.Spec
public import proofs.«01_k».proof.Proof.Gen.Kernel9Ideal.Value
public import proofs.«01_k».proof.Proof.Gen.Reference9Ideal.Run
public import proofs.«01_k».proof.Proof.Gen.Reference9Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.AdaW

attribute [local instance] Cert.Kernel9Ideal.Gen.facts Cert.Reference9Ideal.Gen.facts

/-- The three results at row `R` and column `k` of the stacked matrices. -/
noncomputable def delta (w g m v : Vec Ideal ⟨3, ![4, 1024, 768]⟩ .f32) (R : Fin 4096) (k : Fin 768) : EReal :=
  Adam.delta (Adam.row w rfl R k) (Adam.row g rfl R k) (Adam.row m rfl R k) (Adam.row v rfl R k)
noncomputable def first (g m : Vec Ideal ⟨3, ![4, 1024, 768]⟩ .f32) (R : Fin 4096) (k : Fin 768) : EReal :=
  Adam.first (Adam.row g rfl R k) (Adam.row m rfl R k)
noncomputable def second (g v : Vec Ideal ⟨3, ![4, 1024, 768]⟩ .f32) (R : Fin 4096) (k : Fin 768) : EReal :=
  Adam.second (Adam.row g rfl R k) (Adam.row v rfl R k)

section Kernel

open Cert.Kernel9Ideal Cert.Kernel9Ideal.Gen Cert.Kernel9Ideal.Value

/-- A block's three results, entry by entry. -/
theorem out (x0 x1 x2 x3 : Vec Ideal S512x768 .f32) (r : Fin 512) (k : Fin 768) :
    out0_4 x0 x1 x2 x3 (ix2 r k) = Adam.delta (x0 (ix2 r k)) (x1 (ix2 r k)) (x2 (ix2 r k)) (x3 (ix2 r k))
    ∧ out0_5 x0 x1 x2 x3 (ix2 r k) = Adam.first (x1 (ix2 r k)) (x2 (ix2 r k))
    ∧ out0_6 x0 x1 x2 x3 (ix2 r k) = Adam.second (x1 (ix2 r k)) (x3 (ix2 r k)) := by
  have e : ∀ y : S512x768.Idx, (y 0).val = r.val → (y 1).val = k.val → y = ix2 r k := fun y h0 h1 =>
    (eq_ix2 y).trans (congrArg₂ ix2 (Fin.ext h0) (Fin.ext h1))
  have hz : (![0, 0] : Fin 2 → ℕ) = fun _ => 0 := by decide
  have l : ∀ x : Vec Ideal S512x768 .f32, View.ld x r0_0 (ix2 r k) = x (ix2 r k) := fun x =>
    congrFun (View.ld_unit_zero (S := S512x768) hz _ x) _
  rw [← l x0, ← l x1, ← l x2, ← l x3]
  refine ⟨(canon4_eq _ _ _ _ _).trans ?_, (canon5_eq _ _ _).trans ?_, (canon6_eq _ _ _).trans ?_⟩
  · simp only [E4, e (ix4_0 (ix2 r k)) rfl rfl, e (ix4_1 (ix2 r k)) rfl rfl, e (ix4_2 (ix2 r k)) rfl rfl,
      e (ix4_3 (ix2 r k)) rfl rfl, e (ix4_4 (ix2 r k)) rfl rfl, e (ix4_5 (ix2 r k)) rfl rfl]
    rfl
  · simp only [E5, e (ix5_0 (ix2 r k)) rfl rfl, e (ix5_1 (ix2 r k)) rfl rfl]
    rfl
  · simp only [E6, e (ix6_0 (ix2 r k)) rfl rfl, e (ix6_1 (ix2 r k)) rfl rfl, e (ix6_2 (ix2 r k)) rfl rfl]
    rfl

variable (m : (ℓ : Loc nD τ sig) → Buf (Elt Ideal) ℓ) (d : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 512) : 512 * t.val + r.val < 4096 := by
  have := t.isLt
  have hN : cfg0.N = 8 := N_0
  omega

/-- The weights, the gradient and the moments at the rows of block `t`. -/
theorem inputs (t : Fin cfg0.N) (r : Fin 512) (k : Fin 768) :
    iblk m d 0 t (ix2 r k) = Adam.row (m ((d : Thread nD τ).loc main_arg0)) rfl ⟨512 * t.val + r.val, row_lt t r⟩ k
    ∧ iblk m d 1 t (ix2 r k) = Adam.row (m ((d : Thread nD τ).loc main_arg1)) rfl ⟨512 * t.val + r.val, row_lt t r⟩ k
    ∧ iblk m d 2 t (ix2 r k) = Adam.row (m ((d : Thread nD τ).loc main_arg2)) rfl ⟨512 * t.val + r.val, row_lt t r⟩ k
    ∧ iblk m d 3 t (ix2 r k) = Adam.row (m ((d : Thread nD τ).loc main_arg3)) rfl ⟨512 * t.val + r.val, row_lt t r⟩ k := by
  unfold Adam.row
  refine ⟨?_, ?_, ?_, ?_⟩ <;> blk_ext! [iblk, V, idx t]

theorem exists_row (R : Fin 4096) : ∃ (t : Fin cfg0.N) (r : Fin 512), (⟨512 * t.val + r.val, row_lt t r⟩ : Fin 4096) = R := by
  have hN : cfg0.N = 8 := N_0
  have hR := R.isLt
  exact ⟨⟨R.val / 512, by omega⟩, ⟨R.val % 512, by omega⟩, Fin.ext (by show 512 * (R.val / 512) + R.val % 512 = R.val; omega)⟩

/-- The kernel's three result arrays. -/
theorem arrs (R : Fin 4096) (k : Fin 768) :
    let a := fun b => m ((d : Thread nD τ).loc b)
    (dats m 0 d).arrAt 4 cfg0.N (ix2 R k) = delta (a main_arg0) (a main_arg1) (a main_arg2) (a main_arg3) R k
    ∧ (dats m 0 d).arrAt 5 cfg0.N (ix2 R k) = first (a main_arg1) (a main_arg2) R k
    ∧ (dats m 0 d).arrAt 6 cfg0.N (ix2 R k) = second (a main_arg1) (a main_arg3) R k := by
  obtain ⟨t, r, rfl⟩ := exists_row R
  obtain ⟨o4, o5, o6⟩ := out (iblk m d 0 t) (iblk m d 1 t) (iblk m d 2 t) (iblk m d 3 t) r k
  obtain ⟨i0, i1, i2, i3⟩ := inputs m d t r k
  rw [i0, i1, i2, i3] at o4
  rw [i1, i2] at o5
  rw [i1, i3] at o6
  refine ⟨Eq.trans ?_ ((congrFun ((blocks4 m d t (flush0_4 t)).trans (flushed4 m d t)) (ix2 r k)).trans o4),
    Eq.trans ?_ ((congrFun ((blocks5 m d t (flush0_5 t)).trans (flushed5 m d t)) (ix2 r k)).trans o5),
    Eq.trans ?_ ((congrFun ((blocks6 m d t (flush0_6 t)).trans (flushed6 m d t)) (ix2 r k)).trans o6)⟩
  all_goals
    rw [View.read_apply]
    blk_ext [idx t]

end Kernel

section Reference

open Cert.Reference9Ideal Cert.Reference9Ideal.Read

/-- The reference's three results. -/
theorem ref_delta (w g m v : Vec Ideal S4x1024x768 .f32) (R : Fin 4096) (k : Fin 768) :
    val_main_v24 (F := Ideal) w g m v (ix2 R k) = delta w g m v R k := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7]
  rfl

theorem ref_first (g m : Vec Ideal S4x1024x768 .f32) (R : Fin 4096) (k : Fin 768) :
    val_main_v25 (F := Ideal) g m (ix2 R k) = first g m R k := by
  pointwise [val_main_v25, val_main_v4, val_main_v3, val_main_v2, val_main_v1, val_main_v0, val_main_cst, val_main_cst_0]
  rfl

theorem ref_second (g v : Vec Ideal S4x1024x768 .f32) (R : Fin 4096) (k : Fin 768) :
    val_main_v26 (F := Ideal) g v (ix2 R k) = second g v R k := by
  pointwise [val_main_v26, val_main_v10, val_main_v9, val_main_v8, val_main_v7, val_main_v6, val_main_v5, val_main_cst_1,
    val_main_cst_2]
  rfl

end Reference

theorem algebraic : Cert.algebraic_Kernel9Ideal_Reference9Ideal := by
  intro m ρ m' ρ' _ hagree
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N,
    fun c => (Cert.Kernel9Ideal.Gen.dats m 0 c).arrAt 6 Cert.Kernel9Ideal.cfg0.N,
    Cert.Kernel9Ideal.Value.run_blocks m ρ, ?_⟩
  refine (θ_run _ _ _).mono (fun r h c => ?_) (Cert.Reference9Ideal.Value.run m' ρ')
  obtain ⟨e0, e1, e2, e3⟩ := hagree c
  obtain ⟨h0, h1, h2, hargs⟩ := h c
  refine ⟨(h0.trans (Cert.Reference9Ideal.Read.val_main_v24_eq (F := Ideal) _ _ _ _)).trans ?_,
    (h1.trans (Cert.Reference9Ideal.Read.val_main_v25_eq (F := Ideal) _ _)).trans ?_,
    (h2.trans (Cert.Reference9Ideal.Read.val_main_v26_eq (F := Ideal) _ _)).trans ?_, hargs⟩
  all_goals simp only [e0, e1, e2, e3]
  · exact ext2 fun R k => (ref_delta _ _ _ _ R k).trans (arrs m c R k).1.symm
  · exact ext2 fun R k => (ref_first _ _ R k).trans (arrs m c R k).2.1.symm
  · exact ext2 fun R k => (ref_second _ _ R k).trans (arrs m c R k).2.2.symm

end TrainStep.AdaW
-- ==== Proof.Adam.WIn.lean ====
/-
  The AdamW step of the input weights `w_in`: the kernel's three result arrays, the reference's, and their equality on every
  device.
-/
module

public import proofs.«01_k».proof.Defs
public import proofs.«01_k».proof.Proof.Adam.Spec
public import proofs.«01_k».proof.Proof.Ffn.Spec
public import proofs.«01_k».proof.Proof.Gen.Kernel10Ideal.Value
public import proofs.«01_k».proof.Proof.Gen.Reference10Ideal.Run
public import proofs.«01_k».proof.Proof.Gen.Reference10Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.WIn

attribute [local instance] Cert.Kernel10Ideal.Gen.facts Cert.Reference10Ideal.Gen.facts

/-- The three results at row `R` and column `k` of the stacked matrices. -/
noncomputable def delta (w g m v : Vec Ideal ⟨3, ![4, 1024, 449]⟩ .f32) (R : Fin 4096) (k : Fin 449) : EReal :=
  Adam.delta (Adam.row w rfl R k) (Adam.row g rfl R k) (Adam.row m rfl R k) (Adam.row v rfl R k)
noncomputable def first (g m : Vec Ideal ⟨3, ![4, 1024, 449]⟩ .f32) (R : Fin 4096) (k : Fin 449) : EReal :=
  Adam.first (Adam.row g rfl R k) (Adam.row m rfl R k)
noncomputable def second (g v : Vec Ideal ⟨3, ![4, 1024, 449]⟩ .f32) (R : Fin 4096) (k : Fin 449) : EReal :=
  Adam.second (Adam.row g rfl R k) (Adam.row v rfl R k)

section Kernel

open Cert.Kernel10Ideal Cert.Kernel10Ideal.Gen Cert.Kernel10Ideal.Value

/-- A block's three results, entry by entry. -/
theorem out (x0 x1 x2 x3 : Vec Ideal S512x449 .f32) (r : Fin 512) (k : Fin 449) :
    out0_4 x0 x1 x2 x3 (ix2 r k) = Adam.delta (x0 (ix2 r k)) (x1 (ix2 r k)) (x2 (ix2 r k)) (x3 (ix2 r k))
    ∧ out0_5 x0 x1 x2 x3 (ix2 r k) = Adam.first (x1 (ix2 r k)) (x2 (ix2 r k))
    ∧ out0_6 x0 x1 x2 x3 (ix2 r k) = Adam.second (x1 (ix2 r k)) (x3 (ix2 r k)) := by
  have e : ∀ y : S512x449.Idx, (y 0).val = r.val → (y 1).val = k.val → y = ix2 r k := fun y h0 h1 =>
    (eq_ix2 y).trans (congrArg₂ ix2 (Fin.ext h0) (Fin.ext h1))
  have hz : (![0, 0] : Fin 2 → ℕ) = fun _ => 0 := by decide
  have l : ∀ x : Vec Ideal S512x449 .f32, View.ld x r0_0 (ix2 r k) = x (ix2 r k) := fun x =>
    congrFun (View.ld_unit_zero (S := S512x449) hz _ x) _
  rw [← l x0, ← l x1, ← l x2, ← l x3]
  refine ⟨(canon4_eq _ _ _ _ _).trans ?_, (canon5_eq _ _ _).trans ?_, (canon6_eq _ _ _).trans ?_⟩
  · simp only [E4, e (ix4_0 (ix2 r k)) rfl rfl, e (ix4_1 (ix2 r k)) rfl rfl, e (ix4_2 (ix2 r k)) rfl rfl,
      e (ix4_3 (ix2 r k)) rfl rfl, e (ix4_4 (ix2 r k)) rfl rfl, e (ix4_5 (ix2 r k)) rfl rfl]
    rfl
  · simp only [E5, e (ix5_0 (ix2 r k)) rfl rfl, e (ix5_1 (ix2 r k)) rfl rfl]
    rfl
  · simp only [E6, e (ix6_0 (ix2 r k)) rfl rfl, e (ix6_1 (ix2 r k)) rfl rfl, e (ix6_2 (ix2 r k)) rfl rfl]
    rfl

variable (m : (ℓ : Loc nD τ sig) → Buf (Elt Ideal) ℓ) (d : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 512) : 512 * t.val + r.val < 4096 := by
  have := t.isLt
  have hN : cfg0.N = 8 := N_0
  omega

/-- The weights, the gradient and the moments at the rows of block `t`. -/
theorem inputs (t : Fin cfg0.N) (r : Fin 512) (k : Fin 449) :
    iblk m d 0 t (ix2 r k) = Adam.row (m ((d : Thread nD τ).loc main_arg0)) rfl ⟨512 * t.val + r.val, row_lt t r⟩ k
    ∧ iblk m d 1 t (ix2 r k) = Adam.row (m ((d : Thread nD τ).loc main_arg1)) rfl ⟨512 * t.val + r.val, row_lt t r⟩ k
    ∧ iblk m d 2 t (ix2 r k) = Adam.row (m ((d : Thread nD τ).loc main_arg2)) rfl ⟨512 * t.val + r.val, row_lt t r⟩ k
    ∧ iblk m d 3 t (ix2 r k) = Adam.row (m ((d : Thread nD τ).loc main_arg3)) rfl ⟨512 * t.val + r.val, row_lt t r⟩ k := by
  unfold Adam.row
  refine ⟨?_, ?_, ?_, ?_⟩ <;> blk_ext! [iblk, V, idx t]

theorem exists_row (R : Fin 4096) : ∃ (t : Fin cfg0.N) (r : Fin 512), (⟨512 * t.val + r.val, row_lt t r⟩ : Fin 4096) = R := by
  have hN : cfg0.N = 8 := N_0
  have hR := R.isLt
  exact ⟨⟨R.val / 512, by omega⟩, ⟨R.val % 512, by omega⟩, Fin.ext (by show 512 * (R.val / 512) + R.val % 512 = R.val; omega)⟩

/-- The kernel's three result arrays. -/
theorem arrs (R : Fin 4096) (k : Fin 449) :
    let a := fun b => m ((d : Thread nD τ).loc b)
    (dats m 0 d).arrAt 4 cfg0.N (ix2 R k) = delta (a main_arg0) (a main_arg1) (a main_arg2) (a main_arg3) R k
    ∧ (dats m 0 d).arrAt 5 cfg0.N (ix2 R k) = first (a main_arg1) (a main_arg2) R k
    ∧ (dats m 0 d).arrAt 6 cfg0.N (ix2 R k) = second (a main_arg1) (a main_arg3) R k := by
  obtain ⟨t, r, rfl⟩ := exists_row R
  obtain ⟨o4, o5, o6⟩ := out (iblk m d 0 t) (iblk m d 1 t) (iblk m d 2 t) (iblk m d 3 t) r k
  obtain ⟨i0, i1, i2, i3⟩ := inputs m d t r k
  rw [i0, i1, i2, i3] at o4
  rw [i1, i2] at o5
  rw [i1, i3] at o6
  refine ⟨Eq.trans ?_ ((congrFun ((blocks4 m d t (flush0_4 t)).trans (flushed4 m d t)) (ix2 r k)).trans o4),
    Eq.trans ?_ ((congrFun ((blocks5 m d t (flush0_5 t)).trans (flushed5 m d t)) (ix2 r k)).trans o5),
    Eq.trans ?_ ((congrFun ((blocks6 m d t (flush0_6 t)).trans (flushed6 m d t)) (ix2 r k)).trans o6)⟩
  all_goals
    rw [View.read_apply]
    blk_ext [idx t]

end Kernel

section Reference

open Cert.Reference10Ideal Cert.Reference10Ideal.Read

/-- The reference's three results. -/
theorem ref_delta (w g m v : Vec Ideal S4x1024x449 .f32) (R : Fin 4096) (k : Fin 449) :
    val_main_v24 (F := Ideal) w g m v (ix2 R k) = delta w g m v R k := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7]
  rfl

theorem ref_first (g m : Vec Ideal S4x1024x449 .f32) (R : Fin 4096) (k : Fin 449) :
    val_main_v25 (F := Ideal) g m (ix2 R k) = first g m R k := by
  pointwise [val_main_v25, val_main_v4, val_main_v3, val_main_v2, val_main_v1, val_main_v0, val_main_cst, val_main_cst_0]
  rfl

theorem ref_second (g v : Vec Ideal S4x1024x449 .f32) (R : Fin 4096) (k : Fin 449) :
    val_main_v26 (F := Ideal) g v (ix2 R k) = second g v R k := by
  pointwise [val_main_v26, val_main_v10, val_main_v9, val_main_v8, val_main_v7, val_main_v6, val_main_v5, val_main_cst_1,
    val_main_cst_2]
  rfl

end Reference

theorem algebraic : Cert.algebraic_Kernel10Ideal_Reference10Ideal := by
  intro m ρ m' ρ' _ hagree
  refine ⟨fun c => (Cert.Kernel10Ideal.Gen.dats m 0 c).arrAt 4 Cert.Kernel10Ideal.cfg0.N,
    fun c => (Cert.Kernel10Ideal.Gen.dats m 0 c).arrAt 5 Cert.Kernel10Ideal.cfg0.N,
    fun c => (Cert.Kernel10Ideal.Gen.dats m 0 c).arrAt 6 Cert.Kernel10Ideal.cfg0.N,
    Cert.Kernel10Ideal.Value.run_blocks m ρ, ?_⟩
  refine (θ_run _ _ _).mono (fun r h c => ?_) (Cert.Reference10Ideal.Value.run m' ρ')
  obtain ⟨e0, e1, e2, e3⟩ := hagree c
  obtain ⟨h0, h1, h2, hargs⟩ := h c
  refine ⟨(h0.trans (Cert.Reference10Ideal.Read.val_main_v24_eq (F := Ideal) _ _ _ _)).trans ?_,
    (h1.trans (Cert.Reference10Ideal.Read.val_main_v25_eq (F := Ideal) _ _)).trans ?_,
    (h2.trans (Cert.Reference10Ideal.Read.val_main_v26_eq (F := Ideal) _ _)).trans ?_, hargs⟩
  all_goals simp only [e0, e1, e2, e3]
  · exact ext2 fun R k => (ref_delta _ _ _ _ R k).trans (arrs m c R k).1.symm
  · exact ext2 fun R k => (ref_first _ _ R k).trans (arrs m c R k).2.1.symm
  · exact ext2 fun R k => (ref_second _ _ R k).trans (arrs m c R k).2.2.symm

end TrainStep.WIn
-- ==== Proof.Adam.WOut.lean ====
/-
  The AdamW step of the output weights `w_out`: the kernel's three result arrays, the reference's, and their equality on every
  device.
-/
module

public import proofs.«01_k».proof.Defs
public import proofs.«01_k».proof.Proof.Adam.Spec
public import proofs.«01_k».proof.Proof.Ffn.Spec
public import proofs.«01_k».proof.Proof.Gen.Kernel11Ideal.Value
public import proofs.«01_k».proof.Proof.Gen.Reference11Ideal.Run
public import proofs.«01_k».proof.Proof.Gen.Reference11Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.WOut

attribute [local instance] Cert.Kernel11Ideal.Gen.facts Cert.Reference11Ideal.Gen.facts

/-- The three results at row `R` and column `k` of the stacked matrices. -/
noncomputable def delta (w g m v : Vec Ideal ⟨3, ![4, 128, 1024]⟩ .f32) (R : Fin 512) (k : Fin 1024) : EReal :=
  Adam.delta (Adam.row w rfl R k) (Adam.row g rfl R k) (Adam.row m rfl R k) (Adam.row v rfl R k)
noncomputable def first (g m : Vec Ideal ⟨3, ![4, 128, 1024]⟩ .f32) (R : Fin 512) (k : Fin 1024) : EReal :=
  Adam.first (Adam.row g rfl R k) (Adam.row m rfl R k)
noncomputable def second (g v : Vec Ideal ⟨3, ![4, 128, 1024]⟩ .f32) (R : Fin 512) (k : Fin 1024) : EReal :=
  Adam.second (Adam.row g rfl R k) (Adam.row v rfl R k)

section Kernel

open Cert.Kernel11Ideal Cert.Kernel11Ideal.Gen Cert.Kernel11Ideal.Value

/-- A block's three results, entry by entry. -/
theorem out (x0 x1 x2 x3 : Vec Ideal S512x1024 .f32) (r : Fin 512) (k : Fin 1024) :
    out0_4 x0 x1 x2 x3 (ix2 r k) = Adam.delta (x0 (ix2 r k)) (x1 (ix2 r k)) (x2 (ix2 r k)) (x3 (ix2 r k))
    ∧ out0_5 x0 x1 x2 x3 (ix2 r k) = Adam.first (x1 (ix2 r k)) (x2 (ix2 r k))
    ∧ out0_6 x0 x1 x2 x3 (ix2 r k) = Adam.second (x1 (ix2 r k)) (x3 (ix2 r k)) := by
  have e : ∀ y : S512x1024.Idx, (y 0).val = r.val → (y 1).val = k.val → y = ix2 r k := fun y h0 h1 =>
    (eq_ix2 y).trans (congrArg₂ ix2 (Fin.ext h0) (Fin.ext h1))
  have hz : (![0, 0] : Fin 2 → ℕ) = fun _ => 0 := by decide
  have l : ∀ x : Vec Ideal S512x1024 .f32, View.ld x r0_0 (ix2 r k) = x (ix2 r k) := fun x =>
    congrFun (View.ld_unit_zero (S := S512x1024) hz _ x) _
  rw [← l x0, ← l x1, ← l x2, ← l x3]
  refine ⟨(canon4_eq _ _ _ _ _).trans ?_, (canon5_eq _ _ _).trans ?_, (canon6_eq _ _ _).trans ?_⟩
  · simp only [E4, e (ix4_0 (ix2 r k)) rfl rfl, e (ix4_1 (ix2 r k)) rfl rfl, e (ix4_2 (ix2 r k)) rfl rfl,
      e (ix4_3 (ix2 r k)) rfl rfl, e (ix4_4 (ix2 r k)) rfl rfl, e (ix4_5 (ix2 r k)) rfl rfl]
    rfl
  · simp only [E5, e (ix5_0 (ix2 r k)) rfl rfl, e (ix5_1 (ix2 r k)) rfl rfl]
    rfl
  · simp only [E6, e (ix6_0 (ix2 r k)) rfl rfl, e (ix6_1 (ix2 r k)) rfl rfl, e (ix6_2 (ix2 r k)) rfl rfl]
    rfl

variable (m : (ℓ : Loc nD τ sig) → Buf (Elt Ideal) ℓ) (d : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 512) : 512 * t.val + r.val < 512 := by
  have := t.isLt
  have hN : cfg0.N = 1 := N_0
  omega

/-- The weights, the gradient and the moments at the rows of block `t`. -/
theorem inputs (t : Fin cfg0.N) (r : Fin 512) (k : Fin 1024) :
    iblk m d 0 t (ix2 r k) = Adam.row (m ((d : Thread nD τ).loc main_arg0)) rfl ⟨512 * t.val + r.val, row_lt t r⟩ k
    ∧ iblk m d 1 t (ix2 r k) = Adam.row (m ((d : Thread nD τ).loc main_arg1)) rfl ⟨512 * t.val + r.val, row_lt t r⟩ k
    ∧ iblk m d 2 t (ix2 r k) = Adam.row (m ((d : Thread nD τ).loc main_arg2)) rfl ⟨512 * t.val + r.val, row_lt t r⟩ k
    ∧ iblk m d 3 t (ix2 r k) = Adam.row (m ((d : Thread nD τ).loc main_arg3)) rfl ⟨512 * t.val + r.val, row_lt t r⟩ k := by
  unfold Adam.row
  refine ⟨?_, ?_, ?_, ?_⟩ <;> blk_ext! [iblk, V, idx t]

theorem exists_row (R : Fin 512) : ∃ (t : Fin cfg0.N) (r : Fin 512), (⟨512 * t.val + r.val, row_lt t r⟩ : Fin 512) = R := by
  have hN : cfg0.N = 1 := N_0
  have hR := R.isLt
  exact ⟨⟨R.val / 512, by omega⟩, ⟨R.val % 512, by omega⟩, Fin.ext (by show 512 * (R.val / 512) + R.val % 512 = R.val; omega)⟩

/-- The kernel's three result arrays. -/
theorem arrs (R : Fin 512) (k : Fin 1024) :
    let a := fun b => m ((d : Thread nD τ).loc b)
    (dats m 0 d).arrAt 4 cfg0.N (ix2 R k) = delta (a main_arg0) (a main_arg1) (a main_arg2) (a main_arg3) R k
    ∧ (dats m 0 d).arrAt 5 cfg0.N (ix2 R k) = first (a main_arg1) (a main_arg2) R k
    ∧ (dats m 0 d).arrAt 6 cfg0.N (ix2 R k) = second (a main_arg1) (a main_arg3) R k := by
  obtain ⟨t, r, rfl⟩ := exists_row R
  obtain ⟨o4, o5, o6⟩ := out (iblk m d 0 t) (iblk m d 1 t) (iblk m d 2 t) (iblk m d 3 t) r k
  obtain ⟨i0, i1, i2, i3⟩ := inputs m d t r k
  rw [i0, i1, i2, i3] at o4
  rw [i1, i2] at o5
  rw [i1, i3] at o6
  refine ⟨Eq.trans ?_ ((congrFun ((blocks4 m d t (flush0_4 t)).trans (flushed4 m d t)) (ix2 r k)).trans o4),
    Eq.trans ?_ ((congrFun ((blocks5 m d t (flush0_5 t)).trans (flushed5 m d t)) (ix2 r k)).trans o5),
    Eq.trans ?_ ((congrFun ((blocks6 m d t (flush0_6 t)).trans (flushed6 m d t)) (ix2 r k)).trans o6)⟩
  all_goals
    rw [View.read_apply]
    blk_ext [idx t]

end Kernel

section Reference

open Cert.Reference11Ideal Cert.Reference11Ideal.Read

/-- The reference's three results. -/
theorem ref_delta (w g m v : Vec Ideal S4x128x1024 .f32) (R : Fin 512) (k : Fin 1024) :
    val_main_v24 (F := Ideal) w g m v (ix2 R k) = delta w g m v R k := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7]
  rfl

theorem ref_first (g m : Vec Ideal S4x128x1024 .f32) (R : Fin 512) (k : Fin 1024) :
    val_main_v25 (F := Ideal) g m (ix2 R k) = first g m R k := by
  pointwise [val_main_v25, val_main_v4, val_main_v3, val_main_v2, val_main_v1, val_main_v0, val_main_cst, val_main_cst_0]
  rfl

theorem ref_second (g v : Vec Ideal S4x128x1024 .f32) (R : Fin 512) (k : Fin 1024) :
    val_main_v26 (F := Ideal) g v (ix2 R k) = second g v R k := by
  pointwise [val_main_v26, val_main_v10, val_main_v9, val_main_v8, val_main_v7, val_main_v6, val_main_v5, val_main_cst_1,
    val_main_cst_2]
  rfl

end Reference

theorem algebraic : Cert.algebraic_Kernel11Ideal_Reference11Ideal := by
  intro m ρ m' ρ' _ hagree
  refine ⟨fun c => (Cert.Kernel11Ideal.Gen.dats m 0 c).arrAt 4 Cert.Kernel11Ideal.cfg0.N,
    fun c => (Cert.Kernel11Ideal.Gen.dats m 0 c).arrAt 5 Cert.Kernel11Ideal.cfg0.N,
    fun c => (Cert.Kernel11Ideal.Gen.dats m 0 c).arrAt 6 Cert.Kernel11Ideal.cfg0.N,
    Cert.Kernel11Ideal.Value.run_blocks m ρ, ?_⟩
  refine (θ_run _ _ _).mono (fun r h c => ?_) (Cert.Reference11Ideal.Value.run m' ρ')
  obtain ⟨e0, e1, e2, e3⟩ := hagree c
  obtain ⟨h0, h1, h2, hargs⟩ := h c
  refine ⟨(h0.trans (Cert.Reference11Ideal.Read.val_main_v24_eq (F := Ideal) _ _ _ _)).trans ?_,
    (h1.trans (Cert.Reference11Ideal.Read.val_main_v25_eq (F := Ideal) _ _)).trans ?_,
    (h2.trans (Cert.Reference11Ideal.Read.val_main_v26_eq (F := Ideal) _ _)).trans ?_, hargs⟩
  all_goals simp only [e0, e1, e2, e3]
  · exact ext2 fun R k => (ref_delta _ _ _ _ R k).trans (arrs m c R k).1.symm
  · exact ext2 fun R k => (ref_first _ _ R k).trans (arrs m c R k).2.1.symm
  · exact ext2 fun R k => (ref_second _ _ R k).trans (arrs m c R k).2.2.symm

end TrainStep.WOut
-- ==== Proof.Adam.WUp.lean ====
/-
  The AdamW step of the feed-forward weights `w_up`: the kernel's three result arrays, the reference's, and their equality on every
  device.
-/
module

public import proofs.«01_k».proof.Defs
public import proofs.«01_k».proof.Proof.Adam.Spec
public import proofs.«01_k».proof.Proof.Ffn.Spec
public import proofs.«01_k».proof.Proof.Gen.Kernel12Ideal.Value
public import proofs.«01_k».proof.Proof.Gen.Reference12Ideal.Run
public import proofs.«01_k».proof.Proof.Gen.Reference12Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.WUp

attribute [local instance] Cert.Kernel12Ideal.Gen.facts Cert.Reference12Ideal.Gen.facts

/-- The three results at row `R` and column `k` of the stacked matrices. -/
noncomputable def delta (w g m v : Vec Ideal ⟨3, ![4, 1024, 704]⟩ .f32) (R : Fin 4096) (k : Fin 704) : EReal :=
  Adam.delta (Adam.row w rfl R k) (Adam.row g rfl R k) (Adam.row m rfl R k) (Adam.row v rfl R k)
noncomputable def first (g m : Vec Ideal ⟨3, ![4, 1024, 704]⟩ .f32) (R : Fin 4096) (k : Fin 704) : EReal :=
  Adam.first (Adam.row g rfl R k) (Adam.row m rfl R k)
noncomputable def second (g v : Vec Ideal ⟨3, ![4, 1024, 704]⟩ .f32) (R : Fin 4096) (k : Fin 704) : EReal :=
  Adam.second (Adam.row g rfl R k) (Adam.row v rfl R k)

section Kernel

open Cert.Kernel12Ideal Cert.Kernel12Ideal.Gen Cert.Kernel12Ideal.Value

/-- A block's three results, entry by entry. -/
theorem out (x0 x1 x2 x3 : Vec Ideal S512x704 .f32) (r : Fin 512) (k : Fin 704) :
    out0_4 x0 x1 x2 x3 (ix2 r k) = Adam.delta (x0 (ix2 r k)) (x1 (ix2 r k)) (x2 (ix2 r k)) (x3 (ix2 r k))
    ∧ out0_5 x0 x1 x2 x3 (ix2 r k) = Adam.first (x1 (ix2 r k)) (x2 (ix2 r k))
    ∧ out0_6 x0 x1 x2 x3 (ix2 r k) = Adam.second (x1 (ix2 r k)) (x3 (ix2 r k)) := by
  have e : ∀ y : S512x704.Idx, (y 0).val = r.val → (y 1).val = k.val → y = ix2 r k := fun y h0 h1 =>
    (eq_ix2 y).trans (congrArg₂ ix2 (Fin.ext h0) (Fin.ext h1))
  have hz : (![0, 0] : Fin 2 → ℕ) = fun _ => 0 := by decide
  have l : ∀ x : Vec Ideal S512x704 .f32, View.ld x r0_0 (ix2 r k) = x (ix2 r k) := fun x =>
    congrFun (View.ld_unit_zero (S := S512x704) hz _ x) _
  rw [← l x0, ← l x1, ← l x2, ← l x3]
  refine ⟨(canon4_eq _ _ _ _ _).trans ?_, (canon5_eq _ _ _).trans ?_, (canon6_eq _ _ _).trans ?_⟩
  · simp only [E4, e (ix4_0 (ix2 r k)) rfl rfl, e (ix4_1 (ix2 r k)) rfl rfl, e (ix4_2 (ix2 r k)) rfl rfl,
      e (ix4_3 (ix2 r k)) rfl rfl, e (ix4_4 (ix2 r k)) rfl rfl, e (ix4_5 (ix2 r k)) rfl rfl]
    rfl
  · simp only [E5, e (ix5_0 (ix2 r k)) rfl rfl, e (ix5_1 (ix2 r k)) rfl rfl]
    rfl
  · simp only [E6, e (ix6_0 (ix2 r k)) rfl rfl, e (ix6_1 (ix2 r k)) rfl rfl, e (ix6_2 (ix2 r k)) rfl rfl]
    rfl

variable (m : (ℓ : Loc nD τ sig) → Buf (Elt Ideal) ℓ) (d : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 512) : 512 * t.val + r.val < 4096 := by
  have := t.isLt
  have hN : cfg0.N = 8 := N_0
  omega

/-- The weights, the gradient and the moments at the rows of block `t`. -/
theorem inputs (t : Fin cfg0.N) (r : Fin 512) (k : Fin 704) :
    iblk m d 0 t (ix2 r k) = Adam.row (m ((d : Thread nD τ).loc main_arg0)) rfl ⟨512 * t.val + r.val, row_lt t r⟩ k
    ∧ iblk m d 1 t (ix2 r k) = Adam.row (m ((d : Thread nD τ).loc main_arg1)) rfl ⟨512 * t.val + r.val, row_lt t r⟩ k
    ∧ iblk m d 2 t (ix2 r k) = Adam.row (m ((d : Thread nD τ).loc main_arg2)) rfl ⟨512 * t.val + r.val, row_lt t r⟩ k
    ∧ iblk m d 3 t (ix2 r k) = Adam.row (m ((d : Thread nD τ).loc main_arg3)) rfl ⟨512 * t.val + r.val, row_lt t r⟩ k := by
  unfold Adam.row
  refine ⟨?_, ?_, ?_, ?_⟩ <;> blk_ext! [iblk, V, idx t]

theorem exists_row (R : Fin 4096) : ∃ (t : Fin cfg0.N) (r : Fin 512), (⟨512 * t.val + r.val, row_lt t r⟩ : Fin 4096) = R := by
  have hN : cfg0.N = 8 := N_0
  have hR := R.isLt
  exact ⟨⟨R.val / 512, by omega⟩, ⟨R.val % 512, by omega⟩, Fin.ext (by show 512 * (R.val / 512) + R.val % 512 = R.val; omega)⟩

/-- The kernel's three result arrays. -/
theorem arrs (R : Fin 4096) (k : Fin 704) :
    let a := fun b => m ((d : Thread nD τ).loc b)
    (dats m 0 d).arrAt 4 cfg0.N (ix2 R k) = delta (a main_arg0) (a main_arg1) (a main_arg2) (a main_arg3) R k
    ∧ (dats m 0 d).arrAt 5 cfg0.N (ix2 R k) = first (a main_arg1) (a main_arg2) R k
    ∧ (dats m 0 d).arrAt 6 cfg0.N (ix2 R k) = second (a main_arg1) (a main_arg3) R k := by
  obtain ⟨t, r, rfl⟩ := exists_row R
  obtain ⟨o4, o5, o6⟩ := out (iblk m d 0 t) (iblk m d 1 t) (iblk m d 2 t) (iblk m d 3 t) r k
  obtain ⟨i0, i1, i2, i3⟩ := inputs m d t r k
  rw [i0, i1, i2, i3] at o4
  rw [i1, i2] at o5
  rw [i1, i3] at o6
  refine ⟨Eq.trans ?_ ((congrFun ((blocks4 m d t (flush0_4 t)).trans (flushed4 m d t)) (ix2 r k)).trans o4),
    Eq.trans ?_ ((congrFun ((blocks5 m d t (flush0_5 t)).trans (flushed5 m d t)) (ix2 r k)).trans o5),
    Eq.trans ?_ ((congrFun ((blocks6 m d t (flush0_6 t)).trans (flushed6 m d t)) (ix2 r k)).trans o6)⟩
  all_goals
    rw [View.read_apply]
    blk_ext [idx t]

end Kernel

section Reference

open Cert.Reference12Ideal Cert.Reference12Ideal.Read

/-- The reference's three results. -/
theorem ref_delta (w g m v : Vec Ideal S4x1024x704 .f32) (R : Fin 4096) (k : Fin 704) :
    val_main_v24 (F := Ideal) w g m v (ix2 R k) = delta w g m v R k := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7]
  rfl

theorem ref_first (g m : Vec Ideal S4x1024x704 .f32) (R : Fin 4096) (k : Fin 704) :
    val_main_v25 (F := Ideal) g m (ix2 R k) = first g m R k := by
  pointwise [val_main_v25, val_main_v4, val_main_v3, val_main_v2, val_main_v1, val_main_v0, val_main_cst, val_main_cst_0]
  rfl

theorem ref_second (g v : Vec Ideal S4x1024x704 .f32) (R : Fin 4096) (k : Fin 704) :
    val_main_v26 (F := Ideal) g v (ix2 R k) = second g v R k := by
  pointwise [val_main_v26, val_main_v10, val_main_v9, val_main_v8, val_main_v7, val_main_v6, val_main_v5, val_main_cst_1,
    val_main_cst_2]
  rfl

end Reference

theorem algebraic : Cert.algebraic_Kernel12Ideal_Reference12Ideal := by
  intro m ρ m' ρ' _ hagree
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N,
    fun c => (Cert.Kernel12Ideal.Gen.dats m 0 c).arrAt 6 Cert.Kernel12Ideal.cfg0.N,
    Cert.Kernel12Ideal.Value.run_blocks m ρ, ?_⟩
  refine (θ_run _ _ _).mono (fun r h c => ?_) (Cert.Reference12Ideal.Value.run m' ρ')
  obtain ⟨e0, e1, e2, e3⟩ := hagree c
  obtain ⟨h0, h1, h2, hargs⟩ := h c
  refine ⟨(h0.trans (Cert.Reference12Ideal.Read.val_main_v24_eq (F := Ideal) _ _ _ _)).trans ?_,
    (h1.trans (Cert.Reference12Ideal.Read.val_main_v25_eq (F := Ideal) _ _)).trans ?_,
    (h2.trans (Cert.Reference12Ideal.Read.val_main_v26_eq (F := Ideal) _ _)).trans ?_, hargs⟩
  all_goals simp only [e0, e1, e2, e3]
  · exact ext2 fun R k => (ref_delta _ _ _ _ R k).trans (arrs m c R k).1.symm
  · exact ext2 fun R k => (ref_first _ _ R k).trans (arrs m c R k).2.1.symm
  · exact ext2 fun R k => (ref_second _ _ R k).trans (arrs m c R k).2.2.symm

end TrainStep.WUp
-- ==== Proof.Adam.WDown.lean ====
/-
  The AdamW step of the feed-forward weights `w_down`: the kernel's three result arrays, the reference's, and their equality on every
  device.
-/
module

public import proofs.«01_k».proof.Defs
public import proofs.«01_k».proof.Proof.Adam.Spec
public import proofs.«01_k».proof.Proof.Ffn.Spec
public import proofs.«01_k».proof.Proof.Gen.Kernel13Ideal.Value
public import proofs.«01_k».proof.Proof.Gen.Reference13Ideal.Run
public import proofs.«01_k».proof.Proof.Gen.Reference13Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.WDown

attribute [local instance] Cert.Kernel13Ideal.Gen.facts Cert.Reference13Ideal.Gen.facts

/-- The three results at row `R` and column `k` of the stacked matrices. -/
noncomputable def delta (w g m v : Vec Ideal ⟨3, ![4, 352, 1024]⟩ .f32) (R : Fin 1408) (k : Fin 1024) : EReal :=
  Adam.delta (Adam.row w rfl R k) (Adam.row g rfl R k) (Adam.row m rfl R k) (Adam.row v rfl R k)
noncomputable def first (g m : Vec Ideal ⟨3, ![4, 352, 1024]⟩ .f32) (R : Fin 1408) (k : Fin 1024) : EReal :=
  Adam.first (Adam.row g rfl R k) (Adam.row m rfl R k)
noncomputable def second (g v : Vec Ideal ⟨3, ![4, 352, 1024]⟩ .f32) (R : Fin 1408) (k : Fin 1024) : EReal :=
  Adam.second (Adam.row g rfl R k) (Adam.row v rfl R k)

section Kernel

open Cert.Kernel13Ideal Cert.Kernel13Ideal.Gen Cert.Kernel13Ideal.Value

/-- A block's three results, entry by entry. -/
theorem out (x0 x1 x2 x3 : Vec Ideal S352x1024 .f32) (r : Fin 352) (k : Fin 1024) :
    out0_4 x0 x1 x2 x3 (ix2 r k) = Adam.delta (x0 (ix2 r k)) (x1 (ix2 r k)) (x2 (ix2 r k)) (x3 (ix2 r k))
    ∧ out0_5 x0 x1 x2 x3 (ix2 r k) = Adam.first (x1 (ix2 r k)) (x2 (ix2 r k))
    ∧ out0_6 x0 x1 x2 x3 (ix2 r k) = Adam.second (x1 (ix2 r k)) (x3 (ix2 r k)) := by
  have e : ∀ y : S352x1024.Idx, (y 0).val = r.val → (y 1).val = k.val → y = ix2 r k := fun y h0 h1 =>
    (eq_ix2 y).trans (congrArg₂ ix2 (Fin.ext h0) (Fin.ext h1))
  have hz : (![0, 0] : Fin 2 → ℕ) = fun _ => 0 := by decide
  have l : ∀ x : Vec Ideal S352x1024 .f32, View.ld x r0_0 (ix2 r k) = x (ix2 r k) := fun x =>
    congrFun (View.ld_unit_zero (S := S352x1024) hz _ x) _
  rw [← l x0, ← l x1, ← l x2, ← l x3]
  refine ⟨(canon4_eq _ _ _ _ _).trans ?_, (canon5_eq _ _ _).trans ?_, (canon6_eq _ _ _).trans ?_⟩
  · simp only [E4, e (ix4_0 (ix2 r k)) rfl rfl, e (ix4_1 (ix2 r k)) rfl rfl, e (ix4_2 (ix2 r k)) rfl rfl,
      e (ix4_3 (ix2 r k)) rfl rfl, e (ix4_4 (ix2 r k)) rfl rfl, e (ix4_5 (ix2 r k)) rfl rfl]
    rfl
  · simp only [E5, e (ix5_0 (ix2 r k)) rfl rfl, e (ix5_1 (ix2 r k)) rfl rfl]
    rfl
  · simp only [E6, e (ix6_0 (ix2 r k)) rfl rfl, e (ix6_1 (ix2 r k)) rfl rfl, e (ix6_2 (ix2 r k)) rfl rfl]
    rfl

variable (m : (ℓ : Loc nD τ sig) → Buf (Elt Ideal) ℓ) (d : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] :=
  (by decide +kernel : ∀ t : Fin grid0.N, _)

theorem row_lt (t : Fin cfg0.N) (r : Fin 352) : 352 * t.val + r.val < 1408 := by
  have := t.isLt
  have hN : cfg0.N = 4 := N_0
  omega

/-- The weights, the gradient and the moments at the rows of block `t`. -/
theorem inputs (t : Fin cfg0.N) (r : Fin 352) (k : Fin 1024) :
    iblk m d 0 t (ix2 r k) = Adam.row (m ((d : Thread nD τ).loc main_arg0)) rfl ⟨352 * t.val + r.val, row_lt t r⟩ k
    ∧ iblk m d 1 t (ix2 r k) = Adam.row (m ((d : Thread nD τ).loc main_arg1)) rfl ⟨352 * t.val + r.val, row_lt t r⟩ k
    ∧ iblk m d 2 t (ix2 r k) = Adam.row (m ((d : Thread nD τ).loc main_arg2)) rfl ⟨352 * t.val + r.val, row_lt t r⟩ k
    ∧ iblk m d 3 t (ix2 r k) = Adam.row (m ((d : Thread nD τ).loc main_arg3)) rfl ⟨352 * t.val + r.val, row_lt t r⟩ k := by
  unfold Adam.row
  refine ⟨?_, ?_, ?_, ?_⟩ <;> blk_ext! [iblk, V, idx t]

theorem exists_row (R : Fin 1408) : ∃ (t : Fin cfg0.N) (r : Fin 352), (⟨352 * t.val + r.val, row_lt t r⟩ : Fin 1408) = R := by
  have hN : cfg0.N = 4 := N_0
  have hR := R.isLt
  exact ⟨⟨R.val / 352, by omega⟩, ⟨R.val % 352, by omega⟩, Fin.ext (by show 352 * (R.val / 352) + R.val % 352 = R.val; omega)⟩

/-- The kernel's three result arrays. -/
theorem arrs (R : Fin 1408) (k : Fin 1024) :
    let a := fun b => m ((d : Thread nD τ).loc b)
    (dats m 0 d).arrAt 4 cfg0.N (ix2 R k) = delta (a main_arg0) (a main_arg1) (a main_arg2) (a main_arg3) R k
    ∧ (dats m 0 d).arrAt 5 cfg0.N (ix2 R k) = first (a main_arg1) (a main_arg2) R k
    ∧ (dats m 0 d).arrAt 6 cfg0.N (ix2 R k) = second (a main_arg1) (a main_arg3) R k := by
  obtain ⟨t, r, rfl⟩ := exists_row R
  obtain ⟨o4, o5, o6⟩ := out (iblk m d 0 t) (iblk m d 1 t) (iblk m d 2 t) (iblk m d 3 t) r k
  obtain ⟨i0, i1, i2, i3⟩ := inputs m d t r k
  rw [i0, i1, i2, i3] at o4
  rw [i1, i2] at o5
  rw [i1, i3] at o6
  refine ⟨Eq.trans ?_ ((congrFun ((blocks4 m d t (flush0_4 t)).trans (flushed4 m d t)) (ix2 r k)).trans o4),
    Eq.trans ?_ ((congrFun ((blocks5 m d t (flush0_5 t)).trans (flushed5 m d t)) (ix2 r k)).trans o5),
    Eq.trans ?_ ((congrFun ((blocks6 m d t (flush0_6 t)).trans (flushed6 m d t)) (ix2 r k)).trans o6)⟩
  all_goals
    rw [View.read_apply]
    blk_ext [idx t]

end Kernel

section Reference

open Cert.Reference13Ideal Cert.Reference13Ideal.Read

/-- The reference's three results. -/
theorem ref_delta (w g m v : Vec Ideal S4x352x1024 .f32) (R : Fin 1408) (k : Fin 1024) :
    val_main_v24 (F := Ideal) w g m v (ix2 R k) = delta w g m v R k := by
  pointwise [val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_3, val_main_cst_4,
    val_main_cst_5, val_main_cst_6, val_main_cst_7]
  rfl

theorem ref_first (g m : Vec Ideal S4x352x1024 .f32) (R : Fin 1408) (k : Fin 1024) :
    val_main_v25 (F := Ideal) g m (ix2 R k) = first g m R k := by
  pointwise [val_main_v25, val_main_v4, val_main_v3, val_main_v2, val_main_v1, val_main_v0, val_main_cst, val_main_cst_0]
  rfl

theorem ref_second (g v : Vec Ideal S4x352x1024 .f32) (R : Fin 1408) (k : Fin 1024) :
    val_main_v26 (F := Ideal) g v (ix2 R k) = second g v R k := by
  pointwise [val_main_v26, val_main_v10, val_main_v9, val_main_v8, val_main_v7, val_main_v6, val_main_v5, val_main_cst_1,
    val_main_cst_2]
  rfl

end Reference

theorem algebraic : Cert.algebraic_Kernel13Ideal_Reference13Ideal := by
  intro m ρ m' ρ' _ hagree
  refine ⟨fun c => (Cert.Kernel13Ideal.Gen.dats m 0 c).arrAt 4 Cert.Kernel13Ideal.cfg0.N,
    fun c => (Cert.Kernel13Ideal.Gen.dats m 0 c).arrAt 5 Cert.Kernel13Ideal.cfg0.N,
    fun c => (Cert.Kernel13Ideal.Gen.dats m 0 c).arrAt 6 Cert.Kernel13Ideal.cfg0.N,
    Cert.Kernel13Ideal.Value.run_blocks m ρ, ?_⟩
  refine (θ_run _ _ _).mono (fun r h c => ?_) (Cert.Reference13Ideal.Value.run m' ρ')
  obtain ⟨e0, e1, e2, e3⟩ := hagree c
  obtain ⟨h0, h1, h2, hargs⟩ := h c
  refine ⟨(h0.trans (Cert.Reference13Ideal.Read.val_main_v24_eq (F := Ideal) _ _ _ _)).trans ?_,
    (h1.trans (Cert.Reference13Ideal.Read.val_main_v25_eq (F := Ideal) _ _)).trans ?_,
    (h2.trans (Cert.Reference13Ideal.Read.val_main_v26_eq (F := Ideal) _ _)).trans ?_, hargs⟩
  all_goals simp only [e0, e1, e2, e3]
  · exact ext2 fun R k => (ref_delta _ _ _ _ R k).trans (arrs m c R k).1.symm
  · exact ext2 fun R k => (ref_first _ _ R k).trans (arrs m c R k).2.1.symm
  · exact ext2 fun R k => (ref_second _ _ R k).trans (arrs m c R k).2.2.symm

end TrainStep.WDown
-- ==== Proof.Post.Spec.lean ====
/-
  The output projection of the two mixers, written as plain functions of a row and a column: the recurrent mixer's heads
  are normed and gated, both mixers' columns meet `w_out`, and the product is added, gated, to the residual.
-/
module

public import Idealize.ShloMosaic.Lib.Pointwise

@[expose] public section

open Idealize.ShloMosaic

namespace TrainStep.Post

/-- Entry `i` of the head that starts at column `b`: divided by the head's root mean square, weighted, and gated. -/
noncomputable def part (o z : Fin 512 → EReal) (nd : Fin 128 → EReal) (b : ℕ) (hb : b + 128 ≤ 512) (i : Fin 128) : EReal :=
  let at' := fun j : Fin 128 => (⟨b + j, by omega⟩ : Fin 512)
  o (at' i) * Ideal.rsqrt (Ideal.div (∑ j, o (at' j) * o (at' j)) (Ideal.ofBits .f32 0x43000000#32)
    + Ideal.ofBits .f32 0x358637BD#32) * nd i * (z (at' i) * Ideal.logistic (z (at' i)))

/-- One row of the gated heads. -/
noncomputable def gated (o z : Fin 512 → EReal) (nd : Fin 128 → EReal) (c : Fin 512) : EReal :=
  part o z nd (c.val / 128 * 128) (by omega) ⟨c.val % 128, by omega⟩

theorem gated_at (o z : Fin 512 → EReal) (nd : Fin 128 → EReal) (c : Fin 512) (b : ℕ) (hb : b + 128 ≤ 512) (i : Fin 128)
    (hq : c.val / 128 * 128 = b) (hi : c.val % 128 = i.val) : part o z nd b hb i = gated o z nd c := by
  subst hq
  exact congrArg (part o z nd _ _) (Fin.ext hi.symm)

/-- One row of the product with `w_out`: the attention's columns meet its upper half, the heads' its lower half. -/
noncomputable def product (a y : Fin 512 → EReal) (w : Fin 1024 → Fin 1024 → EReal) (k : Fin 1024) : EReal :=
  ∑ j : Fin 512, a j * w ⟨j, by omega⟩ k + ∑ j : Fin 512, y j * w ⟨512 + j, by omega⟩ k

end TrainStep.Post
-- ==== Proof.Post.Case.lean ====
/-
  What one grid point of the output projection leaves in its three result blocks: the payloads of its stores and their
  values at a row and a column.
-/
module

public import proofs.«01_k».proof.Proof.Post.Spec
public import proofs.«01_k».proof.Proof.Gen.Kernel14Ideal.Frame
public import Idealize.ShloMosaic.Lib.Pointwise
public import Idealize.ShloMosaic.Lib.Pipeline.ReadBack
public import Idealize.ShloMosaic.Lib.Pipeline.RowLoads
public import Idealize.ShloMosaic.Lib.VecWindow
public import Idealize.ShloMosaic.Lib.WritesUnit

@[expose] public section

set_option maxRecDepth 16384

open Idealize.ShloMosaic Idealize.ShloMosaic.TcCoe Idealize.SL.Sem
open Cert.Kernel14Ideal Cert.Kernel14Ideal.Gen

namespace TrainStep.Post

theorem hz : (![0, 0] : Fin 2 → Nat) = fun _ => 0 := funext fun a => by fin_cases a <;> rfl

/-- The head that starts at column `b`, the row of the heads' weights, the gating row, and 512 rows of `w_out`, as the
kernel loads them. -/
noncomputable def head (x : Vec Ideal S512x512 .f32) (b : ℕ)
    (inb : ∀ a : Fin 2, (![0, b] : Fin 2 → ℕ) a + S512x128.size a ≤ S512x512.size a) : Vec Ideal S512x128 .f32 :=
  View.ld x (Rect.unit (s := S512x512) ![0, b] S512x128.size inb)

noncomputable def row128 (x : Vec Ideal S8x128 .f32) (o : ℕ)
    (inb : ∀ a : Fin 2, (![o, 0] : Fin 2 → ℕ) a + S1x128.size a ≤ S8x128.size a) : Vec Ideal S1x128 .f32 :=
  View.ld x (Rect.unit (s := S8x128) ![o, 0] S1x128.size inb)

noncomputable def row1024 (x : Vec Ideal S8x1024 .f32) (o : ℕ)
    (inb : ∀ a : Fin 2, (![o, 0] : Fin 2 → ℕ) a + S1x1024.size a ≤ S8x1024.size a) : Vec Ideal S1x1024 .f32 :=
  View.ld x (Rect.unit (s := S8x1024) ![o, 0] S1x1024.size inb)

noncomputable def wrows (x : Vec Ideal S1024x1024 .bf16) (o : ℕ)
    (inb : ∀ a : Fin 2, (![o, 0] : Fin 2 → ℕ) a + S512x1024.size a ≤ S1024x1024.size a) : Vec Ideal S512x1024 .bf16 :=
  View.ld x (Rect.unit (s := S1024x1024) ![o, 0] S512x1024.size inb)

theorem head_val (x : Vec Ideal S512x512 .f32) (b : ℕ) (inb) (hb : b + 128 ≤ 512) (r : Fin 512) (i : Fin 128) :
    head x b inb (ix2 r i) = x (ix2 r ⟨b + i, by omega⟩) := by
  refine congrArg x ((eq_ix2 _).trans (congrArg₂ ix2 (Fin.ext ?_) (Fin.ext ?_)))
  · simp
  · simp

theorem row128_val (x : Vec Ideal S8x128 .f32) (o : ℕ) (inb) (h : o < 8) (i : Fin 128) :
    row128 x o inb (ix2 0 i) = x (ix2 ⟨o, h⟩ i) := by
  refine congrArg x ((eq_ix2 _).trans (congrArg₂ ix2 (Fin.ext ?_) (Fin.ext ?_)))
  · simp
  · simp

theorem row1024_val (x : Vec Ideal S8x1024 .f32) (o : ℕ) (inb) (h : o < 8) (k : Fin 1024) :
    row1024 x o inb (ix2 0 k) = x (ix2 ⟨o, h⟩ k) := by
  refine congrArg x ((eq_ix2 _).trans (congrArg₂ ix2 (Fin.ext ?_) (Fin.ext ?_)))
  · simp
  · simp

theorem wrows_val (x : Vec Ideal S1024x1024 .bf16) (o : ℕ) (inb) (h : o + 512 ≤ 1024) (j : Fin 512) (k : Fin 1024) :
    wrows x o inb (ix2 j k) = x (ix2 ⟨o + j, by omega⟩ k) := by
  refine congrArg x ((eq_ix2 _).trans (congrArg₂ ix2 (Fin.ext ?_) (Fin.ext ?_)))
  · simp
  · simp

section Payloads

variable (x0 x1 : Vec Ideal S512x512 .f32) (x2 : Vec Ideal S512x512 .bf16) (x3 : Vec Ideal S512x1024 .f32)
  (x4 : Vec Ideal S8x1024 .f32) (x5 : Vec Ideal S8x128 .f32) (x6 : Vec Ideal S1024x1024 .bf16)

/-- The gated heads, the product with `w_out`, and the residual with the product added. -/
noncomputable def yb : FVec Ideal S512x512 .bf16 :=
  k0_pay6 (row128 x5 2 inb_S8x128_S1x128_2_0) (k0_pay2 x1)
    (k0_pay3 (row128 x5 2 inb_S8x128_S1x128_2_0) x1 (head x0 0 inb_S512x512_S512x128_0_0))
    (k0_pay4 (row128 x5 2 inb_S8x128_S1x128_2_0) x1 (head x0 128 inb_S512x512_S512x128_0_128))
    (head x0 256 inb_S512x512_S512x128_0_256) (k0_pay5 (head x0 256 inb_S512x512_S512x128_0_256))
    (Scalar.ofBits .f32 0x358637BD#32) (head x0 384 inb_S512x512_S512x128_0_384)

noncomputable def y : FVec Ideal S512x1024 .f32 :=
  k0_pay7 (row128 x5 2 inb_S8x128_S1x128_2_0) (k0_pay2 x1)
    (k0_pay3 (row128 x5 2 inb_S8x128_S1x128_2_0) x1 (head x0 0 inb_S512x512_S512x128_0_0))
    (k0_pay4 (row128 x5 2 inb_S8x128_S1x128_2_0) x1 (head x0 128 inb_S512x512_S512x128_0_128))
    (head x0 256 inb_S512x512_S512x128_0_256) (k0_pay5 (head x0 256 inb_S512x512_S512x128_0_256))
    (Scalar.ofBits .f32 0x358637BD#32) (head x0 384 inb_S512x512_S512x128_0_384) x2
    (wrows x6 0 inb_S1024x1024_S512x1024_0_0) (wrows x6 512 inb_S1024x1024_S512x1024_512_0)

noncomputable def x2' : FVec Ideal S512x1024 .f32 :=
  k0_pay1 (y x0 x1 x2 x5 x6) x3 (row1024 x4 2 inb_S8x1024_S1x1024_2_0)

variable (r : Fin 512)

theorem yb_val (c : Fin 512) : yb x0 x1 x5 (ix2 r c)
    = gated (fun j => x0 (ix2 r j)) (fun j => x1 (ix2 r j)) (fun i => x5 (ix2 2 i)) c := by
  pointwise [yb, k0_pay6, k0_pay5, k0_pay4, k0_pay3, k0_pay2]
  simp only [head_val _ 0 _ (by omega), head_val _ 128 _ (by omega), head_val _ 256 _ (by omega), head_val _ 384 _ (by omega),
    row128_val _ 2 _ (by omega)]
  have hc := c.isLt
  by_cases h0 : c.val < 128
  · rw [dif_pos h0]
    refine Eq.trans ?_ (gated_at _ _ _ c 0 (by omega) ⟨c.val, h0⟩ (by omega) (by dsimp only; omega))
    simp only [part, Nat.zero_add]
    rfl
  rw [dif_neg h0]
  by_cases h1 : c.val - 128 < 128
  · rw [dif_pos h1]
    refine Eq.trans ?_ (gated_at _ _ _ c 128 (by omega) ⟨c.val - 128, h1⟩ (by omega) (by dsimp only; omega))
    unfold part
    rfl
  rw [dif_neg h1]
  by_cases h2 : c.val - 128 - 128 < 128
  · rw [dif_pos h2]
    refine Eq.trans ?_ (gated_at _ _ _ c 256 (by omega) ⟨c.val - 128 - 128, h2⟩ (by omega) (by dsimp only; omega))
    unfold part
    rfl
  rw [dif_neg h2]
  refine Eq.trans ?_ (gated_at _ _ _ c 384 (by omega) ⟨c.val - 128 - 128 - 128, by omega⟩ (by omega) (by dsimp only; omega))
  unfold part
  rfl

theorem y_val (k : Fin 1024) : y x0 x1 x2 x5 x6 (ix2 r k)
    = product (fun j => x2 (ix2 r j))
        (gated (fun j => x0 (ix2 r j)) (fun j => x1 (ix2 r j)) (fun i => x5 (ix2 2 i))) (fun j k => x6 (ix2 j k)) k := by
  have e : ∀ c, yb x0 x1 x5 (ix2 r c) = _ := yb_val x0 x1 x5 r
  unfold product
  simp only [← e]
  pointwise [y, k0_pay7]
  simp only [wrows_val _ 0 _ (by omega), wrows_val _ 512 _ (by omega), Nat.zero_add]
  rfl

theorem x2_val (k : Fin 1024) : x2' x0 x1 x2 x3 x4 x5 x6 (ix2 r k)
    = x3 (ix2 r k) + x4 (ix2 2 k) * y x0 x1 x2 x5 x6 (ix2 r k) := by
  pointwise [x2', k0_pay1]
  simp only [row1024_val _ 2 _ (by omega)]
  rfl

end Payloads

variable (m : (ℓ : Loc nD τ sig) → Buf (Elt Ideal) ℓ) (d : Dev nD) (t : Fin cfg0.N)

theorem triple {A B C : Type} {a a' : A} {b b' : B} {c c' : C} (ha : a = a') (hb : b = b') (hc : c = c') :
    (a, b, c) = (a', b', c') := by
  subst ha hb hc; rfl

theorem outs : outsAt0 m d t
    = (y (iblk m d 0 t) (X0_1 m d t) (iblk m d 2 t) (iblk m d 5 t) (iblk m d 6 t),
      x2' (iblk m d 0 t) (X0_1 m d t) (iblk m d 2 t) (iblk m d 3 t) (iblk m d 4 t) (iblk m d 5 t) (iblk m d 6 t),
      yb (iblk m d 0 t) (X0_1 m d t) (iblk m d 5 t)) := by
  unfold outsAt0 y x2' yb out0_A_7 out0_A_8 out0_A_9
  refine triple ?_ ?_ ?_
  all_goals
    unfold kernelRun0_A
    dsimp only
    first
      | rw [View.read_writes_full (s := S512x1024)]
      | rw [View.read_writes_full (s := S512x512)]
    sl_unfold_words
    simp only [View.readAt_eq_ld, Memref.IsWhole.read_unread, View.ld_unit_zero (S := S512x1024) hz,
      View.ld_unit_zero (S := S512x512) hz, y, head, row128, row1024, wrows]

end TrainStep.Post
-- ==== Proof.Post.Claim.lean ====
/-
  The output projection: the kernel's three result arrays, the reference's, and their equality on every device.
-/
module

public import proofs.«01_k».proof.Defs
public import proofs.«01_k».proof.Proof.Post.Case
public import proofs.«01_k».proof.Proof.Ffn.Spec
public import proofs.«01_k».proof.Proof.Gen.Kernel14Ideal.Value
public import proofs.«01_k».proof.Proof.Gen.Reference14Ideal.Run
public import proofs.«01_k».proof.Proof.Gen.Reference14Ideal.Read
public import Idealize.ShloMosaic.Lib.Claim
public import Idealize.ShloMosaic.Lib.Pipeline.ValueKit.Point

@[expose] public section

set_option maxRecDepth 16384

open Idealize.ShloMosaic Idealize.ShloMosaic.TcCoe Idealize.SL.Sem

namespace TrainStep.Post

attribute [local instance] Cert.Kernel14Ideal.Gen.facts Cert.Reference14Ideal.Gen.facts

/-- The three results at row `R`: the gated heads (their weights in row 2 of `sp`, their gates in columns 3072 to 3583 of
`p`), the product with `w_out`, and the residual plus the product gated by row 2 of the modulation. -/
noncomputable def heads (o : Vec Ideal ⟨2, ![8192, 512]⟩ .f32) (p : Vec Ideal ⟨2, ![8192, 3712]⟩ .f32)
    (sp : Vec Ideal ⟨2, ![8, 128]⟩ .f32) (R : Fin 8192) : Fin 512 → EReal :=
  gated (fun j => o (ix2 R j)) (fun j => p (ix2 R ⟨3072 + j, by omega⟩)) (fun i => sp (ix2 2 i))

noncomputable def out (o : Vec Ideal ⟨2, ![8192, 512]⟩ .f32) (p : Vec Ideal ⟨2, ![8192, 3712]⟩ .f32)
    (ya : Vec Ideal ⟨2, ![8192, 512]⟩ .bf16) (sp : Vec Ideal ⟨2, ![8, 128]⟩ .f32) (w : Vec Ideal ⟨2, ![1024, 1024]⟩ .f32)
    (R : Fin 8192) : Fin 1024 → EReal :=
  product (fun j => ya (ix2 R j)) (heads o p sp R) (fun j k => w (ix2 j k))

noncomputable def added (o : Vec Ideal ⟨2, ![8192, 512]⟩ .f32) (p : Vec Ideal ⟨2, ![8192, 3712]⟩ .f32)
    (ya : Vec Ideal ⟨2, ![8192, 512]⟩ .bf16) (x : Vec Ideal ⟨2, ![8192, 1024]⟩ .f32) (g : Vec Ideal ⟨2, ![8, 1024]⟩ .f32)
    (sp : Vec Ideal ⟨2, ![8, 128]⟩ .f32) (w : Vec Ideal ⟨2, ![1024, 1024]⟩ .f32) (R : Fin 8192) (k : Fin 1024) : EReal :=
  x (ix2 R k) + g (ix2 2 k) * out o p ya sp w R k

section Kernel

open Cert.Kernel14Ideal Cert.Kernel14Ideal.Gen Cert.Kernel14Ideal.Value

variable (m : (ℓ : Loc nD τ sig) → Buf (Elt Ideal) ℓ) (d : Dev nD)

theorem idx : ∀ t : Fin cfg0.N, win0_0.index t = ![t.val, 0] ∧ win0_1.index t = ![t.val, 6] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

theorem row_lt (t : Fin cfg0.N) (r : Fin 512) : 512 * t.val + r.val < 8192 := by
  have := t.isLt
  have hN : cfg0.N = 16 := N_0
  omega

section Inputs

variable (t : Fin cfg0.N) (r j : Fin 512) (k l : Fin 1024) (i : Fin 128)

theorem o_eq : iblk m d 0 t (ix2 r j) = m ((d : Thread nD τ).loc main_arg0) (ix2 ⟨512 * t.val + r.val, row_lt t r⟩ j) := by
  blk_ext! [iblk, V, idx t]

theorem z_eq : X0_1 m d t (ix2 r j)
    = m ((d : Thread nD τ).loc main_arg1) (ix2 ⟨512 * t.val + r.val, row_lt t r⟩ ⟨3072 + j, by omega⟩) := by
  unfold X0_1 Pipeline.Window.fill
  rw [dif_pos (moved0_1 t _)]
  blk_ext! [iblk, V, idx t]

theorem ya_eq : iblk m d 2 t (ix2 r j) = m ((d : Thread nD τ).loc main_arg2) (ix2 ⟨512 * t.val + r.val, row_lt t r⟩ j) := by
  blk_ext! [iblk, V, idx t]

theorem x_eq : iblk m d 3 t (ix2 r k) = m ((d : Thread nD τ).loc main_arg3) (ix2 ⟨512 * t.val + r.val, row_lt t r⟩ k) := by
  blk_ext! [iblk, V, idx t]

theorem gate_eq : iblk m d 4 t (ix2 2 k) = m ((d : Thread nD τ).loc main_arg4) (ix2 2 k) := by
  blk_ext! [iblk, V, idx t]

theorem nd_eq : iblk m d 5 t (ix2 2 i) = m ((d : Thread nD τ).loc main_arg5) (ix2 2 i) := by
  blk_ext! [iblk, V, idx t]

theorem w_eq : iblk m d 6 t (ix2 l k) = m ((d : Thread nD τ).loc main_arg6) (ix2 l k) := by
  blk_ext! [iblk, V, idx t]

end Inputs

theorem exists_row (R : Fin 8192) : ∃ (t : Fin cfg0.N) (r : Fin 512), (⟨512 * t.val + r.val, row_lt t r⟩ : Fin 8192) = R := by
  have hN : cfg0.N = 16 := N_0
  have hR := R.isLt
  exact ⟨⟨R.val / 512, by omega⟩, ⟨R.val % 512, by omega⟩, Fin.ext (by show 512 * (R.val / 512) + R.val % 512 = R.val; omega)⟩

variable (R : Fin 8192) (k : Fin 1024) (c : Fin 512)

theorem heads_at (t : Fin cfg0.N) (r : Fin 512) : (fun c => yb (iblk m d 0 t) (X0_1 m d t) (iblk m d 5 t) (ix2 r c))
    = heads (m ((d : Thread nD τ).loc main_arg0)) (m ((d : Thread nD τ).loc main_arg1)) (m ((d : Thread nD τ).loc main_arg5))
      ⟨512 * t.val + r.val, row_lt t r⟩ := by
  funext c
  rw [yb_val]
  simp only [o_eq, z_eq, nd_eq]
  rfl

theorem out_at (t : Fin cfg0.N) (r : Fin 512) :
    y (iblk m d 0 t) (X0_1 m d t) (iblk m d 2 t) (iblk m d 5 t) (iblk m d 6 t) (ix2 r k)
    = out (m ((d : Thread nD τ).loc main_arg0)) (m ((d : Thread nD τ).loc main_arg1)) (m ((d : Thread nD τ).loc main_arg2))
      (m ((d : Thread nD τ).loc main_arg5)) (m ((d : Thread nD τ).loc main_arg6)) ⟨512 * t.val + r.val, row_lt t r⟩ k := by
  rw [y_val]
  simp only [o_eq, z_eq, nd_eq, ya_eq, w_eq]
  rfl

/-- The kernel's three result arrays. -/
theorem arr7 : (dats m 0 d).arrAt 7 cfg0.N (ix2 R k)
    = out (m ((d : Thread nD τ).loc main_arg0)) (m ((d : Thread nD τ).loc main_arg1)) (m ((d : Thread nD τ).loc main_arg2))
      (m ((d : Thread nD τ).loc main_arg5)) (m ((d : Thread nD τ).loc main_arg6)) R k := by
  obtain ⟨t, r, rfl⟩ := exists_row R
  refine Eq.trans ?_ ((congrFun ((blocks7 m d t (flush0_7 t)).trans (flushed7 m d t)) (ix2 r k)).trans
    ((congrFun (congrArg (fun o => o.1) (outs m d t)) (ix2 r k)).trans (out_at m d k t r)))
  rw [View.read_apply]
  blk_ext [idx t]

theorem arr8 : (dats m 0 d).arrAt 8 cfg0.N (ix2 R k)
    = added (m ((d : Thread nD τ).loc main_arg0)) (m ((d : Thread nD τ).loc main_arg1)) (m ((d : Thread nD τ).loc main_arg2))
      (m ((d : Thread nD τ).loc main_arg3)) (m ((d : Thread nD τ).loc main_arg4)) (m ((d : Thread nD τ).loc main_arg5))
      (m ((d : Thread nD τ).loc main_arg6)) R k := by
  obtain ⟨t, r, rfl⟩ := exists_row R
  unfold added
  rw [← out_at m d k t r, ← x_eq m d t r k, ← gate_eq m d t k, ← x2_val]
  refine Eq.trans ?_ ((congrFun ((blocks8 m d t (flush0_8 t)).trans (flushed8 m d t)) (ix2 r k)).trans
    (congrFun (congrArg (fun o => o.2.1) (outs m d t)) (ix2 r k)))
  rw [View.read_apply]
  blk_ext [idx t]

theorem arr9 : (dats m 0 d).arrAt 9 cfg0.N (ix2 R c)
    = heads (m ((d : Thread nD τ).loc main_arg0)) (m ((d : Thread nD τ).loc main_arg1)) (m ((d : Thread nD τ).loc main_arg5))
      R c := by
  obtain ⟨t, r, rfl⟩ := exists_row R
  refine Eq.trans ?_ ((congrFun ((blocks9 m d t (flush0_9 t)).trans (flushed9 m d t)) (ix2 r c)).trans
    ((congrFun (congrArg (fun o => o.2.2) (outs m d t)) (ix2 r c)).trans (congrFun (heads_at m d t r) c)))
  rw [View.read_apply]
  blk_ext [idx t]

end Kernel

section Reference

open Cert.Reference14Ideal Cert.Reference14Ideal.Gen Cert.Reference14Ideal.Read

variable (o : Vec Ideal S8192x512 .f32) (p : Vec Ideal S8192x3712 .f32) (ya : Vec Ideal S8192x512 .bf16)
  (x : Vec Ideal S8192x1024 .f32) (mod : Vec Ideal S8x1024 .f32) (sp : Vec Ideal S8x128 .f32) (w : Vec Ideal S1024x1024 .f32)
  (R : Fin 8192) (k : Fin 1024) (c : Fin 512)

theorem ref_heads : val_main_v20 (F := Ideal) o p sp (ix2 R c) = heads o p sp R c := by
  pointwise [val_main_v20, val_main_v19, val_main_v18, val_main_call0_v5, val_main_call0_v4, val_main_call0_cst_0,
    val_main_call0_v3, val_main_call0_v2, val_main_call0_cst, val_main_call0_v1, val_main_call0_v0, val_main_v17,
    val_main_v16, val_main_v15, val_main_v14, val_main_v13, val_main_v12, val_main_v11, val_main_v10, val_main_v9,
    val_main_cst_1, val_main_v8, val_main_v7, val_main_cst_0, val_main_v6, val_main_v5, val_main_cst, val_main_v4,
    val_main_v3, val_main_v2, val_main_v1, val_main_v0]
  have e : c.val / 128 * 128 + c.val % 128 = c.val := by omega
  unfold heads gated part
  simp only [e]
  rfl

theorem ref_out : val_main_v23 (F := Ideal) o p ya sp w (ix2 R k) = out o p ya sp w R k := by
  pointwise [val_main_v23, val_main_v22, val_main_v21]
  simp only [ref_heads]
  rfl

theorem ref_x2 : val_main_v29 (F := Ideal) o p ya x mod sp w (ix2 R k) = added o p ya x mod sp w R k := by
  pointwise [val_main_v29, val_main_v28, val_main_v27, val_main_v26, val_main_v25, val_main_v24]
  rw [ref_out]
  rfl

theorem ref_yb : val_main_v30 (F := Ideal) o p sp (ix2 R c) = heads o p sp R c := by
  pointwise [val_main_v30]
  exact ref_heads o p sp R c

end Reference

/-- On every device the kernel's three results are the reference's. -/
theorem algebraic : Cert.algebraic_Kernel14Ideal_Reference14Ideal := by
  intro m ρ m' ρ' _ hagree
  refine ⟨fun c => (Cert.Kernel14Ideal.Gen.dats m 0 c).arrAt 7 Cert.Kernel14Ideal.cfg0.N,
    fun c => (Cert.Kernel14Ideal.Gen.dats m 0 c).arrAt 8 Cert.Kernel14Ideal.cfg0.N,
    fun c => (Cert.Kernel14Ideal.Gen.dats m 0 c).arrAt 9 Cert.Kernel14Ideal.cfg0.N,
    Cert.Kernel14Ideal.Value.run_blocks m ρ, ?_⟩
  refine (θ_run _ _ _).mono (fun r h c => ?_) (Cert.Reference14Ideal.Value.run m' ρ')
  obtain ⟨e0, e1, e2, e3, e4, e5, e6⟩ := hagree c
  obtain ⟨h0, h1, h2, hargs⟩ := h c
  refine ⟨(h0.trans (Cert.Reference14Ideal.Read.val_main_v23_eq (F := Ideal) _ _ _ _ _)).trans ?_,
    (h1.trans (Cert.Reference14Ideal.Read.val_main_v29_eq (F := Ideal) _ _ _ _ _ _ _)).trans ?_,
    (h2.trans (Cert.Reference14Ideal.Read.val_main_v30_eq (F := Ideal) _ _ _)).trans ?_, hargs⟩
  all_goals simp only [e0, e1, e2, e3, e4, e5, e6]
  · exact ext2 fun R k => (ref_out _ _ _ _ _ R k).trans (arr7 m c R k).symm
  · exact ext2 fun R k => (ref_x2 _ _ _ _ _ _ _ R k).trans (arr8 m c R k).symm
  · exact ext2 fun R l => (ref_yb _ _ _ R l).trans (arr9 m c R l).symm

end TrainStep.Post
-- ==== Proof.lean ====
/-
  The claims: each program and each reference runs and leaves its arguments alone, each idealized kernel keeps its
  kernel's text, and each idealized kernel's results are its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Ffn.Claim
public import proofs.«01_k».proof.Proof.Wgrad.Up
public import proofs.«01_k».proof.Proof.Wgrad.Down
public import proofs.«01_k».proof.Proof.Wgrad.In
public import proofs.«01_k».proof.Proof.Wgrad.Out
public import proofs.«01_k».proof.Proof.Fwd.FirstClaim
public import proofs.«01_k».proof.Proof.Fwd.LastClaim
public import proofs.«01_k».proof.Proof.Adam.AdaW
public import proofs.«01_k».proof.Proof.Adam.WIn
public import proofs.«01_k».proof.Proof.Adam.WOut
public import proofs.«01_k».proof.Proof.Adam.WUp
public import proofs.«01_k».proof.Proof.Adam.WDown
public import proofs.«01_k».proof.Proof.Post.Claim
public import Idealize.ShloMosaic.Adequacy
public import Idealize.ShloMosaic.Init

@[expose] public section

noncomputable section

namespace Cert.Proof

open Idealize.ShloMosaic Idealize.SL.Sem

attribute [local instance] KernelIdeal.Gen.facts ReferenceIdeal.Gen.facts TrainStep.Pre.facts
attribute [local instance] Kernel2Ideal.Gen.facts Reference2Ideal.Gen.facts
attribute [local instance] Kernel3Ideal.Gen.facts Reference3Ideal.Gen.facts
attribute [local instance] Kernel4Ideal.Gen.facts Reference4Ideal.Gen.facts
attribute [local instance] Kernel5Ideal.Gen.facts Reference5Ideal.Gen.facts
attribute [local instance] Kernel6Ideal.Gen.facts Reference6Ideal.Gen.facts
attribute [local instance] Kernel7Ideal.Gen.facts Reference7Ideal.Gen.facts
attribute [local instance] Kernel9Ideal.Gen.facts Reference9Ideal.Gen.facts
attribute [local instance] Kernel10Ideal.Gen.facts Reference10Ideal.Gen.facts
attribute [local instance] Kernel11Ideal.Gen.facts Reference11Ideal.Gen.facts
attribute [local instance] Kernel12Ideal.Gen.facts Reference12Ideal.Gen.facts
attribute [local instance] Kernel13Ideal.Gen.facts Reference13Ideal.Gen.facts
attribute [local instance] Kernel14Ideal.Gen.facts Reference14Ideal.Gen.facts

/-- The reference of the feed-forward block's first half, backward, runs and leaves its arguments alone. -/
theorem reference : Cert.quiescent_ReferenceIdeal := fun m ρ _ =>
  (θ_run _ _ _).mono (fun r h => ⟨fun c => (h c).2.2.2.2.2.2, sem_eq_zero_of_no_sems (by decide) r.2⟩)
    (ReferenceIdeal.Value.run (F := Ideal) m ρ)

/-- The reference of the gradient of `w_up` runs and leaves its arguments alone. -/
theorem reference2 : Cert.quiescent_Reference2Ideal := fun m ρ _ =>
  (θ_run _ _ _).mono (fun r h => ⟨fun c => (h c).2, sem_eq_zero_of_no_sems (by decide) r.2⟩)
    (Reference2Ideal.Value.run (F := Ideal) m ρ)

/-- The reference of the gradient of `w_down` runs and leaves its arguments alone. -/
theorem reference3 : Cert.quiescent_Reference3Ideal := fun m ρ _ =>
  (θ_run _ _ _).mono (fun r h => ⟨fun c => (h c).2, sem_eq_zero_of_no_sems (by decide) r.2⟩)
    (Reference3Ideal.Value.run (F := Ideal) m ρ)

/-- The reference of the gradient of `w_in` runs and leaves its arguments alone. -/
theorem reference4 : Cert.quiescent_Reference4Ideal := fun m ρ _ =>
  (θ_run _ _ _).mono (fun r h => ⟨fun c => (h c).2, sem_eq_zero_of_no_sems (by decide) r.2⟩)
    (Reference4Ideal.Value.run (F := Ideal) m ρ)

/-- The reference of the gradient of `w_out` runs and leaves its arguments alone. -/
theorem reference5 : Cert.quiescent_Reference5Ideal := fun m ρ _ =>
  (θ_run _ _ _).mono (fun r h => ⟨fun c => (h c).2, sem_eq_zero_of_no_sems (by decide) r.2⟩)
    (Reference5Ideal.Value.run (F := Ideal) m ρ)

/-- The reference of the feed-forward block's first half, forward, runs and leaves its arguments alone. -/
theorem reference6 : Cert.quiescent_Reference6Ideal := fun m ρ _ =>
  (θ_run _ _ _).mono (fun r h => ⟨fun c => (h c).2.2.2.2.2.2.2, sem_eq_zero_of_no_sems (by decide) r.2⟩)
    (Reference6Ideal.Value.run (F := Ideal) m ρ)

/-- The reference of the feed-forward block's last half, forward, runs and leaves its arguments alone. -/
theorem reference7 : Cert.quiescent_Reference7Ideal := fun m ρ _ =>
  (θ_run _ _ _).mono (fun r h => ⟨fun c => (h c).2.2.2.2.2.2.2, sem_eq_zero_of_no_sems (by decide) r.2⟩)
    (Reference7Ideal.Value.run (F := Ideal) m ρ)

/-- The reference of the optimiser step of `ada_w` runs and leaves its arguments alone. -/
theorem reference9 : Cert.quiescent_Reference9Ideal := fun m ρ _ =>
  (θ_run _ _ _).mono (fun r h => ⟨fun c => (h c).2.2.2, sem_eq_zero_of_no_sems (by decide) r.2⟩)
    (Reference9Ideal.Value.run (F := Ideal) m ρ)

/-- The reference of the optimiser step of `w_in` runs and leaves its arguments alone. -/
theorem reference10 : Cert.quiescent_Reference10Ideal := fun m ρ _ =>
  (θ_run _ _ _).mono (fun r h => ⟨fun c => (h c).2.2.2, sem_eq_zero_of_no_sems (by decide) r.2⟩)
    (Reference10Ideal.Value.run (F := Ideal) m ρ)

/-- The reference of the optimiser step of `w_out` runs and leaves its arguments alone. -/
theorem reference11 : Cert.quiescent_Reference11Ideal := fun m ρ _ =>
  (θ_run _ _ _).mono (fun r h => ⟨fun c => (h c).2.2.2, sem_eq_zero_of_no_sems (by decide) r.2⟩)
    (Reference11Ideal.Value.run (F := Ideal) m ρ)

/-- The reference of the optimiser step of `w_up` runs and leaves its arguments alone. -/
theorem reference12 : Cert.quiescent_Reference12Ideal := fun m ρ _ =>
  (θ_run _ _ _).mono (fun r h => ⟨fun c => (h c).2.2.2, sem_eq_zero_of_no_sems (by decide) r.2⟩)
    (Reference12Ideal.Value.run (F := Ideal) m ρ)

/-- The reference of the optimiser step of `w_down` runs and leaves its arguments alone. -/
theorem reference13 : Cert.quiescent_Reference13Ideal := fun m ρ _ =>
  (θ_run _ _ _).mono (fun r h => ⟨fun c => (h c).2.2.2, sem_eq_zero_of_no_sems (by decide) r.2⟩)
    (Reference13Ideal.Value.run (F := Ideal) m ρ)

/-- The reference of the output projection runs and leaves its arguments alone. -/
theorem reference14 : Cert.quiescent_Reference14Ideal := fun m ρ _ =>
  (θ_run _ _ _).mono (fun r h => ⟨fun c => (h c).2.2.2, sem_eq_zero_of_no_sems (by decide) r.2⟩)
    (Reference14Ideal.Value.run (F := Ideal) m ρ)

theorem claim : Cert.Claim :=
  ⟨Kernel.Gen.facts, KernelIdeal.Gen.facts, ReferenceIdeal.Gen.facts, Kernel2.Gen.facts, Kernel2Ideal.Gen.facts,
    Reference2Ideal.Gen.facts, Kernel3.Gen.facts, Kernel3Ideal.Gen.facts, Reference3Ideal.Gen.facts,
    Kernel4.Gen.facts, Kernel4Ideal.Gen.facts, Reference4Ideal.Gen.facts, Kernel5.Gen.facts, Kernel5Ideal.Gen.facts,
    Reference5Ideal.Gen.facts, Kernel6.Gen.facts, Kernel6Ideal.Gen.facts, Reference6Ideal.Gen.facts,
    Kernel7.Gen.facts, Kernel7Ideal.Gen.facts, Reference7Ideal.Gen.facts, Kernel9.Gen.facts, Kernel9Ideal.Gen.facts,
    Reference9Ideal.Gen.facts, Kernel10.Gen.facts, Kernel10Ideal.Gen.facts, Reference10Ideal.Gen.facts,
    Kernel11.Gen.facts, Kernel11Ideal.Gen.facts, Reference11Ideal.Gen.facts, Kernel12.Gen.facts,
    Kernel12Ideal.Gen.facts, Reference12Ideal.Gen.facts, Kernel13.Gen.facts, Kernel13Ideal.Gen.facts,
    Reference13Ideal.Gen.facts, Kernel14.Gen.facts, Kernel14Ideal.Gen.facts, Reference14Ideal.Gen.facts,
    TrainStep.Pre.facts,
    fun m ρ _ => Kernel.Gen.frame m ρ, fun m ρ _ => KernelIdeal.Gen.frame m ρ,
    fun m ρ _ => KernelIdeal.Gen.frame m ρ, reference, fun m ρ _ => reference m ρ trivial,
    fun m ρ _ => Kernel2.Gen.frame m ρ, fun m ρ _ => Kernel2Ideal.Gen.frame m ρ, reference2,
    fun m ρ _ => Kernel3.Gen.frame m ρ, fun m ρ _ => Kernel3Ideal.Gen.frame m ρ, reference3,
    fun m ρ _ => Kernel4.Gen.frame m ρ, fun m ρ _ => Kernel4Ideal.Gen.frame m ρ, reference4,
    fun m ρ _ => Kernel5.Gen.frame m ρ, fun m ρ _ => Kernel5Ideal.Gen.frame m ρ, reference5,
    fun m ρ _ => Kernel6.Gen.frame m ρ, fun m ρ _ => Kernel6Ideal.Gen.frame m ρ, reference6,
    fun m ρ _ => Kernel7.Gen.frame m ρ, fun m ρ _ => Kernel7Ideal.Gen.frame m ρ, reference7,
    fun m ρ _ => Kernel9.Gen.frame m ρ, fun m ρ _ => Kernel9Ideal.Gen.frame m ρ, reference9,
    fun m ρ _ => Kernel10.Gen.frame m ρ, fun m ρ _ => Kernel10Ideal.Gen.frame m ρ, reference10,
    fun m ρ _ => Kernel11.Gen.frame m ρ, fun m ρ _ => Kernel11Ideal.Gen.frame m ρ, reference11,
    fun m ρ _ => Kernel12.Gen.frame m ρ, fun m ρ _ => Kernel12Ideal.Gen.frame m ρ, reference12,
    fun m ρ _ => Kernel13.Gen.frame m ρ, fun m ρ _ => Kernel13Ideal.Gen.frame m ρ, reference13,
    fun m ρ _ => Kernel14.Gen.frame m ρ, fun m ρ _ => Kernel14Ideal.Gen.frame m ρ, reference14,
    trivial, TrainStep.algebraic, trivial, TrainStep.Up.algebraic, trivial, TrainStep.Down.algebraic, trivial,
    TrainStep.In.algebraic, trivial, TrainStep.Out.algebraic, trivial, TrainStep.FwdFirst.algebraic, trivial,
    TrainStep.FwdLast.algebraic, trivial, TrainStep.AdaW.algebraic, trivial, TrainStep.WIn.algebraic, trivial,
    TrainStep.WOut.algebraic, trivial, TrainStep.WUp.algebraic, trivial, TrainStep.WDown.algebraic, trivial,
    TrainStep.Post.algebraic⟩

end Cert.Proof

end
